-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_KernelIdeal_indices_in_range_and_finite [hPre_indices_in_range_and_finite : Cert.Pre_indices_in_range_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range_and_finite [hPre_indices_in_range_and_finite : Cert.Pre_indices_in_range_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_indices_in_range_and_finite [hKernelIdeal : Cert.KernelIdeal.Facts] [hPre_indices_in_range_and_finite : Cert.Pre_indices_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_in_range_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_indices_in_range_and_finite [hReferenceIdeal : Cert.ReferenceIdeal.Facts] [hPre_indices_in_range_and_finite : Cert.Pre_indices_in_range_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "big" .f32 0x7149F2CA#32 ⊤

def algebraic_KernelIdeal_ReferenceIdeal_pre_indices_in_range_and_finite [hKernelIdeal : Cert.KernelIdeal.Facts] [hReferenceIdeal : Cert.ReferenceIdeal.Facts] [hPre_indices_in_range_and_finite : Cert.Pre_indices_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_in_range_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v121)) (v1 : (c : Dev Cert.KernelIdeal.nD) → Buf (Elt Ideal) ((c.tc : Thread Cert.KernelIdeal.nD Cert.KernelIdeal.τ).loc Cert.KernelIdeal.main_v125)) (v2 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v121) = v0 c
          ∧ r.2.mem ((c.tc : Thread Cert.KernelIdeal.nD Cert.KernelIdeal.τ).loc Cert.KernelIdeal.main_v125) = v1 c
          ∧ r.2.mem ((c.tc : Thread Cert.KernelIdeal.nD Cert.KernelIdeal.τ).loc Cert.KernelIdeal.main_v117) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_labels_in_range : Cert.Pre_labels_in_range.Facts) (hPre_indices_in_range_and_finite : Cert.Pre_indices_in_range_and_finite.Facts),
    quiescent_Kernel (hKernel := hKernel) (hPre_labels_in_range := hPre_labels_in_range)
    ∧ quiescent_KernelIdeal (hKernelIdeal := hKernelIdeal) (hPre_labels_in_range := hPre_labels_in_range)
    ∧ quiescent_KernelIdeal_pre_indices_in_range_and_finite (hKernelIdeal := hKernelIdeal) (hPre_indices_in_range_and_finite := hPre_indices_in_range_and_finite)
    ∧ quiescent_ReferenceIdeal (hReferenceIdeal := hReferenceIdeal)
    ∧ quiescent_ReferenceIdeal_pre_indices_in_range_and_finite (hReferenceIdeal := hReferenceIdeal) (hPre_indices_in_range_and_finite := hPre_indices_in_range_and_finite)
    ∧ preserves_Kernel_KernelIdeal
    ∧ algebraic_KernelIdeal_ReferenceIdeal_pre_indices_in_range_and_finite (hKernelIdeal := hKernelIdeal) (hReferenceIdeal := hReferenceIdeal) (hPre_indices_in_range_and_finite := hPre_indices_in_range_and_finite)
-- ==== Pre_indices_in_range_and_finite.lean ====
abbrev S4096x32 : Shape := ⟨2, ![4096, 32]⟩
abbrev S16384x32 : Shape := ⟨2, ![16384, 32]⟩
abbrev S16384x2 : Shape := ⟨2, ![16384, 2]⟩
abbrev S16384 : Shape := ⟨1, ![16384]⟩
abbrev S32x32 : Shape := ⟨2, ![32, 32]⟩
abbrev S32x16 : Shape := ⟨2, ![32, 16]⟩
abbrev S16x16 : Shape := ⟨2, ![16, 16]⟩
abbrev S16x1 : Shape := ⟨2, ![16, 1]⟩
abbrev S1 : Shape := ⟨1, ![1]⟩
abbrev S16384x1 : Shape := ⟨2, ![16384, 1]⟩
abbrev S_ : Shape := ⟨0, ![]⟩

class Facts : Prop where
  slices_S16384x2_S16384x1_0_0 : S16384x2.Slices ![0, 0] S16384x1
  shapeCasts_S16384x1_S16384 : S16384x1.ShapeCasts S16384
  slices_S16384x2_S16384x1_0_1 : S16384x2.Slices ![0, 1] S16384x1
  bcast_S_S16384 : S_.BroadcastsInDim S16384 (![] : Fin 0 → Fin S16384.rank)
  reducesTo_S16384_S_d0 : S16384.ReducesTo [0] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S16384x32 : S_.BroadcastsInDim S16384x32 (![] : Fin 0 → Fin S16384x32.rank)
  reducesTo_S16384x32_S_d0_1 : S16384x32.ReducesTo [0, 1] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_
  bcast_S_S16x16 : S_.BroadcastsInDim S16x16 (![] : Fin 0 → Fin S16x16.rank)
  reducesTo_S16x16_S_d0_1 : S16x16.ReducesTo [0, 1] S_

variable [Facts]

def fn_part3 {F : FTy → Type} [FloatOps F] (main_arg8 : FVec F S32x16 .f32) (main_arg9 : FVec F S16x16 .f32) (main_arg10 : FVec F S16x16 .f32) (main_v48 : IVec S_ 1) (main_v51 : IVec S32x16 1) : IVec S_ 1 :=
  let main_c_18 : IVec S_ 1 := constantI S_ 1 1#1
  let main_v52 : IVec S_ 1 := (fun x v => Host.reduce IntOp.andi x v reducesTo_S32x16_S_d0_1 h_S_) main_v51 main_c_18
  let main_v53 : IVec S_ 1 := andi main_v48 main_v52
  let main_v54 : FVec F S32x16 .f32 := Host.absf main_arg8
  let main_cst_19 : FVec F S_ .f32 := constant S_ .f32 0x7F800000#32
  let main_v55 : FVec F S32x16 .f32 := broadcastInDim S32x16 ![] bcast_S_S32x16 main_cst_19
  let main_v56 : IVec S32x16 1 := cmpf .olt main_v54 main_v55
  let main_c_20 : IVec S_ 1 := constantI S_ 1 1#1
  let main_v57 : IVec S_ 1 := (fun x v => Host.reduce IntOp.andi x v reducesTo_S32x16_S_d0_1 h_S_) main_v56 main_c_20
  let main_v58 : IVec S_ 1 := andi main_v53 main_v57
  let main_v59 : FVec F S16x16 .f32 := Host.absf main_arg9
  let main_cst_21 : FVec F S_ .f32 := constant S_ .f32 0x7F800000#32
  let main_v60 : FVec F S16x16 .f32 := broadcastInDim S16x16 ![] bcast_S_S16x16 main_cst_21
  let main_v61 : IVec S16x16 1 := cmpf .olt main_v59 main_v60
  let main_c_22 : IVec S_ 1 := constantI S_ 1 1#1
  let main_v62 : IVec S_ 1 := (fun x v => Host.reduce IntOp.andi x v reducesTo_S16x16_S_d0_1 h_S_) main_v61 main_c_22
  let main_v63 : IVec S_ 1 := andi main_v58 main_v62
  let main_v64 : FVec F S16x16 .f32 := Host.absf main_arg10
  let main_cst_23 : FVec F S_ .f32 := constant S_ .f32 0x7F800000#32
  let main_v65 : FVec F S16x16 .f32 := broadcastInDim S16x16 ![] bcast_S_S16x16 main_cst_23
  let main_v66 : IVec S16x16 1 := cmpf .olt main_v64 main_v65
  let main_c_24 : IVec S_ 1 := constantI S_ 1 1#1
  let main_v67 : IVec S_ 1 := (fun x v => Host.reduce IntOp.andi x v reducesTo_S16x16_S_d0_1 h_S_) main_v66 main_c_24
  let main_v68 : IVec S_ 1 := andi main_v63 main_v67
  main_v68

def fn_part2 {F : FTy → Type} [FloatOps F] (main_arg5 : FVec F S32x16 .f32) (main_arg6 : FVec F S32x16 .f32) (main_arg7 : FVec F S32x16 .f32) (main_arg8 : FVec F S32x16 .f32) (main_arg9 : FVec F S16x16 .f32) (main_arg10 : FVec F S16x16 .f32) (main_v33 : IVec S_ 1) (main_v34 : FVec F S32x32 .f32) : IVec S_ 1 :=
  let main_cst_11 : FVec F S_ .f32 := constant S_ .f32 0x7F800000#32
  let main_v35 : FVec F S32x32 .f32 := broadcastInDim S32x32 ![] bcast_S_S32x32 main_cst_11
  let main_v36 : IVec S32x32 1 := cmpf .olt main_v34 main_v35
  let main_c_12 : IVec S_ 1 := constantI S_ 1 1#1
  let main_v37 : IVec S_ 1 := (fun x v => Host.reduce IntOp.andi x v reducesTo_S32x32_S_d0_1 h_S_) main_v36 main_c_12
  let main_v38 : IVec S_ 1 := andi main_v33 main_v37
  let main_v39 : FVec F S32x16 .f32 := Host.absf main_arg5
  let main_cst_13 : FVec F S_ .f32 := constant S_ .f32 0x7F800000#32
  let main_v40 : FVec F S32x16 .f32 := broadcastInDim S32x16 ![] bcast_S_S32x16 main_cst_13
  let main_v41 : IVec S32x16 1 := cmpf .olt main_v39 main_v40
  let main_c_14 : IVec S_ 1 := constantI S_ 1 1#1
  let main_v42 : IVec S_ 1 := (fun x v => Host.reduce IntOp.andi x v reducesTo_S32x16_S_d0_1 h_S_) main_v41 main_c_14
  let main_v43 : IVec S_ 1 := andi main_v38 main_v42
  let main_v44 : FVec F S32x16 .f32 := Host.absf main_arg6
  let main_cst_15 : FVec F S_ .f32 := constant S_ .f32 0x7F800000#32
  let main_v45 : FVec F S32x16 .f32 := broadcastInDim S32x16 ![] bcast_S_S32x16 main_cst_15
  let main_v46 : IVec S32x16 1 := cmpf .olt main_v44 main_v45
  let main_c_16 : IVec S_ 1 := constantI S_ 1 1#1
  let main_v47 : IVec S_ 1 := (fun x v => Host.reduce IntOp.andi x v reducesTo_S32x16_S_d0_1 h_S_) main_v46 main_c_16
  let main_v48 : IVec S_ 1 := andi main_v43 main_v47
  let main_v49 : FVec F S32x16 .f32 := Host.absf main_arg7
  let main_cst_17 : FVec F S_ .f32 := constant S_ .f32 0x7F800000#32
  let main_v50 : FVec F S32x16 .f32 := broadcastInDim S32x16 ![] bcast_S_S32x16 main_cst_17
  let main_v51 : IVec S32x16 1 := cmpf .olt main_v49 main_v50
  fn_part3 (F := F) main_arg8 main_arg9 main_arg10 main_v48 main_v51

def fn_part1 {F : FTy → Type} [FloatOps F] (main_arg0 : FVec F S4096x32 .f32) (main_arg1 : FVec F S16384x32 .f32) (main_arg4 : FVec F S32x32 .f32) (main_arg5 : FVec F S32x16 .f32) (main_arg6 : FVec F S32x16 .f32) (main_arg7 : FVec F S32x16 .f32) (main_arg8 : FVec F S32x16 .f32) (main_arg9 : FVec F S16x16 .f32) (main_arg10 : FVec F S16x16 .f32) (main_v3 : IVec S16384 32) (main_v16 : IVec S_ 1) (main_c_5 : IVec S_ 32) : IVec S_ 1 :=
  let main_v17 : IVec S16384 32 := broadcastInDim S16384 ![] bcast_S_S16384 main_c_5
  let main_v18 : IVec S16384 1 := cmpi .sge main_v3 main_v17
  let main_c_6 : IVec S_ 32 := constantI S_ 32 16384#32
  let main_v19 : IVec S16384 32 := broadcastInDim S16384 ![] bcast_S_S16384 main_c_6
  let main_v20 : IVec S16384 1 := cmpi .slt main_v3 main_v19
  let main_v21 : IVec S16384 1 := andi main_v18 main_v20
  let main_c_7 : IVec S_ 1 := constantI S_ 1 1#1
  let main_v22 : IVec S_ 1 := (fun x v => Host.reduce IntOp.andi x v reducesTo_S16384_S_d0 h_S_) main_v21 main_c_7
  let main_v23 : IVec S_ 1 := andi main_v16 main_v22
  let main_v24 : FVec F S4096x32 .f32 := Host.absf main_arg0
  let main_cst : FVec F S_ .f32 := constant S_ .f32 0x7F800000#32
  let main_v25 : FVec F S4096x32 .f32 := broadcastInDim S4096x32 ![] bcast_S_S4096x32 main_cst
  let main_v26 : IVec S4096x32 1 := cmpf .olt main_v24 main_v25
  let main_c_8 : IVec S_ 1 := constantI S_ 1 1#1
  let main_v27 : IVec S_ 1 := (fun x v => Host.reduce IntOp.andi x v reducesTo_S4096x32_S_d0_1 h_S_) main_v26 main_c_8
  let main_v28 : IVec S_ 1 := andi main_v23 main_v27
  let main_v29 : FVec F S16384x32 .f32 := Host.absf main_arg1
  let main_cst_9 : FVec F S_ .f32 := constant S_ .f32 0x7F800000#32
  let main_v30 : FVec F S16384x32 .f32 := broadcastInDim S16384x32 ![] bcast_S_S16384x32 main_cst_9
  let main_v31 : IVec S16384x32 1 := cmpf .olt main_v29 main_v30
  let main_c_10 : IVec S_ 1 := constantI S_ 1 1#1
  let main_v32 : IVec S_ 1 := (fun x v => Host.reduce IntOp.andi x v reducesTo_S16384x32_S_d0_1 h_S_) main_v31 main_c_10
  let main_v33 : IVec S_ 1 := andi main_v28 main_v32
  let main_v34 : FVec F S32x32 .f32 := Host.absf main_arg4
  fn_part2 (F := F) main_arg5 main_arg6 main_arg7 main_arg8 main_arg9 main_arg10 main_v33 main_v34

def fn {F : FTy → Type} [FloatOps F] (main_arg0 : FVec F S4096x32 .f32) (main_arg1 : FVec F S16384x32 .f32) (main_arg2 : IVec S16384x2 32) (main_arg3 : IVec S16384 32) (main_arg4 : FVec F S32x32 .f32) (main_arg5 : FVec F S32x16 .f32) (main_arg6 : FVec F S32x16 .f32) (main_arg7 : FVec F S32x16 .f32) (main_arg8 : FVec F S32x16 .f32) (main_arg9 : FVec F S16x16 .f32) (main_arg10 : FVec F S16x16 .f32) (main_arg11 : FVec F S16x1 .f32) (main_arg12 : FVec F S1 .f32) : IVec S_ 1 :=
  let main_v0 : IVec S16384x1 32 := (extractStridedSlice S16384x1 ![0, 0] · slices_S16384x2_S16384x1_0_0) main_arg2
  let main_v1 : IVec S16384 32 := shapeCast S16384 main_v0 shapeCasts_S16384x1_S16384
  let main_v2 : IVec S16384x1 32 := (extractStridedSlice S16384x1 ![0, 1] · slices_S16384x2_S16384x1_0_1) main_arg2
  let main_v3 : IVec S16384 32 := shapeCast S16384 main_v2 shapeCasts_S16384x1_S16384
  let main_c : IVec S_ 32 := constantI S_ 32 0#32
  let main_v4 : IVec S16384 32 := broadcastInDim S16384 ![] bcast_S_S16384 main_c
  let main_v5 : IVec S16384 1 := cmpi .sge main_arg3 main_v4
  let main_c_0 : IVec S_ 32 := constantI S_ 32 32#32
  let main_v6 : IVec S16384 32 := broadcastInDim S16384 ![] bcast_S_S16384 main_c_0
  let main_v7 : IVec S16384 1 := cmpi .slt main_arg3 main_v6
  let main_v8 : IVec S16384 1 := andi main_v5 main_v7
  let main_c_1 : IVec S_ 1 := constantI S_ 1 1#1
  let main_v9 : IVec S_ 1 := (fun x v => Host.reduce IntOp.andi x v reducesTo_S16384_S_d0 h_S_) main_v8 main_c_1
  let main_c_2 : IVec S_ 32 := constantI S_ 32 0#32
  let main_v10 : IVec S16384 32 := broadcastInDim S16384 ![] bcast_S_S16384 main_c_2
  let main_v11 : IVec S16384 1 := cmpi .sge main_v1 main_v10
  let main_c_3 : IVec S_ 32 := constantI S_ 32 4096#32
  let main_v12 : IVec S16384 32 := broadcastInDim S16384 ![] bcast_S_S16384 main_c_3
  let main_v13 : IVec S16384 1 := cmpi .slt main_v1 main_v12
  let main_v14 : IVec S16384 1 := andi main_v11 main_v13
  let main_c_4 : IVec S_ 1 := constantI S_ 1 1#1
  let main_v15 : IVec S_ 1 := (fun x v => Host.reduce IntOp.andi x v reducesTo_S16384_S_d0 h_S_) main_v14 main_c_4
  let main_v16 : IVec S_ 1 := andi main_v9 main_v15
  let main_c_5 : IVec S_ 32 := constantI S_ 32 0#32
  fn_part1 (F := F) main_arg0 main_arg1 main_arg4 main_arg5 main_arg6 main_arg7 main_arg8 main_arg9 main_arg10 main_v3 main_v16 main_c_5
-- ==== Pre_labels_in_range.lean ====
abbrev S4096x32 : Shape := ⟨2, ![4096, 32]⟩
abbrev S16384x32 : Shape := ⟨2, ![16384, 32]⟩
abbrev S16384x2 : Shape := ⟨2, ![16384, 2]⟩
abbrev S16384 : Shape := ⟨1, ![16384]⟩
abbrev S32x32 : Shape := ⟨2, ![32, 32]⟩
abbrev S32x16 : Shape := ⟨2, ![32, 16]⟩
abbrev S16x16 : Shape := ⟨2, ![16, 16]⟩
abbrev S16x1 : Shape := ⟨2, ![16, 1]⟩
abbrev S1 : Shape := ⟨1, ![1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S4096x32 .f32) (main_arg1 : FVec F S16384x32 .f32) (main_arg2 : IVec S16384x2 32) (main_arg3 : IVec S16384 32) (main_arg4 : FVec F S32x32 .f32) (main_arg5 : FVec F S32x16 .f32) (main_arg6 : FVec F S32x16 .f32) (main_arg7 : FVec F S32x16 .f32) (main_arg8 : FVec F S32x16 .f32) (main_arg9 : FVec F S16x16 .f32) (main_arg10 : FVec F S16x16 .f32) (main_arg11 : FVec F S16x1 .f32) (main_arg12 : FVec F S1 .f32) : IVec S_ 1 :=
  let main_c : IVec S_ 32 := constantI S_ 32 0#32
  let main_v0 : IVec S16384 32 := broadcastInDim S16384 ![] bcast_S_S16384 main_c
  let main_v1 : IVec S16384 1 := cmpi .sge main_arg3 main_v0
  let main_c_0 : IVec S_ 32 := constantI S_ 32 32#32
  let main_v2 : IVec S16384 32 := broadcastInDim S16384 ![] bcast_S_S16384 main_c_0
  let main_v3 : IVec S16384 1 := cmpi .slt main_arg3 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S4096x32 : Shape := ⟨2, ![4096, 32]⟩
abbrev S16384x32 : Shape := ⟨2, ![16384, 32]⟩
abbrev S16384x2 : Shape := ⟨2, ![16384, 2]⟩
abbrev S16384 : Shape := ⟨1, ![16384]⟩
abbrev S32x32 : Shape := ⟨2, ![32, 32]⟩
abbrev S32x16 : Shape := ⟨2, ![32, 16]⟩
abbrev S16x16 : Shape := ⟨2, ![16, 16]⟩
abbrev S16x1 : Shape := ⟨2, ![16, 1]⟩
abbrev S1 : Shape := ⟨1, ![1]⟩
abbrev S16384x1 : Shape := ⟨2, ![16384, 1]⟩
abbrev S_ : Shape := ⟨0, ![]⟩
abbrev S1x1 : Shape := ⟨2, ![1, 1]⟩
abbrev S16384x33 : Shape := ⟨2, ![16384, 33]⟩
abbrev S4096x33 : Shape := ⟨2, ![4096, 33]⟩
abbrev S4096x1 : Shape := ⟨2, ![4096, 1]⟩
abbrev S32 : Shape := ⟨1, ![32]⟩
abbrev S1x32 : Shape := ⟨2, ![1, 32]⟩
abbrev S32x16384 : Shape := ⟨2, ![32, 16384]⟩
abbrev S16 : Shape := ⟨1, ![16]⟩
abbrev S16x8 : Shape := ⟨2, ![16, 8]⟩
abbrev S16384x16 : Shape := ⟨2, ![16384, 16]⟩
abbrev S16384x8 : Shape := ⟨2, ![16384, 8]⟩
abbrev S1024x32 : Shape := ⟨2, ![1024, 32]⟩
abbrev S1024x16 : Shape := ⟨2, ![1024, 16]⟩
abbrev S1024x8 : Shape := ⟨2, ![1024, 8]⟩
abbrev S4096x16 : Shape := ⟨2, ![4096, 16]⟩
abbrev S4096x8 : Shape := ⟨2, ![4096, 8]⟩
abbrev S32x1024 : Shape := ⟨2, ![32, 1024]⟩
abbrev S1024x1024 : Shape := ⟨2, ![1024, 1024]⟩
abbrev S1x16 : Shape := ⟨2, ![1, 16]⟩
abbrev S1x1024 : Shape := ⟨2, ![1, 1024]⟩
abbrev S1024 : Shape := ⟨1, ![1024]⟩
abbrev S1024x1 : Shape := ⟨2, ![1024, 1]⟩
abbrev S4096 : Shape := ⟨1, ![4096]⟩
abbrev S16384x17 : Shape := ⟨2, ![16384, 17]⟩
abbrev S16384x18 : Shape := ⟨2, ![16384, 18]⟩
abbrev S4096x17 : Shape := ⟨2, ![4096, 17]⟩
abbrev S4096x3 : Shape := ⟨2, ![4096, 3]⟩
abbrev S16384x3 : Shape := ⟨2, ![16384, 3]⟩

abbrev nBuf : Space → Nat
  | .hbm => 309
  | .vmem => 33
  | .smem => 2
  | _ => 0

abbrev hbmTy0_0 (i : Nat) : BufTy := match i % 128 with
  | 0 => ⟨S4096x32, .f32⟩
  | 1 => ⟨S16384x32, .f32⟩
  | 2 => ⟨S16384x2, .i32⟩
  | 3 => ⟨S16384, .i32⟩
  | 4 => ⟨S32x32, .f32⟩
  | 5 => ⟨S32x16, .f32⟩
  | 6 => ⟨S32x16, .f32⟩
  | 7 => ⟨S32x16, .f32⟩
  | 8 => ⟨S32x16, .f32⟩
  | 9 => ⟨S16x16, .f32⟩
  | 10 => ⟨S16x16, .f32⟩
  | 11 => ⟨S16x1, .f32⟩
  | 12 => ⟨S1, .f32⟩
  | 13 => ⟨S16384x1, .i32⟩
  | 14 => ⟨S16384, .i32⟩
  | 15 => ⟨S16384x1, .i32⟩
  | 16 => ⟨S16384, .i32⟩
  | 17 => ⟨S_, .i32⟩
  | 18 => ⟨S16384, .i32⟩
  | 19 => ⟨S16384, .i1⟩
  | 20 => ⟨S_, .i32⟩
  | 21 => ⟨S16384, .i32⟩
  | 22 => ⟨S16384, .i32⟩
  | 23 => ⟨S16384, .i32⟩
  | 24 => ⟨S16384x1, .i32⟩
  | 25 => ⟨S1, .i32⟩
  | 26 => ⟨S_, .i32⟩
  | 27 => ⟨S16384x1, .i32⟩
  | 28 => ⟨S16384x1, .i1⟩
  | 29 => ⟨S1x1, .i32⟩
  | 30 => ⟨S16384x1, .i32⟩
  | 31 => ⟨S16384x1, .i1⟩
  | 32 => ⟨S16384x1, .i1⟩
  | 33 => ⟨S_, .i1⟩
  | 34 => ⟨S16384, .i1⟩
  | 35 => ⟨S16384x32, .f32⟩
  | 36 => ⟨S16384x32, .i1⟩
  | 37 => ⟨S_, .f32⟩
  | 38 => ⟨S16384x32, .f32⟩
  | 39 => ⟨S16384x32, .f32⟩
  | 40 => ⟨S_, .f32⟩
  | 41 => ⟨S16384x1, .f32⟩
  | 42 => ⟨S16384x33, .f32⟩
  | 43 => ⟨S_, .f32⟩
  | 44 => ⟨S4096x33, .f32⟩
  | 45 => ⟨S16384x1, .i32⟩
  | 46 => ⟨S4096x33, .f32⟩
  | 47 => ⟨S4096x32, .f32⟩
  | 48 => ⟨S4096x1, .f32⟩
  | 49 => ⟨S_, .f32⟩
  | 50 => ⟨S4096x1, .f32⟩
  | 51 => ⟨S4096x1, .f32⟩
  | 52 => ⟨S4096x32, .f32⟩
  | 53 => ⟨S4096x32, .f32⟩
  | 54 => ⟨S16384, .f32⟩
  | 55 => ⟨S16384, .i32⟩
  | 56 => ⟨S16384, .i32⟩
  | 57 => ⟨S16384, .i32⟩
  | 58 => ⟨S_, .i32⟩
  | 59 => ⟨S16384, .i32⟩
  | 60 => ⟨S16384, .i32⟩
  | 61 => ⟨S_, .i32⟩
  | 62 => ⟨S16384, .i32⟩
  | 63 => ⟨S16384, .i1⟩
  | 64 => ⟨S_, .i32⟩
  | 65 => ⟨S16384, .i32⟩
  | 66 => ⟨S16384, .i32⟩
  | 67 => ⟨S16384, .i32⟩
  | 68 => ⟨S16384x1, .i32⟩
  | 69 => ⟨S16384, .i32⟩
  | 70 => ⟨S16384x1, .f32⟩
  | 71 => ⟨S16384x33, .f32⟩
  | 72 => ⟨S_, .i32⟩
  | 73 => ⟨S16384, .i32⟩
  | 74 => ⟨S16384, .i1⟩
  | 75 => ⟨S_, .i32⟩
  | 76 => ⟨S16384, .i32⟩
  | 77 => ⟨S16384, .i32⟩
  | 78 => ⟨S16384, .i32⟩
  | 79 => ⟨S16384x1, .i32⟩
  | 80 => ⟨S1, .i32⟩
  | 81 => ⟨S_, .i32⟩
  | 82 => ⟨S16384x1, .i32⟩
  | 83 => ⟨S16384x1, .i1⟩
  | 84 => ⟨S1x1, .i32⟩
  | 85 => ⟨S16384x1, .i32⟩
  | 86 => ⟨S16384x1, .i1⟩
  | 87 => ⟨S16384x1, .i1⟩
  | 88 => ⟨S_, .i1⟩
  | 89 => ⟨S16384, .i1⟩
  | 90 => ⟨S16384x33, .f32⟩
  | 91 => ⟨S16384x33, .i1⟩
  | 92 => ⟨S_, .f32⟩
  | 93 => ⟨S16384x33, .f32⟩
  | 94 => ⟨S16384x33, .f32⟩
  | 95 => ⟨S16384x32, .f32⟩
  | 96 => ⟨S16384x1, .f32⟩
  | 97 => ⟨S16384, .f32⟩
  | 98 => ⟨S16384, .i32⟩
  | 99 => ⟨S16384x1, .i32⟩
  | 100 => ⟨S32, .i32⟩
  | 101 => ⟨S1x32, .i32⟩
  | 102 => ⟨S16384x32, .i32⟩
  | 103 => ⟨S16384x32, .i32⟩
  | 104 => ⟨S16384x32, .i1⟩
  | 105 => ⟨S16384x32, .f32⟩
  | 106 => ⟨S32x16384, .f32⟩
  | 107 => ⟨S16, .i32⟩
  | 108 => ⟨S16, .i32⟩
  | 109 => ⟨S_, .i32⟩
  | 110 => ⟨S_, .f32⟩
  | 111 => ⟨S16x8, .f32⟩
  | 112 => ⟨S16384x16, .f32⟩
  | 113 => ⟨S16384x8, .f32⟩
  | 114 => ⟨S4096x16, .f32⟩
  | 115 => ⟨S4096x8, .f32⟩
  | 116 => ⟨S4096x32, .f32⟩
  | 117 => ⟨S4096x16, .f32⟩
  | 118 => ⟨S_, .f32⟩
  | 119 => ⟨S4096, .f32⟩
  | 120 => ⟨S16384x1, .f32⟩
  | 121 => ⟨S16384x17, .f32⟩
  | 122 => ⟨S_, .i32⟩
  | 123 => ⟨S16384, .i32⟩
  | 124 => ⟨S16384, .i1⟩
  | 125 => ⟨S_, .i32⟩
  | 126 => ⟨S16384, .i32⟩
  | 127 => ⟨S16384, .i32⟩
  | _ => ⟨S4096x32, .f32⟩

abbrev hbmTy0_1 (i : Nat) : BufTy := match i % 128 with
  | 0 => ⟨S16384, .i32⟩
  | 1 => ⟨S16384x1, .i32⟩
  | 2 => ⟨S1, .i32⟩
  | 3 => ⟨S_, .i32⟩
  | 4 => ⟨S16384x1, .i32⟩
  | 5 => ⟨S16384x1, .i1⟩
  | 6 => ⟨S1x1, .i32⟩
  | 7 => ⟨S16384x1, .i32⟩
  | 8 => ⟨S16384x1, .i1⟩
  | 9 => ⟨S16384x1, .i1⟩
  | 10 => ⟨S_, .i1⟩
  | 11 => ⟨S16384, .i1⟩
  | 12 => ⟨S16384x17, .f32⟩
  | 13 => ⟨S16384x17, .i1⟩
  | 14 => ⟨S_, .f32⟩
  | 15 => ⟨S16384x17, .f32⟩
  | 16 => ⟨S16384x17, .f32⟩
  | 17 => ⟨S16384x16, .f32⟩
  | 18 => ⟨S16384x16, .f32⟩
  | 19 => ⟨S_, .f32⟩
  | 20 => ⟨S16384, .f32⟩
  | 21 => ⟨S16384x1, .f32⟩
  | 22 => ⟨S16384x1, .f32⟩
  | 23 => ⟨S16384x18, .f32⟩
  | 24 => ⟨S_, .i32⟩
  | 25 => ⟨S16384, .i32⟩
  | 26 => ⟨S16384, .i1⟩
  | 27 => ⟨S_, .i32⟩
  | 28 => ⟨S16384, .i32⟩
  | 29 => ⟨S16384, .i32⟩
  | 30 => ⟨S16384, .i32⟩
  | 31 => ⟨S16384x1, .i32⟩
  | 32 => ⟨S1, .i32⟩
  | 33 => ⟨S_, .i32⟩
  | 34 => ⟨S16384x1, .i32⟩
  | 35 => ⟨S16384x1, .i1⟩
  | 36 => ⟨S1x1, .i32⟩
  | 37 => ⟨S16384x1, .i32⟩
  | 38 => ⟨S16384x1, .i1⟩
  | 39 => ⟨S16384x1, .i1⟩
  | 40 => ⟨S_, .i1⟩
  | 41 => ⟨S16384, .i1⟩
  | 42 => ⟨S16384x18, .f32⟩
  | 43 => ⟨S16384x18, .i1⟩
  | 44 => ⟨S_, .f32⟩
  | 45 => ⟨S16384x18, .f32⟩
  | 46 => ⟨S16384x18, .f32⟩
  | 47 => ⟨S4096x1, .f32⟩
  | 48 => ⟨S4096x17, .f32⟩
  | 49 => ⟨S_, .i32⟩
  | 50 => ⟨S16384, .i32⟩
  | 51 => ⟨S16384, .i1⟩
  | 52 => ⟨S_, .i32⟩
  | 53 => ⟨S16384, .i32⟩
  | 54 => ⟨S16384, .i32⟩
  | 55 => ⟨S16384, .i32⟩
  | 56 => ⟨S16384x1, .i32⟩
  | 57 => ⟨S1, .i32⟩
  | 58 => ⟨S_, .i32⟩
  | 59 => ⟨S16384x1, .i32⟩
  | 60 => ⟨S16384x1, .i1⟩
  | 61 => ⟨S1x1, .i32⟩
  | 62 => ⟨S16384x1, .i32⟩
  | 63 => ⟨S16384x1, .i1⟩
  | 64 => ⟨S16384x1, .i1⟩
  | 65 => ⟨S_, .i1⟩
  | 66 => ⟨S16384, .i1⟩
  | 67 => ⟨S16384x17, .f32⟩
  | 68 => ⟨S16384x17, .i1⟩
  | 69 => ⟨S_, .f32⟩
  | 70 => ⟨S16384x17, .f32⟩
  | 71 => ⟨S16384x17, .f32⟩
  | 72 => ⟨S4096x1, .f32⟩
  | 73 => ⟨S4096x32, .f32⟩
  | 74 => ⟨S4096x32, .f32⟩
  | 75 => ⟨S_, .f32⟩
  | 76 => ⟨S_, .f32⟩
  | 77 => ⟨S4096x32, .f32⟩
  | 78 => ⟨S4096x32, .f32⟩
  | 79 => ⟨S_, .f32⟩
  | 80 => ⟨S4096x32, .f32⟩
  | 81 => ⟨S4096x32, .f32⟩
  | 82 => ⟨S4096x32, .f32⟩
  | 83 => ⟨S4096x32, .i32⟩
  | 84 => ⟨S_, .f32⟩
  | 85 => ⟨S_, .i32⟩
  | 86 => ⟨S4096, .f32⟩
  | 87 => ⟨S4096, .i32⟩
  | 88 => ⟨S_, .f32⟩
  | 89 => ⟨S4096, .f32⟩
  | 90 => ⟨S32, .i32⟩
  | 91 => ⟨S1x32, .i32⟩
  | 92 => ⟨S4096x1, .i32⟩
  | 93 => ⟨S4096x32, .i32⟩
  | 94 => ⟨S4096x32, .i32⟩
  | 95 => ⟨S4096x32, .i1⟩
  | 96 => ⟨S_, .f32⟩
  | 97 => ⟨S_, .f32⟩
  | 98 => ⟨S4096x32, .f32⟩
  | 99 => ⟨S4096x32, .f32⟩
  | 100 => ⟨S_, .f32⟩
  | 101 => ⟨S4096, .f32⟩
  | 102 => ⟨S4096, .f32⟩
  | 103 => ⟨S4096x1, .f32⟩
  | 104 => ⟨S4096x1, .f32⟩
  | 105 => ⟨S4096x1, .f32⟩
  | 106 => ⟨S4096x3, .f32⟩
  | 107 => ⟨S_, .i32⟩
  | 108 => ⟨S16384, .i32⟩
  | 109 => ⟨S16384, .i1⟩
  | 110 => ⟨S_, .i32⟩
  | 111 => ⟨S16384, .i32⟩
  | 112 => ⟨S16384, .i32⟩
  | 113 => ⟨S16384, .i32⟩
  | 114 => ⟨S16384x1, .i32⟩
  | 115 => ⟨S1, .i32⟩
  | 116 => ⟨S_, .i32⟩
  | 117 => ⟨S16384x1, .i32⟩
  | 118 => ⟨S16384x1, .i1⟩
  | 119 => ⟨S1x1, .i32⟩
  | 120 => ⟨S16384x1, .i32⟩
  | 121 => ⟨S16384x1, .i1⟩
  | 122 => ⟨S16384x1, .i1⟩
  | 123 => ⟨S_, .i1⟩
  | 124 => ⟨S16384, .i1⟩
  | 125 => ⟨S16384x3, .f32⟩
  | 126 => ⟨S16384x3, .i1⟩
  | 127 => ⟨S_, .f32⟩
  | _ => ⟨S4096x32, .f32⟩

abbrev hbmTy0_2 (i : Nat) : BufTy := match i % 128 with
  | 0 => ⟨S16384x3, .f32⟩
  | 1 => ⟨S16384x3, .f32⟩
  | 2 => ⟨S16384x16, .f32⟩
  | 3 => ⟨S16384x16, .f32⟩
  | 4 => ⟨S16384x1, .f32⟩
  | 5 => ⟨S16384, .f32⟩
  | 6 => ⟨S16384x1, .f32⟩
  | 7 => ⟨S16384, .f32⟩
  | 8 => ⟨S16384, .f32⟩
  | 9 => ⟨S16384x16, .f32⟩
  | 10 => ⟨S_, .f32⟩
  | 11 => ⟨S16384, .f32⟩
  | 12 => ⟨S_, .f32⟩
  | 13 => ⟨S16384, .f32⟩
  | 14 => ⟨S16384, .f32⟩
  | 15 => ⟨S16384, .f32⟩
  | 16 => ⟨S_, .f32⟩
  | 17 => ⟨S_, .f32⟩
  | 18 => ⟨S16384, .f32⟩
  | 19 => ⟨S16384, .f32⟩
  | 20 => ⟨S_, .f32⟩
  | 21 => ⟨S16384, .f32⟩
  | 22 => ⟨S16384, .f32⟩
  | 23 => ⟨S16384, .f32⟩
  | 24 => ⟨S16384x1, .f32⟩
  | 25 => ⟨S16384, .f32⟩
  | 26 => ⟨S16384x1, .f32⟩
  | 27 => ⟨S16384, .f32⟩
  | 28 => ⟨S16384, .i1⟩
  | 29 => ⟨S16384x1, .f32⟩
  | 30 => ⟨S16384, .f32⟩
  | 31 => ⟨S16384x1, .f32⟩
  | 32 => ⟨S16384, .f32⟩
  | 33 => ⟨S16384, .f32⟩
  | 34 => ⟨S16384, .f32⟩
  | 35 => ⟨S_, .f32⟩
  | 36 => ⟨S16384, .f32⟩
  | 37 => ⟨S16384, .f32⟩
  | 38 => ⟨S_, .f32⟩
  | 39 => ⟨S16384, .f32⟩
  | 40 => ⟨S16384, .f32⟩
  | 41 => ⟨S_, .f32⟩
  | 42 => ⟨S_, .f32⟩
  | 43 => ⟨S_, .f32⟩
  | 44 => ⟨S_, .f32⟩
  | 45 => ⟨S4096x1, .f32⟩
  | 46 => ⟨S1x1, .f32⟩
  | 47 => ⟨S4096x1, .f32⟩
  | 48 => ⟨S4096x1, .f32⟩
  | 49 => ⟨S16384x1, .f32⟩
  | 50 => ⟨S1x1, .f32⟩
  | 51 => ⟨S16384x1, .f32⟩
  | 52 => ⟨S16384x1, .f32⟩
  | _ => ⟨S4096x32, .f32⟩

abbrev hbmTy (i : Nat) : BufTy := match i / 128 with
  | 0 => hbmTy0_0 i
  | 1 => hbmTy0_1 i
  | 2 => hbmTy0_2 i
  | _ => ⟨S4096x32, .f32⟩

abbrev bufTy : (tb : Table) → Fin (tcTables nBuf tb) → BufTy
  | .hbm, ⟨i, _⟩ => hbmTy i
  | .local _ .vmem, ⟨0, _⟩ => ⟨S1024x32, .f32⟩
  | .local _ .vmem, ⟨1, _⟩ => ⟨S1024x32, .f32⟩
  | .local _ .vmem, ⟨2, _⟩ => ⟨S1024x32, .f32⟩
  | .local _ .vmem, ⟨3, _⟩ => ⟨S1024x32, .f32⟩
  | .local _ .vmem, ⟨4, _⟩ => ⟨S32x32, .f32⟩
  | .local _ .vmem, ⟨5, _⟩ => ⟨S32x16, .f32⟩
  | .local _ .vmem, ⟨6, _⟩ => ⟨S32x16, .f32⟩
  | .local _ .vmem, ⟨7, _⟩ => ⟨S16x16, .f32⟩
  | .local _ .vmem, ⟨8, _⟩ => ⟨S16x8, .f32⟩
  | .local _ .vmem, ⟨9, _⟩ => ⟨S1024x16, .f32⟩
  | .local _ .vmem, ⟨10, _⟩ => ⟨S1024x16, .f32⟩
  | .local _ .vmem, ⟨11, _⟩ => ⟨S1024x8, .f32⟩
  | .local _ .vmem, ⟨12, _⟩ => ⟨S1024x8, .f32⟩
  | .local _ .vmem, ⟨13, _⟩ => ⟨S1024x32, .f32⟩
  | .local _ .vmem, ⟨14, _⟩ => ⟨S1024x32, .f32⟩
  | .local _ .vmem, ⟨15, _⟩ => ⟨S1024x32, .f32⟩
  | .local _ .vmem, ⟨16, _⟩ => ⟨S1024x32, .f32⟩
  | .local _ .vmem, ⟨17, _⟩ => ⟨S32x16, .f32⟩
  | .local _ .vmem, ⟨18, _⟩ => ⟨S32x16, .f32⟩
  | .local _ .vmem, ⟨19, _⟩ => ⟨S16x16, .f32⟩
  | .local _ .vmem, ⟨20, _⟩ => ⟨S16x8, .f32⟩
  | .local _ .vmem, ⟨21, _⟩ => ⟨S1024x16, .f32⟩
  | .local _ .vmem, ⟨22, _⟩ => ⟨S1024x16, .f32⟩
  | .local _ .vmem, ⟨23, _⟩ => ⟨S1024x8, .f32⟩
  | .local _ .vmem, ⟨24, _⟩ => ⟨S1024x8, .f32⟩
  | .local _ .vmem, ⟨25, _⟩ => ⟨S1024x16, .f32⟩
  | .local _ .vmem, ⟨26, _⟩ => ⟨S1024x16, .f32⟩
  | .local _ .vmem, ⟨27, _⟩ => ⟨S1024x16, .f32⟩
  | .local _ .vmem, ⟨28, _⟩ => ⟨S1024x16, .f32⟩
  | .local _ .vmem, ⟨29, _⟩ => ⟨S32x1024, .f32⟩
  | .local _ .vmem, ⟨30, _⟩ => ⟨S32x1024, .f32⟩
  | .local _ .vmem, ⟨31, _⟩ => ⟨S1024x32, .f32⟩
  | .local _ .vmem, ⟨32, _⟩ => ⟨S1024x32, .f32⟩
  | .local _ .smem, ⟨0, _⟩ => ⟨S16, .i32⟩
  | .local _ .smem, ⟨1, _⟩ => ⟨S16, .i32⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v4 : Ref sig .tc := ⟨.hbm, 39, rfl⟩
abbrev main_cst : Ref sig .tc := ⟨.hbm, 40, rfl⟩
abbrev main_v5 : Ref sig .tc := ⟨.hbm, 41, rfl⟩
abbrev main_v6 : Ref sig .tc := ⟨.hbm, 42, rfl⟩
abbrev main_cst_0 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_cst_1 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_call1_v0 : Ref sig .tc := ⟨.hbm, 55, rfl⟩
abbrev main_call1_v1_0 : Ref sig .tc := ⟨.hbm, 56, rfl⟩
abbrev main_v17 : Ref sig .tc := ⟨.hbm, 57, rfl⟩
abbrev main_c : Ref sig .tc := ⟨.hbm, 58, rfl⟩
abbrev main_v18 : Ref sig .tc := ⟨.hbm, 59, rfl⟩
abbrev main_v19 : Ref sig .tc := ⟨.hbm, 60, rfl⟩
abbrev main_c_2 : Ref sig .tc := ⟨.hbm, 61, rfl⟩
abbrev main_v20 : Ref sig .tc := ⟨.hbm, 62, rfl⟩
abbrev main_v21 : Ref sig .tc := ⟨.hbm, 63, rfl⟩
abbrev main_c_3 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_call2_c : Ref sig .tc := ⟨.hbm, 72, rfl⟩
abbrev main_call2_v0 : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_c_1 : Ref sig .tc := ⟨.hbm, 80, rfl⟩
abbrev main_call2_c_2 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_3 : Ref sig .tc := ⟨.hbm, 88, rfl⟩
abbrev main_call2_v12 : Ref sig .tc := ⟨.hbm, 89, rfl⟩
abbrev main_call2_v13 : Ref sig .tc := ⟨.hbm, 90, rfl⟩
abbrev main_call2_v14 : Ref sig .tc := ⟨.hbm, 91, rfl⟩
abbrev main_call2_cst : Ref sig .tc := ⟨.hbm, 92, rfl⟩
abbrev main_call2_v15 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_c_4 : Ref sig .tc := ⟨.hbm, 109, rfl⟩
abbrev main_call3_v0 : Ref sig .tc := ⟨.hbm, 110, rfl⟩
abbrev main_v44 : Ref sig .tc := ⟨.hbm, 111, rfl⟩
abbrev main_v45_0 : Ref sig .tc := ⟨.hbm, 112, rfl⟩
abbrev main_v45_1 : Ref sig .tc := ⟨.hbm, 113, rfl⟩
abbrev main_v46_0 : Ref sig .tc := ⟨.hbm, 114, rfl⟩
abbrev main_v46_1 : Ref sig .tc := ⟨.hbm, 115, rfl⟩
abbrev main_v47 : Ref sig .tc := ⟨.hbm, 116, rfl⟩
abbrev main_v48 : Ref sig .tc := ⟨.hbm, 117, rfl⟩
abbrev main_cst_5 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_call4_c : Ref sig .tc := ⟨.hbm, 122, rfl⟩
abbrev main_call4_v0 : Ref sig .tc := ⟨.hbm, 123, rfl⟩
abbrev main_call4_v1 : Ref sig .tc := ⟨.hbm, 124, rfl⟩
abbrev main_call4_c_0 : Ref sig .tc := ⟨.hbm, 125, rfl⟩
abbrev main_call4_v2 : Ref sig .tc := ⟨.hbm, 126, rfl⟩
abbrev main_call4_v3 : Ref sig .tc := ⟨.hbm, 127, rfl⟩
abbrev main_call4_v4 : Ref sig .tc := ⟨.hbm, 128, rfl⟩
abbrev main_call4_v5 : Ref sig .tc := ⟨.hbm, 129, rfl⟩
abbrev main_call4_c_1 : Ref sig .tc := ⟨.hbm, 130, rfl⟩
abbrev main_call4_c_2 : Ref sig .tc := ⟨.hbm, 131, rfl⟩
abbrev main_call4_v6 : Ref sig .tc := ⟨.hbm, 132, rfl⟩
abbrev main_call4_v7 : Ref sig .tc := ⟨.hbm, 133, rfl⟩
abbrev main_call4_v8 : Ref sig .tc := ⟨.hbm, 134, rfl⟩
abbrev main_call4_v9 : Ref sig .tc := ⟨.hbm, 135, rfl⟩
abbrev main_call4_v10 : Ref sig .tc := ⟨.hbm, 136, rfl⟩
abbrev main_call4_v11 : Ref sig .tc := ⟨.hbm, 137, rfl⟩
abbrev main_call4_c_3 : Ref sig .tc := ⟨.hbm, 138, rfl⟩
abbrev main_call4_v12 : Ref sig .tc := ⟨.hbm, 139, rfl⟩
abbrev main_call4_v13 : Ref sig .tc := ⟨.hbm, 140, rfl⟩
abbrev main_call4_v14 : Ref sig .tc := ⟨.hbm, 141, rfl⟩
abbrev main_call4_cst : Ref sig .tc := ⟨.hbm, 142, rfl⟩
abbrev main_call4_v15 : Ref sig .tc := ⟨.hbm, 143, rfl⟩
abbrev main_v52 : Ref sig .tc := ⟨.hbm, 144, rfl⟩
abbrev main_v53 : Ref sig .tc := ⟨.hbm, 145, rfl⟩
abbrev main_v54 : Ref sig .tc := ⟨.hbm, 146, rfl⟩
abbrev main_cst_6 : Ref sig .tc := ⟨.hbm, 147, rfl⟩
abbrev main_v55 : Ref sig .tc := ⟨.hbm, 148, rfl⟩
abbrev main_v56 : Ref sig .tc := ⟨.hbm, 149, rfl⟩
abbrev main_v57 : Ref sig .tc := ⟨.hbm, 150, rfl⟩
abbrev main_v58 : Ref sig .tc := ⟨.hbm, 151, rfl⟩
abbrev main_call5_c : Ref sig .tc := ⟨.hbm, 152, rfl⟩
abbrev main_call5_v0 : Ref sig .tc := ⟨.hbm, 153, rfl⟩
abbrev main_call5_v1 : Ref sig .tc := ⟨.hbm, 154, rfl⟩
abbrev main_call5_c_0 : Ref sig .tc := ⟨.hbm, 155, rfl⟩
abbrev main_call5_v2 : Ref sig .tc := ⟨.hbm, 156, rfl⟩
abbrev main_call5_v3 : Ref sig .tc := ⟨.hbm, 157, rfl⟩
abbrev main_call5_v4 : Ref sig .tc := ⟨.hbm, 158, rfl⟩
abbrev main_call5_v5 : Ref sig .tc := ⟨.hbm, 159, rfl⟩
abbrev main_call5_c_1 : Ref sig .tc := ⟨.hbm, 160, rfl⟩
abbrev main_call5_c_2 : Ref sig .tc := ⟨.hbm, 161, rfl⟩
abbrev main_call5_v6 : Ref sig .tc := ⟨.hbm, 162, rfl⟩
abbrev main_call5_v7 : Ref sig .tc := ⟨.hbm, 163, rfl⟩
abbrev main_call5_v8 : Ref sig .tc := ⟨.hbm, 164, rfl⟩
abbrev main_call5_v9 : Ref sig .tc := ⟨.hbm, 165, rfl⟩
abbrev main_call5_v10 : Ref sig .tc := ⟨.hbm, 166, rfl⟩
abbrev main_call5_v11 : Ref sig .tc := ⟨.hbm, 167, rfl⟩
abbrev main_call5_c_3 : Ref sig .tc := ⟨.hbm, 168, rfl⟩
abbrev main_call5_v12 : Ref sig .tc := ⟨.hbm, 169, rfl⟩
abbrev main_call5_v13 : Ref sig .tc := ⟨.hbm, 170, rfl⟩
abbrev main_call5_v14 : Ref sig .tc := ⟨.hbm, 171, rfl⟩
abbrev main_call5_cst : Ref sig .tc := ⟨.hbm, 172, rfl⟩
abbrev main_call5_v15 : Ref sig .tc := ⟨.hbm, 173, rfl⟩
abbrev main_v59 : Ref sig .tc := ⟨.hbm, 174, rfl⟩
abbrev main_v60 : Ref sig .tc := ⟨.hbm, 175, rfl⟩
abbrev main_v61 : Ref sig .tc := ⟨.hbm, 176, rfl⟩
abbrev main_call6_c : Ref sig .tc := ⟨.hbm, 177, rfl⟩
abbrev main_call6_v0 : Ref sig .tc := ⟨.hbm, 178, rfl⟩
abbrev main_call6_v1 : Ref sig .tc := ⟨.hbm, 179, rfl⟩
abbrev main_call6_c_0 : Ref sig .tc := ⟨.hbm, 180, rfl⟩
abbrev main_call6_v2 : Ref sig .tc := ⟨.hbm, 181, rfl⟩
abbrev main_call6_v3 : Ref sig .tc := ⟨.hbm, 182, rfl⟩
abbrev main_call6_v4 : Ref sig .tc := ⟨.hbm, 183, rfl⟩
abbrev main_call6_v5 : Ref sig .tc := ⟨.hbm, 184, rfl⟩
abbrev main_call6_c_1 : Ref sig .tc := ⟨.hbm, 185, rfl⟩
abbrev main_call6_c_2 : Ref sig .tc := ⟨.hbm, 186, rfl⟩
abbrev main_call6_v6 : Ref sig .tc := ⟨.hbm, 187, rfl⟩
abbrev main_call6_v7 : Ref sig .tc := ⟨.hbm, 188, rfl⟩
abbrev main_call6_v8 : Ref sig .tc := ⟨.hbm, 189, rfl⟩
abbrev main_call6_v9 : Ref sig .tc := ⟨.hbm, 190, rfl⟩
abbrev main_call6_v10 : Ref sig .tc := ⟨.hbm, 191, rfl⟩
abbrev main_call6_v11 : Ref sig .tc := ⟨.hbm, 192, rfl⟩
abbrev main_call6_c_3 : Ref sig .tc := ⟨.hbm, 193, rfl⟩
abbrev main_call6_v12 : Ref sig .tc := ⟨.hbm, 194, rfl⟩
abbrev main_call6_v13 : Ref sig .tc := ⟨.hbm, 195, rfl⟩
abbrev main_call6_v14 : Ref sig .tc := ⟨.hbm, 196, rfl⟩
abbrev main_call6_cst : Ref sig .tc := ⟨.hbm, 197, rfl⟩
abbrev main_call6_v15 : Ref sig .tc := ⟨.hbm, 198, rfl⟩
abbrev main_v62 : Ref sig .tc := ⟨.hbm, 199, rfl⟩
abbrev main_v63 : Ref sig .tc := ⟨.hbm, 200, rfl⟩
abbrev main_v64 : Ref sig .tc := ⟨.hbm, 201, rfl⟩
abbrev main_v65 : Ref sig .tc := ⟨.hbm, 202, rfl⟩
abbrev main_cst_7 : Ref sig .tc := ⟨.hbm, 203, rfl⟩
abbrev main_call7_v0 : Ref sig .tc := ⟨.hbm, 204, rfl⟩
abbrev main_call7_v1 : Ref sig .tc := ⟨.hbm, 205, rfl⟩
abbrev main_v66 : Ref sig .tc := ⟨.hbm, 206, rfl⟩
abbrev main_cst_8 : Ref sig .tc := ⟨.hbm, 207, rfl⟩
abbrev main_v67 : Ref sig .tc := ⟨.hbm, 208, rfl⟩
abbrev main_v68 : Ref sig .tc := ⟨.hbm, 209, rfl⟩
abbrev main_v69 : Ref sig .tc := ⟨.hbm, 210, rfl⟩
abbrev main_call8_v0 : Ref sig .tc := ⟨.hbm, 211, rfl⟩
abbrev main_call8_cst : Ref sig .tc := ⟨.hbm, 212, rfl⟩
abbrev main_call8_c : Ref sig .tc := ⟨.hbm, 213, rfl⟩
abbrev main_call8_v1_0 : Ref sig .tc := ⟨.hbm, 214, rfl⟩
abbrev main_v70 : Ref sig .tc := ⟨.hbm, 215, rfl⟩
abbrev main_cst_9 : Ref sig .tc := ⟨.hbm, 216, rfl⟩
abbrev main_v71 : Ref sig .tc := ⟨.hbm, 217, rfl⟩
abbrev main_v72 : Ref sig .tc := ⟨.hbm, 218, rfl⟩
abbrev main_v73 : Ref sig .tc := ⟨.hbm, 219, rfl⟩
abbrev main_v74 : Ref sig .tc := ⟨.hbm, 220, rfl⟩
abbrev main_v75 : Ref sig .tc := ⟨.hbm, 221, rfl⟩
abbrev main_v76 : Ref sig .tc := ⟨.hbm, 222, rfl⟩
abbrev main_v77 : Ref sig .tc := ⟨.hbm, 223, rfl⟩
abbrev main_cst_10 : Ref sig .tc := ⟨.hbm, 224, rfl⟩
abbrev main_call9_v0 : Ref sig .tc := ⟨.hbm, 225, rfl⟩
abbrev main_call9_v1 : Ref sig .tc := ⟨.hbm, 226, rfl⟩
abbrev main_v78 : Ref sig .tc := ⟨.hbm, 227, rfl⟩
abbrev main_cst_11 : Ref sig .tc := ⟨.hbm, 228, rfl⟩
abbrev main_v79 : Ref sig .tc := ⟨.hbm, 229, rfl⟩
abbrev main_v80 : Ref sig .tc := ⟨.hbm, 230, rfl⟩
abbrev main_v81 : Ref sig .tc := ⟨.hbm, 231, rfl⟩
abbrev main_v82 : Ref sig .tc := ⟨.hbm, 232, rfl⟩
abbrev main_v83 : Ref sig .tc := ⟨.hbm, 233, rfl⟩
abbrev main_v84 : Ref sig .tc := ⟨.hbm, 234, rfl⟩
abbrev main_call10_c : Ref sig .tc := ⟨.hbm, 235, rfl⟩
abbrev main_call10_v0 : Ref sig .tc := ⟨.hbm, 236, rfl⟩
abbrev main_call10_v1 : Ref sig .tc := ⟨.hbm, 237, rfl⟩
abbrev main_call10_c_0 : Ref sig .tc := ⟨.hbm, 238, rfl⟩
abbrev main_call10_v2 : Ref sig .tc := ⟨.hbm, 239, rfl⟩
abbrev main_call10_v3 : Ref sig .tc := ⟨.hbm, 240, rfl⟩
abbrev main_call10_v4 : Ref sig .tc := ⟨.hbm, 241, rfl⟩
abbrev main_call10_v5 : Ref sig .tc := ⟨.hbm, 242, rfl⟩
abbrev main_call10_c_1 : Ref sig .tc := ⟨.hbm, 243, rfl⟩
abbrev main_call10_c_2 : Ref sig .tc := ⟨.hbm, 244, rfl⟩
abbrev main_call10_v6 : Ref sig .tc := ⟨.hbm, 245, rfl⟩
abbrev main_call10_v7 : Ref sig .tc := ⟨.hbm, 246, rfl⟩
abbrev main_call10_v8 : Ref sig .tc := ⟨.hbm, 247, rfl⟩
abbrev main_call10_v9 : Ref sig .tc := ⟨.hbm, 248, rfl⟩
abbrev main_call10_v10 : Ref sig .tc := ⟨.hbm, 249, rfl⟩
abbrev main_call10_v11 : Ref sig .tc := ⟨.hbm, 250, rfl⟩
abbrev main_call10_c_3 : Ref sig .tc := ⟨.hbm, 251, rfl⟩
abbrev main_call10_v12 : Ref sig .tc := ⟨.hbm, 252, rfl⟩
abbrev main_call10_v13 : Ref sig .tc := ⟨.hbm, 253, rfl⟩
abbrev main_call10_v14 : Ref sig .tc := ⟨.hbm, 254, rfl⟩
abbrev main_call10_cst : Ref sig .tc := ⟨.hbm, 255, rfl⟩
abbrev main_call10_v15 : Ref sig .tc := ⟨.hbm, 256, rfl⟩
abbrev main_v85 : Ref sig .tc := ⟨.hbm, 257, rfl⟩
abbrev main_v86 : Ref sig .tc := ⟨.hbm, 258, rfl⟩
abbrev main_v87 : Ref sig .tc := ⟨.hbm, 259, rfl⟩
abbrev main_v88 : Ref sig .tc := ⟨.hbm, 260, rfl⟩
abbrev main_v89 : Ref sig .tc := ⟨.hbm, 261, rfl⟩
abbrev main_v90 : Ref sig .tc := ⟨.hbm, 262, rfl⟩
abbrev main_v91 : Ref sig .tc := ⟨.hbm, 263, rfl⟩
abbrev main_v92 : Ref sig .tc := ⟨.hbm, 264, rfl⟩
abbrev main_v93 : Ref sig .tc := ⟨.hbm, 265, rfl⟩
abbrev main_cst_12 : Ref sig .tc := ⟨.hbm, 266, rfl⟩
abbrev main_v94 : Ref sig .tc := ⟨.hbm, 267, rfl⟩
abbrev main_cst_13 : Ref sig .tc := ⟨.hbm, 268, rfl⟩
abbrev main_v95 : Ref sig .tc := ⟨.hbm, 269, rfl⟩
abbrev main_v96 : Ref sig .tc := ⟨.hbm, 270, rfl⟩
abbrev main_v97 : Ref sig .tc := ⟨.hbm, 271, rfl⟩
abbrev main_cst_14 : Ref sig .tc := ⟨.hbm, 272, rfl⟩
abbrev main_call11_v0 : Ref sig .tc := ⟨.hbm, 273, rfl⟩
abbrev main_call11_v1 : Ref sig .tc := ⟨.hbm, 274, rfl⟩
abbrev main_v98 : Ref sig .tc := ⟨.hbm, 275, rfl⟩
abbrev main_cst_15 : Ref sig .tc := ⟨.hbm, 276, rfl⟩
abbrev main_v99 : Ref sig .tc := ⟨.hbm, 277, rfl⟩
abbrev main_v100 : Ref sig .tc := ⟨.hbm, 278, rfl⟩
abbrev main_v101 : Ref sig .tc := ⟨.hbm, 279, rfl⟩
abbrev main_v102 : Ref sig .tc := ⟨.hbm, 280, rfl⟩
abbrev main_v103 : Ref sig .tc := ⟨.hbm, 281, rfl⟩
abbrev main_v104 : Ref sig .tc := ⟨.hbm, 282, rfl⟩
abbrev main_v105 : Ref sig .tc := ⟨.hbm, 283, rfl⟩
abbrev main_v106 : Ref sig .tc := ⟨.hbm, 284, rfl⟩
abbrev main_v107 : Ref sig .tc := ⟨.hbm, 285, rfl⟩
abbrev main_v108 : Ref sig .tc := ⟨.hbm, 286, rfl⟩
abbrev main_v109 : Ref sig .tc := ⟨.hbm, 287, rfl⟩
abbrev main_v110 : Ref sig .tc := ⟨.hbm, 288, rfl⟩
abbrev main_v111 : Ref sig .tc := ⟨.hbm, 289, rfl⟩
abbrev main_v112 : Ref sig .tc := ⟨.hbm, 290, rfl⟩
abbrev main_cst_16 : Ref sig .tc := ⟨.hbm, 291, rfl⟩
abbrev main_v113 : Ref sig .tc := ⟨.hbm, 292, rfl⟩
abbrev main_v114 : Ref sig .tc := ⟨.hbm, 293, rfl⟩
abbrev main_call13_cst : Ref sig .tc := ⟨.hbm, 294, rfl⟩
abbrev main_call13_v0 : Ref sig .tc := ⟨.hbm, 295, rfl⟩
abbrev main_v115 : Ref sig .tc := ⟨.hbm, 296, rfl⟩
abbrev main_cst_17 : Ref sig .tc := ⟨.hbm, 297, rfl⟩
abbrev main_v116 : Ref sig .tc := ⟨.hbm, 298, rfl⟩
abbrev main_cst_18 : Ref sig .tc := ⟨.hbm, 299, rfl⟩
abbrev main_v117 : Ref sig .tc := ⟨.hbm, 300, rfl⟩
abbrev main_v118 : Ref sig .tc := ⟨.hbm, 301, rfl⟩
abbrev main_v119 : Ref sig .tc := ⟨.hbm, 302, rfl⟩
abbrev main_v120 : Ref sig .tc := ⟨.hbm, 303, rfl⟩
abbrev main_v121 : Ref sig .tc := ⟨.hbm, 304, rfl⟩
abbrev main_v122 : Ref sig .tc := ⟨.hbm, 305, rfl⟩
abbrev main_v123 : Ref sig .tc := ⟨.hbm, 306, rfl⟩
abbrev main_v124 : Ref sig .tc := ⟨.hbm, 307, rfl⟩
abbrev main_v125 : Ref sig .tc := ⟨.hbm, 308, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg0_0 : Ref sig .tc := ⟨.smem, 0, rfl⟩
abbrev cc2_stg1_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem6_1 : DmaSem sig := 22
abbrev cc1_sem7_0 : DmaSem sig := 23
abbrev cc1_sem7_1 : DmaSem sig := 24
abbrev cc2_sem0_0 : DmaSem sig := 25
abbrev cc2_sem1_0 : DmaSem sig := 26
abbrev cc2_sem2_0 : DmaSem sig := 27
abbrev cc2_sem2_1 : DmaSem sig := 28
abbrev cc2_sem3_0 : DmaSem sig := 29
abbrev cc2_sem3_1 : DmaSem sig := 30
abbrev cc2_sem4_0 : DmaSem sig := 31
abbrev cc2_sem4_1 : DmaSem sig := 32
abbrev cc2_sem5_0 : DmaSem sig := 33
abbrev cc2_sem5_1 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1024x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1024x8 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨2, ![4, 16], ![false, false]⟩

def k2_off1 (i : grid2.Coords) : Fin 1 → Nat :=
  let arg1 : BitVec 32 := BitVec.ofNat 32 (i 1).val
  let v15 : Index := Scalar.indexCast arg1
  ![v15.toNat]
@[reducible] def k2_t1_loop (v16 : BitVec 32) (v18 : BitVec 32) : Scf.Loop 32 :=
  let c1_i32 : BitVec 32 := 1#32
  let v20 : BitVec 32 := Scalar.addi v18 c1_i32
  let v23 : BitVec 32 := Scalar.subi v20 v16
  let c1_i32_9 : BitVec 32 := 1#32
  let v25 : BitVec 32 := Scalar.divsi v23 c1_i32_9
  let v26 : BitVec 32 := Scalar.muli v25 c1_i32_9
  let v27 : BitVec 32 := Scalar.addi v16 v26
  let c1_i32_10 : BitVec 32 := 1#32
  ⟨v16, v27, c1_i32_10⟩

def k2_off2 (v16 : BitVec 32) (v18 : BitVec 32) (k2_t1 : Fin (k2_t1_loop v16 v18).trips) : Fin 2 → Nat :=
  let c1_i32_10 : BitVec 32 := 1#32
  let arg8 : BitVec 32 := Scf.iv v16 c1_i32_10 k2_t1
  let v31 : Index := Scalar.indexCast arg8
  let c0_14 : Index := 0#32
  ![v31.toNat, 0]
@[reducible] def k2_t2_loop (v16 : BitVec 32) (v18 : BitVec 32) : Scf.Loop 32 :=
  let c1_i32 : BitVec 32 := 1#32
  let v20 : BitVec 32 := Scalar.addi v18 c1_i32
  let v23 : BitVec 32 := Scalar.subi v20 v16
  let c1_i32_9 : BitVec 32 := 1#32
  let v25 : BitVec 32 := Scalar.divsi v23 c1_i32_9
  let v26 : BitVec 32 := Scalar.muli v25 c1_i32_9
  let v27 : BitVec 32 := Scalar.addi v16 v26
  let v24 : BitVec 32 := Scalar.addi v16 v23
  let c1_i32_11 : BitVec 32 := 1#32
  ⟨v27, v24, c1_i32_11⟩
def k2_off3 (v16 : BitVec 32) (v18 : BitVec 32) (k2_t2 : Fin (k2_t2_loop v16 v18).trips) : Fin 2 → Nat :=
  let c1_i32 : BitVec 32 := 1#32
  let v20 : BitVec 32 := Scalar.addi v18 c1_i32
  let v23 : BitVec 32 := Scalar.subi v20 v16
  let c1_i32_9 : BitVec 32 := 1#32
  let v25 : BitVec 32 := Scalar.divsi v23 c1_i32_9
  let v26 : BitVec 32 := Scalar.muli v25 c1_i32_9
  let v27 : BitVec 32 := Scalar.addi v16 v26
  let c1_i32_11 : BitVec 32 := 1#32
  let arg8 : BitVec 32 := Scf.iv v27 c1_i32_11 k2_t2
  let v31 : Index := Scalar.indexCast arg8
  let c0_14 : Index := 0#32
  ![v31.toNat, 0]

def k2_chk1 (v16 : BitVec 32) (v18 : BitVec 32) : Prop :=
  ((k2_t1_loop v16 v18).OK) ∧
  (∀ k2_t1 : Fin (k2_t1_loop v16 v18).trips, ∀ a, (k2_off2 v16 v18 k2_t1) a + S1x1024.size a ≤ S32x1024.size a) ∧
  ((k2_t2_loop v16 v18).OK) ∧
  (∀ k2_t2 : Fin (k2_t2_loop v16 v18).trips, ∀ a, (k2_off3 v16 v18 k2_t2) a + S1x1024.size a ≤ S32x1024.size a)
theorem k2_t1_ok : ∀ (v16 : BitVec 32) (v18 : BitVec 32) (k2_hw1 : k2_chk1 v16 v18), (k2_t1_loop v16 v18).OK := fun v16 v18 k2_hw1 => k2_hw1.1
theorem k2_off2_inb : ∀ (v16 : BitVec 32) (v18 : BitVec 32) (k2_hw1 : k2_chk1 v16 v18) (k2_t1 : Fin (k2_t1_loop v16 v18).trips), ∀ a, (k2_off2 v16 v18 k2_t1) a + S1x1024.size a ≤ S32x1024.size a := fun v16 v18 k2_hw1 k2_t1 => k2_hw1.2.1 k2_t1
theorem k2_t2_ok : ∀ (v16 : BitVec 32) (v18 : BitVec 32) (k2_hw1 : k2_chk1 v16 v18), (k2_t2_loop v16 v18).OK := fun v16 v18 k2_hw1 => k2_hw1.2.2.1
theorem k2_off3_inb : ∀ (v16 : BitVec 32) (v18 : BitVec 32) (k2_hw1 : k2_chk1 v16 v18) (k2_t2 : Fin (k2_t2_loop v16 v18).trips), ∀ a, (k2_off3 v16 v18 k2_t2) a + S1x1024.size a ≤ S32x1024.size a := fun v16 v18 k2_hw1 k2_t2 => k2_hw1.2.2.2 k2_t2

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_1 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 1 → Memref sig .tc .smem S16 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 1 → Memref sig .tc .smem S16 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1024x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S32x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S1024x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]
-- ==== KernelIdeal.lean ====
variable {F : FTy → Type} [FloatOps F] [Named F]
def κ : String → Option EReal := fun
  | "big" => some ⊤
  | _ => none
-- ==== ReferenceIdeal.lean ====
abbrev S4096x32 : Shape := ⟨2, ![4096, 32]⟩
abbrev S16384x32 : Shape := ⟨2, ![16384, 32]⟩
abbrev S16384x2 : Shape := ⟨2, ![16384, 2]⟩
abbrev S16384 : Shape := ⟨1, ![16384]⟩
abbrev S32x32 : Shape := ⟨2, ![32, 32]⟩
abbrev S32x16 : Shape := ⟨2, ![32, 16]⟩
abbrev S16x16 : Shape := ⟨2, ![16, 16]⟩
abbrev S16x1 : Shape := ⟨2, ![16, 1]⟩
abbrev S1 : Shape := ⟨1, ![1]⟩
abbrev S16384x1 : Shape := ⟨2, ![16384, 1]⟩
abbrev S_ : Shape := ⟨0, ![]⟩
abbrev S1x1 : Shape := ⟨2, ![1, 1]⟩
abbrev S4096x1 : Shape := ⟨2, ![4096, 1]⟩
abbrev S4096x16 : Shape := ⟨2, ![4096, 16]⟩
abbrev S16384x16 : Shape := ⟨2, ![16384, 16]⟩
abbrev S4096 : Shape := ⟨1, ![4096]⟩
abbrev S1x16384 : Shape := ⟨2, ![1, 16384]⟩
abbrev S4096x16384 : Shape := ⟨2, ![4096, 16384]⟩
abbrev S16x16384 : Shape := ⟨2, ![16, 16384]⟩
abbrev S32 : Shape := ⟨1, ![32]⟩
abbrev S1x32 : Shape := ⟨2, ![1, 32]⟩
abbrev S1x16384x32 : Shape := ⟨3, ![1, 16384, 32]⟩
abbrev S4096x16384x1 : Shape := ⟨3, ![4096, 16384, 1]⟩
abbrev S4096x16384x32 : Shape := ⟨3, ![4096, 16384, 32]⟩

abbrev nBuf : Space → Nat
  | .hbm => 276
  | .vmem => 0
  | .smem => 0
  | _ => 0

abbrev hbmTy0_0 (i : Nat) : BufTy := match i % 128 with
  | 0 => ⟨S4096x32, .f32⟩
  | 1 => ⟨S16384x32, .f32⟩
  | 2 => ⟨S16384x2, .i32⟩
  | 3 => ⟨S16384, .i32⟩
  | 4 => ⟨S32x32, .f32⟩
  | 5 => ⟨S32x16, .f32⟩
  | 6 => ⟨S32x16, .f32⟩
  | 7 => ⟨S32x16, .f32⟩
  | 8 => ⟨S32x16, .f32⟩
  | 9 => ⟨S16x16, .f32⟩
  | 10 => ⟨S16x16, .f32⟩
  | 11 => ⟨S16x1, .f32⟩
  | 12 => ⟨S1, .f32⟩
  | 13 => ⟨S16384x1, .i32⟩
  | 14 => ⟨S16384, .i32⟩
  | 15 => ⟨S16384x1, .i32⟩
  | 16 => ⟨S16384, .i32⟩
  | 17 => ⟨S_, .i32⟩
  | 18 => ⟨S16384, .i32⟩
  | 19 => ⟨S16384, .i1⟩
  | 20 => ⟨S_, .i32⟩
  | 21 => ⟨S16384, .i32⟩
  | 22 => ⟨S16384, .i32⟩
  | 23 => ⟨S16384, .i32⟩
  | 24 => ⟨S16384x1, .i32⟩
  | 25 => ⟨S1, .i32⟩
  | 26 => ⟨S_, .i32⟩
  | 27 => ⟨S16384x1, .i32⟩
  | 28 => ⟨S16384x1, .i1⟩
  | 29 => ⟨S1x1, .i32⟩
  | 30 => ⟨S16384x1, .i32⟩
  | 31 => ⟨S16384x1, .i1⟩
  | 32 => ⟨S16384x1, .i1⟩
  | 33 => ⟨S_, .i1⟩
  | 34 => ⟨S16384, .i1⟩
  | 35 => ⟨S16384x32, .f32⟩
  | 36 => ⟨S16384x32, .i1⟩
  | 37 => ⟨S_, .f32⟩
  | 38 => ⟨S16384x32, .f32⟩
  | 39 => ⟨S16384x32, .f32⟩
  | 40 => ⟨S_, .f32⟩
  | 41 => ⟨S4096x32, .f32⟩
  | 42 => ⟨S16384x1, .i32⟩
  | 43 => ⟨S4096x32, .f32⟩
  | 44 => ⟨S_, .f32⟩
  | 45 => ⟨S16384x1, .f32⟩
  | 46 => ⟨S_, .f32⟩
  | 47 => ⟨S4096x1, .f32⟩
  | 48 => ⟨S16384x1, .i32⟩
  | 49 => ⟨S4096x1, .f32⟩
  | 50 => ⟨S_, .f32⟩
  | 51 => ⟨S4096x1, .f32⟩
  | 52 => ⟨S4096x1, .f32⟩
  | 53 => ⟨S4096x32, .f32⟩
  | 54 => ⟨S4096x32, .f32⟩
  | 55 => ⟨S4096x16, .f32⟩
  | 56 => ⟨S4096x16, .f32⟩
  | 57 => ⟨S4096x16, .f32⟩
  | 58 => ⟨S_, .f32⟩
  | 59 => ⟨S4096x16, .f32⟩
  | 60 => ⟨S4096x16, .f32⟩
  | 61 => ⟨S4096x16, .f32⟩
  | 62 => ⟨S_, .f32⟩
  | 63 => ⟨S4096x16, .f32⟩
  | 64 => ⟨S4096x16, .f32⟩
  | 65 => ⟨S_, .i32⟩
  | 66 => ⟨S16384, .i32⟩
  | 67 => ⟨S16384, .i1⟩
  | 68 => ⟨S_, .i32⟩
  | 69 => ⟨S16384, .i32⟩
  | 70 => ⟨S16384, .i32⟩
  | 71 => ⟨S16384, .i32⟩
  | 72 => ⟨S16384x1, .i32⟩
  | 73 => ⟨S1, .i32⟩
  | 74 => ⟨S_, .i32⟩
  | 75 => ⟨S16384x1, .i32⟩
  | 76 => ⟨S16384x1, .i1⟩
  | 77 => ⟨S1x1, .i32⟩
  | 78 => ⟨S16384x1, .i32⟩
  | 79 => ⟨S16384x1, .i1⟩
  | 80 => ⟨S16384x1, .i1⟩
  | 81 => ⟨S_, .i1⟩
  | 82 => ⟨S16384, .i1⟩
  | 83 => ⟨S16384x32, .f32⟩
  | 84 => ⟨S16384x32, .i1⟩
  | 85 => ⟨S_, .f32⟩
  | 86 => ⟨S16384x32, .f32⟩
  | 87 => ⟨S16384x32, .f32⟩
  | 88 => ⟨S16384x16, .f32⟩
  | 89 => ⟨S16384x16, .f32⟩
  | 90 => ⟨S16384x16, .f32⟩
  | 91 => ⟨S_, .f32⟩
  | 92 => ⟨S16384x16, .f32⟩
  | 93 => ⟨S16384x16, .f32⟩
  | 94 => ⟨S16384x16, .f32⟩
  | 95 => ⟨S_, .f32⟩
  | 96 => ⟨S16384x16, .f32⟩
  | 97 => ⟨S16384x16, .f32⟩
  | 98 => ⟨S4096x16, .f32⟩
  | 99 => ⟨S_, .f32⟩
  | 100 => ⟨S4096, .f32⟩
  | 101 => ⟨S4096x1, .f32⟩
  | 102 => ⟨S16384x16, .f32⟩
  | 103 => ⟨S_, .f32⟩
  | 104 => ⟨S16384, .f32⟩
  | 105 => ⟨S1x16384, .f32⟩
  | 106 => ⟨S4096x16384, .f32⟩
  | 107 => ⟨S4096x16384, .f32⟩
  | 108 => ⟨S4096x16384, .f32⟩
  | 109 => ⟨S16x16384, .f32⟩
  | 110 => ⟨S4096x16384, .f32⟩
  | 111 => ⟨S_, .f32⟩
  | 112 => ⟨S4096x16384, .f32⟩
  | 113 => ⟨S4096x16384, .f32⟩
  | 114 => ⟨S4096x16384, .f32⟩
  | 115 => ⟨S_, .f32⟩
  | 116 => ⟨S_, .f32⟩
  | 117 => ⟨S4096x16384, .f32⟩
  | 118 => ⟨S4096x16384, .f32⟩
  | 119 => ⟨S_, .f32⟩
  | 120 => ⟨S4096x16384, .f32⟩
  | 121 => ⟨S4096x16384, .f32⟩
  | 122 => ⟨S4096x16384, .f32⟩
  | 123 => ⟨S16384x1, .i32⟩
  | 124 => ⟨S32, .i32⟩
  | 125 => ⟨S1x32, .i32⟩
  | 126 => ⟨S16384x32, .i32⟩
  | 127 => ⟨S16384x32, .i32⟩
  | _ => ⟨S4096x32, .f32⟩

abbrev hbmTy0_1 (i : Nat) : BufTy := match i % 128 with
  | 0 => ⟨S16384x32, .i1⟩
  | 1 => ⟨S1x16384x32, .i1⟩
  | 2 => ⟨S4096x16384x1, .f32⟩
  | 3 => ⟨S_, .f32⟩
  | 4 => ⟨S_, .f32⟩
  | 5 => ⟨S4096x16384x32, .i1⟩
  | 6 => ⟨S4096x16384x32, .f32⟩
  | 7 => ⟨S4096x16384x32, .f32⟩
  | 8 => ⟨S4096x16384x32, .f32⟩
  | 9 => ⟨S_, .f32⟩
  | 10 => ⟨S4096x32, .f32⟩
  | 11 => ⟨S4096x32, .f32⟩
  | 12 => ⟨S4096x32, .i32⟩
  | 13 => ⟨S_, .f32⟩
  | 14 => ⟨S_, .i32⟩
  | 15 => ⟨S4096, .f32⟩
  | 16 => ⟨S4096, .i32⟩
  | 17 => ⟨S4096x1, .f32⟩
  | 18 => ⟨S4096, .f32⟩
  | 19 => ⟨S4096x1, .f32⟩
  | 20 => ⟨S4096, .f32⟩
  | 21 => ⟨S_, .i32⟩
  | 22 => ⟨S16384, .i32⟩
  | 23 => ⟨S16384, .i1⟩
  | 24 => ⟨S_, .i32⟩
  | 25 => ⟨S16384, .i32⟩
  | 26 => ⟨S16384, .i32⟩
  | 27 => ⟨S16384, .i32⟩
  | 28 => ⟨S16384x1, .i32⟩
  | 29 => ⟨S1, .i32⟩
  | 30 => ⟨S_, .i32⟩
  | 31 => ⟨S16384x1, .i32⟩
  | 32 => ⟨S16384x1, .i1⟩
  | 33 => ⟨S1x1, .i32⟩
  | 34 => ⟨S16384x1, .i32⟩
  | 35 => ⟨S16384x1, .i1⟩
  | 36 => ⟨S16384x1, .i1⟩
  | 37 => ⟨S_, .i1⟩
  | 38 => ⟨S16384, .i1⟩
  | 39 => ⟨S16384, .i32⟩
  | 40 => ⟨S_, .i32⟩
  | 41 => ⟨S16384, .i32⟩
  | 42 => ⟨S16384, .i32⟩
  | 43 => ⟨S_, .i32⟩
  | 44 => ⟨S16384, .i32⟩
  | 45 => ⟨S16384, .i1⟩
  | 46 => ⟨S_, .i32⟩
  | 47 => ⟨S16384, .i32⟩
  | 48 => ⟨S16384, .i32⟩
  | 49 => ⟨S16384, .i32⟩
  | 50 => ⟨S16384x1, .i32⟩
  | 51 => ⟨S1, .i32⟩
  | 52 => ⟨S_, .i32⟩
  | 53 => ⟨S16384x1, .i32⟩
  | 54 => ⟨S16384x1, .i1⟩
  | 55 => ⟨S1x1, .i32⟩
  | 56 => ⟨S16384x1, .i32⟩
  | 57 => ⟨S16384x1, .i1⟩
  | 58 => ⟨S16384x1, .i1⟩
  | 59 => ⟨S_, .i1⟩
  | 60 => ⟨S16384, .i1⟩
  | 61 => ⟨S16384, .i32⟩
  | 62 => ⟨S_, .i32⟩
  | 63 => ⟨S16384, .i32⟩
  | 64 => ⟨S16384, .i32⟩
  | 65 => ⟨S16384, .i1⟩
  | 66 => ⟨S_, .i32⟩
  | 67 => ⟨S16384, .i32⟩
  | 68 => ⟨S16384, .i1⟩
  | 69 => ⟨S_, .i32⟩
  | 70 => ⟨S16384, .i32⟩
  | 71 => ⟨S16384, .i32⟩
  | 72 => ⟨S16384, .i32⟩
  | 73 => ⟨S16384x1, .i32⟩
  | 74 => ⟨S1, .i32⟩
  | 75 => ⟨S_, .i32⟩
  | 76 => ⟨S16384x1, .i32⟩
  | 77 => ⟨S16384x1, .i1⟩
  | 78 => ⟨S1x1, .i32⟩
  | 79 => ⟨S16384x1, .i32⟩
  | 80 => ⟨S16384x1, .i1⟩
  | 81 => ⟨S16384x1, .i1⟩
  | 82 => ⟨S_, .i1⟩
  | 83 => ⟨S16384, .i1⟩
  | 84 => ⟨S16384, .f32⟩
  | 85 => ⟨S_, .f32⟩
  | 86 => ⟨S16384, .f32⟩
  | 87 => ⟨S16384, .f32⟩
  | 88 => ⟨S_, .i32⟩
  | 89 => ⟨S16384, .i32⟩
  | 90 => ⟨S16384, .i1⟩
  | 91 => ⟨S_, .i32⟩
  | 92 => ⟨S16384, .i32⟩
  | 93 => ⟨S16384, .i32⟩
  | 94 => ⟨S16384, .i32⟩
  | 95 => ⟨S16384x1, .i32⟩
  | 96 => ⟨S1, .i32⟩
  | 97 => ⟨S_, .i32⟩
  | 98 => ⟨S16384x1, .i32⟩
  | 99 => ⟨S16384x1, .i1⟩
  | 100 => ⟨S1x1, .i32⟩
  | 101 => ⟨S16384x1, .i32⟩
  | 102 => ⟨S16384x1, .i1⟩
  | 103 => ⟨S16384x1, .i1⟩
  | 104 => ⟨S_, .i1⟩
  | 105 => ⟨S16384, .i1⟩
  | 106 => ⟨S16384, .f32⟩
  | 107 => ⟨S_, .f32⟩
  | 108 => ⟨S16384, .f32⟩
  | 109 => ⟨S16384, .f32⟩
  | 110 => ⟨S16384, .f32⟩
  | 111 => ⟨S_, .i32⟩
  | 112 => ⟨S16384, .i32⟩
  | 113 => ⟨S16384, .i1⟩
  | 114 => ⟨S_, .i32⟩
  | 115 => ⟨S16384, .i32⟩
  | 116 => ⟨S16384, .i32⟩
  | 117 => ⟨S16384, .i32⟩
  | 118 => ⟨S_, .i32⟩
  | 119 => ⟨S16384, .i32⟩
  | 120 => ⟨S16384, .i1⟩
  | 121 => ⟨S_, .i32⟩
  | 122 => ⟨S16384, .i32⟩
  | 123 => ⟨S16384, .i32⟩
  | 124 => ⟨S16384, .i32⟩
  | 125 => ⟨S16384x1, .i32⟩
  | 126 => ⟨S16384x1, .i32⟩
  | 127 => ⟨S16384x2, .i32⟩
  | _ => ⟨S4096x32, .f32⟩

abbrev hbmTy0_2 (i : Nat) : BufTy := match i % 128 with
  | 0 => ⟨S16384, .f32⟩
  | 1 => ⟨S16384, .f32⟩
  | 2 => ⟨S_, .f32⟩
  | 3 => ⟨S16384, .f32⟩
  | 4 => ⟨S16384, .f32⟩
  | 5 => ⟨S_, .f32⟩
  | 6 => ⟨S16384, .f32⟩
  | 7 => ⟨S16384, .f32⟩
  | 8 => ⟨S_, .f32⟩
  | 9 => ⟨S_, .f32⟩
  | 10 => ⟨S_, .f32⟩
  | 11 => ⟨S_, .f32⟩
  | 12 => ⟨S4096x1, .f32⟩
  | 13 => ⟨S1x1, .f32⟩
  | 14 => ⟨S4096x1, .f32⟩
  | 15 => ⟨S4096x1, .f32⟩
  | 16 => ⟨S16384x1, .f32⟩
  | 17 => ⟨S1x1, .f32⟩
  | 18 => ⟨S16384x1, .f32⟩
  | 19 => ⟨S16384x1, .f32⟩
  | _ => ⟨S4096x32, .f32⟩

abbrev hbmTy (i : Nat) : BufTy := match i / 128 with
  | 0 => hbmTy0_0 i
  | 1 => hbmTy0_1 i
  | 2 => hbmTy0_2 i
  | _ => ⟨S4096x32, .f32⟩

abbrev bufTy : (tb : Table) → Fin (tcTables nBuf tb) → BufTy
  | .hbm, ⟨i, _⟩ => hbmTy i
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v4 : Ref sig .tc := ⟨.hbm, 39, rfl⟩
abbrev main_cst : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_cst_0 : Ref sig .tc := ⟨.hbm, 44, rfl⟩
abbrev main_v8 : Ref sig .tc := ⟨.hbm, 45, rfl⟩
abbrev main_cst_1 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_cst_2 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_call1_cst : Ref sig .tc := ⟨.hbm, 58, rfl⟩
abbrev main_call1_v0 : Ref sig .tc := ⟨.hbm, 59, rfl⟩
abbrev main_v19 : Ref sig .tc := ⟨.hbm, 60, rfl⟩
abbrev main_v20 : Ref sig .tc := ⟨.hbm, 61, rfl⟩
abbrev main_call2_cst : Ref sig .tc := ⟨.hbm, 62, rfl⟩
abbrev main_call2_v0 : Ref sig .tc := ⟨.hbm, 63, rfl⟩
abbrev main_v21 : Ref sig .tc := ⟨.hbm, 64, rfl⟩
abbrev main_call3_c : Ref sig .tc := ⟨.hbm, 65, rfl⟩
abbrev main_call3_v0 : Ref sig .tc := ⟨.hbm, 66, rfl⟩
abbrev main_call3_v1 : Ref sig .tc := ⟨.hbm, 67, rfl⟩
abbrev main_call3_c_0 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_v5 : Ref sig .tc := ⟨.hbm, 72, rfl⟩
abbrev main_call3_c_1 : Ref sig .tc := ⟨.hbm, 73, rfl⟩
abbrev main_call3_c_2 : Ref sig .tc := ⟨.hbm, 74, rfl⟩
abbrev main_call3_v6 : Ref sig .tc := ⟨.hbm, 75, rfl⟩
abbrev main_call3_v7 : Ref sig .tc := ⟨.hbm, 76, rfl⟩
abbrev main_call3_v8 : Ref sig .tc := ⟨.hbm, 77, rfl⟩
abbrev main_call3_v9 : Ref sig .tc := ⟨.hbm, 78, rfl⟩
abbrev main_call3_v10 : Ref sig .tc := ⟨.hbm, 79, rfl⟩
abbrev main_call3_v11 : Ref sig .tc := ⟨.hbm, 80, rfl⟩
abbrev main_call3_c_3 : Ref sig .tc := ⟨.hbm, 81, rfl⟩
abbrev main_call3_v12 : Ref sig .tc := ⟨.hbm, 82, rfl⟩
abbrev main_call3_v13 : Ref sig .tc := ⟨.hbm, 83, rfl⟩
abbrev main_call3_v14 : Ref sig .tc := ⟨.hbm, 84, rfl⟩
abbrev main_call3_cst : Ref sig .tc := ⟨.hbm, 85, rfl⟩
abbrev main_call3_v15 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_call4_cst : Ref sig .tc := ⟨.hbm, 91, rfl⟩
abbrev main_call4_v0 : Ref sig .tc := ⟨.hbm, 92, rfl⟩
abbrev main_v26 : Ref sig .tc := ⟨.hbm, 93, rfl⟩
abbrev main_v27 : Ref sig .tc := ⟨.hbm, 94, rfl⟩
abbrev main_call5_cst : Ref sig .tc := ⟨.hbm, 95, rfl⟩
abbrev main_call5_v0 : Ref sig .tc := ⟨.hbm, 96, rfl⟩
abbrev main_v28 : Ref sig .tc := ⟨.hbm, 97, rfl⟩
abbrev main_v29 : Ref sig .tc := ⟨.hbm, 98, rfl⟩
abbrev main_cst_3 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_cst_4 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_cst_5 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_cst_6 : Ref sig .tc := ⟨.hbm, 115, rfl⟩
abbrev main_call6_v0 : Ref sig .tc := ⟨.hbm, 116, rfl⟩
abbrev main_call6_v1 : Ref sig .tc := ⟨.hbm, 117, rfl⟩
abbrev main_v43 : Ref sig .tc := ⟨.hbm, 118, rfl⟩
abbrev main_cst_7 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_cst_8 : Ref sig .tc := ⟨.hbm, 131, rfl⟩
abbrev main_call7_v0 : Ref sig .tc := ⟨.hbm, 132, rfl⟩
abbrev main_call7_v1 : Ref sig .tc := ⟨.hbm, 133, rfl⟩
abbrev main_call7_v2 : Ref sig .tc := ⟨.hbm, 134, rfl⟩
abbrev main_call7_v3 : Ref sig .tc := ⟨.hbm, 135, rfl⟩
abbrev main_v55 : Ref sig .tc := ⟨.hbm, 136, rfl⟩
abbrev main_cst_9 : Ref sig .tc := ⟨.hbm, 137, rfl⟩
abbrev main_v56 : Ref sig .tc := ⟨.hbm, 138, rfl⟩
abbrev main_v57 : Ref sig .tc := ⟨.hbm, 139, rfl⟩
abbrev main_call9_v0 : Ref sig .tc := ⟨.hbm, 140, rfl⟩
abbrev main_call9_cst : Ref sig .tc := ⟨.hbm, 141, rfl⟩
abbrev main_call9_c : Ref sig .tc := ⟨.hbm, 142, rfl⟩
abbrev main_call9_v1_0 : Ref sig .tc := ⟨.hbm, 143, rfl⟩
abbrev main_v58 : Ref sig .tc := ⟨.hbm, 144, rfl⟩
abbrev main_v59 : Ref sig .tc := ⟨.hbm, 145, rfl⟩
abbrev main_v60 : Ref sig .tc := ⟨.hbm, 146, rfl⟩
abbrev main_v61 : Ref sig .tc := ⟨.hbm, 147, rfl⟩
abbrev main_v62 : Ref sig .tc := ⟨.hbm, 148, rfl⟩
abbrev main_call10_c : Ref sig .tc := ⟨.hbm, 149, rfl⟩
abbrev main_call10_v0 : Ref sig .tc := ⟨.hbm, 150, rfl⟩
abbrev main_call10_v1 : Ref sig .tc := ⟨.hbm, 151, rfl⟩
abbrev main_call10_c_0 : Ref sig .tc := ⟨.hbm, 152, rfl⟩
abbrev main_call10_v2 : Ref sig .tc := ⟨.hbm, 153, rfl⟩
abbrev main_call10_v3 : Ref sig .tc := ⟨.hbm, 154, rfl⟩
abbrev main_call10_v4 : Ref sig .tc := ⟨.hbm, 155, rfl⟩
abbrev main_call10_v5 : Ref sig .tc := ⟨.hbm, 156, rfl⟩
abbrev main_call10_c_1 : Ref sig .tc := ⟨.hbm, 157, rfl⟩
abbrev main_call10_c_2 : Ref sig .tc := ⟨.hbm, 158, rfl⟩
abbrev main_call10_v6 : Ref sig .tc := ⟨.hbm, 159, rfl⟩
abbrev main_call10_v7 : Ref sig .tc := ⟨.hbm, 160, rfl⟩
abbrev main_call10_v8 : Ref sig .tc := ⟨.hbm, 161, rfl⟩
abbrev main_call10_v9 : Ref sig .tc := ⟨.hbm, 162, rfl⟩
abbrev main_call10_v10 : Ref sig .tc := ⟨.hbm, 163, rfl⟩
abbrev main_call10_v11 : Ref sig .tc := ⟨.hbm, 164, rfl⟩
abbrev main_call10_c_3 : Ref sig .tc := ⟨.hbm, 165, rfl⟩
abbrev main_call10_v12 : Ref sig .tc := ⟨.hbm, 166, rfl⟩
abbrev main_call10_v13 : Ref sig .tc := ⟨.hbm, 167, rfl⟩
abbrev main_call10_c_4 : Ref sig .tc := ⟨.hbm, 168, rfl⟩
abbrev main_call10_v14 : Ref sig .tc := ⟨.hbm, 169, rfl⟩
abbrev main_v63 : Ref sig .tc := ⟨.hbm, 170, rfl⟩
abbrev main_call11_c : Ref sig .tc := ⟨.hbm, 171, rfl⟩
abbrev main_call11_v0 : Ref sig .tc := ⟨.hbm, 172, rfl⟩
abbrev main_call11_v1 : Ref sig .tc := ⟨.hbm, 173, rfl⟩
abbrev main_call11_c_0 : Ref sig .tc := ⟨.hbm, 174, rfl⟩
abbrev main_call11_v2 : Ref sig .tc := ⟨.hbm, 175, rfl⟩
abbrev main_call11_v3 : Ref sig .tc := ⟨.hbm, 176, rfl⟩
abbrev main_call11_v4 : Ref sig .tc := ⟨.hbm, 177, rfl⟩
abbrev main_call11_v5 : Ref sig .tc := ⟨.hbm, 178, rfl⟩
abbrev main_call11_c_1 : Ref sig .tc := ⟨.hbm, 179, rfl⟩
abbrev main_call11_c_2 : Ref sig .tc := ⟨.hbm, 180, rfl⟩
abbrev main_call11_v6 : Ref sig .tc := ⟨.hbm, 181, rfl⟩
abbrev main_call11_v7 : Ref sig .tc := ⟨.hbm, 182, rfl⟩
abbrev main_call11_v8 : Ref sig .tc := ⟨.hbm, 183, rfl⟩
abbrev main_call11_v9 : Ref sig .tc := ⟨.hbm, 184, rfl⟩
abbrev main_call11_v10 : Ref sig .tc := ⟨.hbm, 185, rfl⟩
abbrev main_call11_v11 : Ref sig .tc := ⟨.hbm, 186, rfl⟩
abbrev main_call11_c_3 : Ref sig .tc := ⟨.hbm, 187, rfl⟩
abbrev main_call11_v12 : Ref sig .tc := ⟨.hbm, 188, rfl⟩
abbrev main_call11_v13 : Ref sig .tc := ⟨.hbm, 189, rfl⟩
abbrev main_call11_c_4 : Ref sig .tc := ⟨.hbm, 190, rfl⟩
abbrev main_call11_v14 : Ref sig .tc := ⟨.hbm, 191, rfl⟩
abbrev main_v64 : Ref sig .tc := ⟨.hbm, 192, rfl⟩
abbrev main_v65 : Ref sig .tc := ⟨.hbm, 193, rfl⟩
abbrev main_call12_c : Ref sig .tc := ⟨.hbm, 194, rfl⟩
abbrev main_call12_v0 : Ref sig .tc := ⟨.hbm, 195, rfl⟩
abbrev main_call12_v1 : Ref sig .tc := ⟨.hbm, 196, rfl⟩
abbrev main_call12_c_0 : Ref sig .tc := ⟨.hbm, 197, rfl⟩
abbrev main_call12_v2 : Ref sig .tc := ⟨.hbm, 198, rfl⟩
abbrev main_call12_v3 : Ref sig .tc := ⟨.hbm, 199, rfl⟩
abbrev main_call12_v4 : Ref sig .tc := ⟨.hbm, 200, rfl⟩
abbrev main_call12_v5 : Ref sig .tc := ⟨.hbm, 201, rfl⟩
abbrev main_call12_c_1 : Ref sig .tc := ⟨.hbm, 202, rfl⟩
abbrev main_call12_c_2 : Ref sig .tc := ⟨.hbm, 203, rfl⟩
abbrev main_call12_v6 : Ref sig .tc := ⟨.hbm, 204, rfl⟩
abbrev main_call12_v7 : Ref sig .tc := ⟨.hbm, 205, rfl⟩
abbrev main_call12_v8 : Ref sig .tc := ⟨.hbm, 206, rfl⟩
abbrev main_call12_v9 : Ref sig .tc := ⟨.hbm, 207, rfl⟩
abbrev main_call12_v10 : Ref sig .tc := ⟨.hbm, 208, rfl⟩
abbrev main_call12_v11 : Ref sig .tc := ⟨.hbm, 209, rfl⟩
abbrev main_call12_c_3 : Ref sig .tc := ⟨.hbm, 210, rfl⟩
abbrev main_call12_v12 : Ref sig .tc := ⟨.hbm, 211, rfl⟩
abbrev main_call12_v13 : Ref sig .tc := ⟨.hbm, 212, rfl⟩
abbrev main_call12_cst : Ref sig .tc := ⟨.hbm, 213, rfl⟩
abbrev main_call12_v14 : Ref sig .tc := ⟨.hbm, 214, rfl⟩
abbrev main_v66 : Ref sig .tc := ⟨.hbm, 215, rfl⟩
abbrev main_call13_c : Ref sig .tc := ⟨.hbm, 216, rfl⟩
abbrev main_call13_v0 : Ref sig .tc := ⟨.hbm, 217, rfl⟩
abbrev main_call13_v1 : Ref sig .tc := ⟨.hbm, 218, rfl⟩
abbrev main_call13_c_0 : Ref sig .tc := ⟨.hbm, 219, rfl⟩
abbrev main_call13_v2 : Ref sig .tc := ⟨.hbm, 220, rfl⟩
abbrev main_call13_v3 : Ref sig .tc := ⟨.hbm, 221, rfl⟩
abbrev main_call13_v4 : Ref sig .tc := ⟨.hbm, 222, rfl⟩
abbrev main_call13_v5 : Ref sig .tc := ⟨.hbm, 223, rfl⟩
abbrev main_call13_c_1 : Ref sig .tc := ⟨.hbm, 224, rfl⟩
abbrev main_call13_c_2 : Ref sig .tc := ⟨.hbm, 225, rfl⟩
abbrev main_call13_v6 : Ref sig .tc := ⟨.hbm, 226, rfl⟩
abbrev main_call13_v7 : Ref sig .tc := ⟨.hbm, 227, rfl⟩
abbrev main_call13_v8 : Ref sig .tc := ⟨.hbm, 228, rfl⟩
abbrev main_call13_v9 : Ref sig .tc := ⟨.hbm, 229, rfl⟩
abbrev main_call13_v10 : Ref sig .tc := ⟨.hbm, 230, rfl⟩
abbrev main_call13_v11 : Ref sig .tc := ⟨.hbm, 231, rfl⟩
abbrev main_call13_c_3 : Ref sig .tc := ⟨.hbm, 232, rfl⟩
abbrev main_call13_v12 : Ref sig .tc := ⟨.hbm, 233, rfl⟩
abbrev main_call13_v13 : Ref sig .tc := ⟨.hbm, 234, rfl⟩
abbrev main_call13_cst : Ref sig .tc := ⟨.hbm, 235, rfl⟩
abbrev main_call13_v14 : Ref sig .tc := ⟨.hbm, 236, rfl⟩
abbrev main_v67 : Ref sig .tc := ⟨.hbm, 237, rfl⟩
abbrev main_v68 : Ref sig .tc := ⟨.hbm, 238, rfl⟩
abbrev main_c : Ref sig .tc := ⟨.hbm, 239, rfl⟩
abbrev main_v69 : Ref sig .tc := ⟨.hbm, 240, rfl⟩
abbrev main_v70 : Ref sig .tc := ⟨.hbm, 241, rfl⟩
abbrev main_c_10 : Ref sig .tc := ⟨.hbm, 242, rfl⟩
abbrev main_v71 : Ref sig .tc := ⟨.hbm, 243, rfl⟩
abbrev main_v72 : Ref sig .tc := ⟨.hbm, 244, rfl⟩
abbrev main_v73 : Ref sig .tc := ⟨.hbm, 245, rfl⟩
abbrev main_c_11 : Ref sig .tc := ⟨.hbm, 246, rfl⟩
abbrev main_v74 : Ref sig .tc := ⟨.hbm, 247, rfl⟩
abbrev main_v75 : Ref sig .tc := ⟨.hbm, 248, rfl⟩
abbrev main_c_12 : Ref sig .tc := ⟨.hbm, 249, rfl⟩
abbrev main_v76 : Ref sig .tc := ⟨.hbm, 250, rfl⟩
abbrev main_v77 : Ref sig .tc := ⟨.hbm, 251, rfl⟩
abbrev main_v78 : Ref sig .tc := ⟨.hbm, 252, rfl⟩
abbrev main_v79 : Ref sig .tc := ⟨.hbm, 253, rfl⟩
abbrev main_v80 : Ref sig .tc := ⟨.hbm, 254, rfl⟩
abbrev main_v81 : Ref sig .tc := ⟨.hbm, 255, rfl⟩
abbrev main_v82 : Ref sig .tc := ⟨.hbm, 256, rfl⟩
abbrev main_v83 : Ref sig .tc := ⟨.hbm, 257, rfl⟩
abbrev main_cst_13 : Ref sig .tc := ⟨.hbm, 258, rfl⟩
abbrev main_v84 : Ref sig .tc := ⟨.hbm, 259, rfl⟩
abbrev main_v85 : Ref sig .tc := ⟨.hbm, 260, rfl⟩
abbrev main_call15_cst : Ref sig .tc := ⟨.hbm, 261, rfl⟩
abbrev main_call15_v0 : Ref sig .tc := ⟨.hbm, 262, rfl⟩
abbrev main_v86 : Ref sig .tc := ⟨.hbm, 263, rfl⟩
abbrev main_cst_14 : Ref sig .tc := ⟨.hbm, 264, rfl⟩
abbrev main_v87 : Ref sig .tc := ⟨.hbm, 265, rfl⟩
abbrev main_cst_15 : Ref sig .tc := ⟨.hbm, 266, rfl⟩
abbrev main_v88 : Ref sig .tc := ⟨.hbm, 267, rfl⟩
abbrev main_v89 : Ref sig .tc := ⟨.hbm, 268, rfl⟩
abbrev main_v90 : Ref sig .tc := ⟨.hbm, 269, rfl⟩
abbrev main_v91 : Ref sig .tc := ⟨.hbm, 270, rfl⟩
abbrev main_v92 : Ref sig .tc := ⟨.hbm, 271, rfl⟩
abbrev main_v93 : Ref sig .tc := ⟨.hbm, 272, rfl⟩
abbrev main_v94 : Ref sig .tc := ⟨.hbm, 273, rfl⟩
abbrev main_v95 : Ref sig .tc := ⟨.hbm, 274, rfl⟩
abbrev main_v96 : Ref sig .tc := ⟨.hbm, 275, rfl⟩

abbrev nD : Nat := 1
abbrev τ : Topo := Topo.v7x

variable {F : FTy → Type} [FloatOps F]
-- ==== Proof.Pre.Facts.lean ====
/-
  The side conditions that the two preconditions state, proved; and what `labels_in_range` says: every label is a number
  below 32.
-/
module

public import proofs.«01_k».proof.Pre_labels_in_range
public import proofs.«01_k».proof.Pre_indices_in_range_and_finite
public import Idealize.ShloMosaic.Lib.Pointwise
public import Idealize.ShloMosaic.Lib.ReduceAll
public import Idealize.ShloMosaic.Lib.StableHlo.Predicate

@[expose] public section

set_option maxRecDepth 16384

namespace Cert.Pre

open Idealize.ShloMosaic

instance labels_facts : Cert.Pre_labels_in_range.Facts where
  bcast_S_S16384 := by decide
  reducesTo_S16384_S_d0 := by decide
  h_S_ := by decide

instance all_facts : Cert.Pre_indices_in_range_and_finite.Facts where
  slices_S16384x2_S16384x1_0_0 := by decide
  shapeCasts_S16384x1_S16384 := by decide
  slices_S16384x2_S16384x1_0_1 := by decide
  bcast_S_S16384 := by decide
  reducesTo_S16384_S_d0 := by decide
  h_S_ := by decide
  bcast_S_S4096x32 := by decide
  reducesTo_S4096x32_S_d0_1 := by decide
  bcast_S_S16384x32 := by decide
  reducesTo_S16384x32_S_d0_1 := by decide
  bcast_S_S32x32 := by decide
  reducesTo_S32x32_S_d0_1 := by decide
  bcast_S_S32x16 := by decide
  reducesTo_S32x16_S_d0_1 := by decide
  bcast_S_S16x16 := by decide
  reducesTo_S16x16_S_d0_1 := by decide

/-- A word that is at least zero and below `n` is a number below `n`. -/
theorem number_of_range {n : ℕ} (hn : n < 2 ^ 31) (w : BitVec 32)
    (h : IntOp.andi (IntOp.cmpi .sge w 0#32) (IntOp.cmpi .slt w (BitVec.ofNat 32 n)) = 1#1) : w.toNat < n := by
  have key : (0#32).sle w = true ∧ w.slt (BitVec.ofNat 32 n) = true := by
    change IntOp.andi (BitVec.ofBool ((0#32).sle w)) (BitVec.ofBool (w.slt (BitVec.ofNat 32 n))) = 1#1 at h
    revert h
    cases (0#32).sle w <;> cases w.slt (BitVec.ofNat 32 n) <;> decide
  rw [BitVec.sle_eq_decide, BitVec.slt_eq_decide, decide_eq_true_eq, decide_eq_true_eq, StableHlo.Predicate.toInt_ofNat_small _ hn] at key
  have h1 : (0#32 : BitVec 32).toInt = 0 := rfl
  rw [h1, BitVec.toInt_eq_toNat_cond] at key
  split at key <;> omega

/-- An `and` of a range test over a vector of words says that each is a number below the bound. -/
theorem numbers {N n : ℕ} (hn : n < 2 ^ 31) (x : IVec (⟨1, ![N]⟩ : Shape) 32) (z b : IVec (⟨1, ![N]⟩ : Shape) 32)
    (hz : ∀ i, z i = 0#32) (hb : ∀ i, b i = BitVec.ofNat 32 n) (init : IVec (⟨0, ![]⟩ : Shape) 1)
    (hr : (⟨1, ![N]⟩ : Shape).ReducesTo [0] ⟨0, ![]⟩) (hu : 0 < (⟨0, ![]⟩ : Shape).numel)
    (h : Host.reduce IntOp.andi (andi (cmpi .sge x z) (cmpi .slt x b)) init hr hu ix0 = 1#1) :
    ∃ f : Fin N → Fin n, ∀ p, x (ix1 p) = BitVec.ofNat 32 (f p).val := by
  have key : ∀ i, (andi (cmpi .sge x z) (cmpi .slt x b)) i = 1#1 :=
    Host.reduce_andi_all _ _ hr hu ix0 h
  have hlt : ∀ p, (x (ix1 p)).toNat < n := fun p => number_of_range hn _ (by
    have := key (ix1 p)
    rw [← hz (ix1 p), ← hb (ix1 p)]; exact this)
  exact ⟨fun p => ⟨(x (ix1 p)).toNat, hlt p⟩, fun p => by simp⟩

end Cert.Pre
-- ==== Proof.Pre.All.lean ====
/-
  The two preconditions read off their printed functions: which words are numbers below a bound, which arrays hold reals only.
-/
module

public import proofs.«01_k».proof.Defs
public import proofs.«01_k».proof.Proof.Pre.Facts

@[expose] public section

set_option maxRecDepth 16384

namespace Cert.Pre

open Idealize.ShloMosaic

/-- Every entry of the array is a real number. -/
def Real {s : Shape} (x : FVec Ideal s .f32) : Prop := ∀ i, ∃ r : ℝ, x i = (r : EReal)

/-- An extended real whose absolute value is below `+∞` is a real. -/
theorem real_of_abs_lt {x : EReal} (h : max x (-x) < ⊤) : ∃ r : ℝ, x = (r : EReal) := by
  induction x using EReal.rec with
  | bot => simp at h
  | top => simp at h
  | coe r => exact ⟨r, rfl⟩

/-- The printed test `all (|x| < ∞)` says that every entry is a real. -/
theorem real_of_test {n k : ℕ} (hr : (⟨2, ![n, k]⟩ : Shape).ReducesTo [0, 1] ⟨0, ![]⟩) (x : FVec Ideal ⟨2, ![n, k]⟩ .f32)
    (hb : (⟨0, ![]⟩ : Shape).BroadcastsInDim ⟨2, ![n, k]⟩ (![] : Fin 0 → Fin 2))
    (init : IVec (⟨0, ![]⟩ : Shape) 1) (hu : 0 < (⟨0, ![]⟩ : Shape).numel)
    (h : Host.reduce IntOp.andi (cmpf .olt (Host.absf x) (broadcastInDim ⟨2, ![n, k]⟩ ![] hb (constant ⟨0, ![]⟩ .f32 0x7F800000#32))) init hr hu ix0 = 1#1) :
    Real x := by
  intro i
  have key := Host.reduce_andi_all _ _ hr hu ix0 h i
  have e : (FloatOps.ofBits (F := Ideal) .f32 0x7F800000#32 : EReal) = ⊤ := by
    show Ideal.ofBits .f32 0x7F800000#32 = ⊤
    simp [Ideal.ofBits, Ideal.ieee]
  change BitVec.ofBool (decide (max (x i) (-(x i)) < (FloatOps.ofBits (F := Ideal) .f32 0x7F800000#32 : EReal))) = 1#1 at key
  rw [e, StableHlo.Predicate.ofBool_eq_one_iff, decide_eq_true_eq] at key
  exact real_of_abs_lt key

/-- The words of one column of the edge list, as the printed slice and reshape give them. -/
theorem column_at {j : ℕ} (hj : j < 2) (x : IVec (⟨2, ![16384, 2]⟩ : Shape) 32)
    (hs : (⟨2, ![16384, 2]⟩ : Shape).Slices ![0, j] ⟨2, ![16384, 1]⟩) (hc : (⟨2, ![16384, 1]⟩ : Shape).ShapeCasts ⟨1, ![16384]⟩) (p : Fin 16384) :
    shapeCast ⟨1, ![16384]⟩ (extractStridedSlice ⟨2, ![16384, 1]⟩ ![0, j] x hs) hc (ix1 p) = x (ix2 p ⟨j, hj⟩) := by
  rw [shapeCast_apply _ hc (ix1 p) (ix2 p 0) (by rw [Shape.rowMajor_val_two, Shape.rowMajor_val_one]; simp)]
  exact extractStridedSlice_apply _ x hs _ _ fun a => by match a with | ⟨0, _⟩ => simp | ⟨1, _⟩ => simp

/-- What the two preconditions say of the labels. -/
theorem labels_of_range {x0 x1 x2 x3 x4 x5 x6 x7 x8 x9 x10 x11 x12}
    (h : Pre_labels_in_range.fn (F := Bits) x0 x1 x2 x3 x4 x5 x6 x7 x8 x9 x10 x11 x12 = fun _ => 1#1) :
    ∃ l : Fin 16384 → Fin 32, ∀ p, x3 (ix1 p) = BitVec.ofNat 32 (l p).val := by
  have key := congrFun h ix0
  unfold Pre_labels_in_range.fn at key
  exact numbers (n := 32) (by norm_num) _ _ _ (fun _ => rfl) (fun _ => rfl) _ _ _ key

theorem labels_of_range_ideal {x0 x1 x2 x3 x4 x5 x6 x7 x8 x9 x10 x11 x12}
    (h : Pre_labels_in_range.fn (F := Ideal) x0 x1 x2 x3 x4 x5 x6 x7 x8 x9 x10 x11 x12 = fun _ => 1#1) :
    ∃ l : Fin 16384 → Fin 32, ∀ p, x3 (ix1 p) = BitVec.ofNat 32 (l p).val := by
  have key := congrFun h ix0
  unfold Pre_labels_in_range.fn at key
  exact numbers (n := 32) (by norm_num) _ _ _ (fun _ => rfl) (fun _ => rfl) _ _ _ key

/-- What the value claim's precondition says of the thirteen arguments. -/
structure Good (x0 : FVec Ideal ⟨2, ![4096, 32]⟩ .f32) (x1 : FVec Ideal ⟨2, ![16384, 32]⟩ .f32) (x2 : IVec ⟨2, ![16384, 2]⟩ 32) (x3 : IVec ⟨1, ![16384]⟩ 32)
    (x4 : FVec Ideal ⟨2, ![32, 32]⟩ .f32) (x5 x6 x7 x8 : FVec Ideal ⟨2, ![32, 16]⟩ .f32) (x9 x10 : FVec Ideal ⟨2, ![16, 16]⟩ .f32) : Prop where
  labels : ∃ l : Fin 16384 → Fin 32, ∀ p, x3 (ix1 p) = BitVec.ofNat 32 (l p).val
  sources : ∃ s : Fin 16384 → Fin 4096, ∀ p, x2 (ix2 p 0) = BitVec.ofNat 32 (s p).val
  targets : ∃ d : Fin 16384 → Fin 16384, ∀ p, x2 (ix2 p 1) = BitVec.ofNat 32 (d p).val
  users : Real x0
  movies : Real x1
  genres : Real x4
  wu1s : Real x5
  wu1n : Real x6
  wm1s : Real x7
  wm1n : Real x8
  wu2 : Real x9
  wm2 : Real x10

/-- Both sides of an `and` that is true. -/
theorem both {a b : IVec (⟨0, ![]⟩ : Shape) 1} (h : andi a b ix0 = 1#1) : a ix0 = 1#1 ∧ b ix0 = 1#1 :=
  IntOp.andi_eq_one.mp h

theorem good_of_pre {x0 x1 x2 x3 x4 x5 x6 x7 x8 x9 x10 x11 x12}
    (h : Pre_indices_in_range_and_finite.fn (F := Ideal) x0 x1 x2 x3 x4 x5 x6 x7 x8 x9 x10 x11 x12 = fun _ => 1#1) :
    Good x0 x1 x2 x3 x4 x5 x6 x7 x8 x9 x10 := by
  have h10 := both (congrFun h ix0)
  have h9 := both h10.1
  have h8 := both h9.1
  have h7 := both h8.1
  have h6 := both h7.1
  have h5 := both h6.1
  have h4 := both h5.1
  have h1 := both h4.1
  have h0 := both h1.1
  have hd := both h0.1
  have hs := both hd.1
  obtain ⟨s, es⟩ := numbers (n := 4096) (by norm_num) _ _ _ (fun _ => rfl) (fun _ => rfl) _ _ _ hs.2
  obtain ⟨d, ed⟩ := numbers (n := 16384) (by norm_num) _ _ _ (fun _ => rfl) (fun _ => rfl) _ _ _ hd.2
  exact ⟨numbers (n := 32) (by norm_num) _ _ _ (fun _ => rfl) (fun _ => rfl) _ _ _ hs.1,
    ⟨s, fun p => (column_at (by norm_num) _ _ _ p).symm.trans (es p)⟩, ⟨d, fun p => (column_at (by norm_num) _ _ _ p).symm.trans (ed p)⟩,
    real_of_test (by decide) _ _ _ _ h0.2, real_of_test (by decide) _ _ _ _ h1.2, real_of_test (by decide) _ _ _ _ h4.2, real_of_test (by decide) _ _ _ _ h5.2, real_of_test (by decide) _ _ _ _ h6.2,
    real_of_test (by decide) _ _ _ _ h7.2, real_of_test (by decide) _ _ _ _ h8.2, real_of_test (by decide) _ _ _ _ h9.2, real_of_test (by decide) _ _ _ _ h10.2⟩

end Cert.Pre
-- ==== Proof.KernelIdeal.Movie.lean ====
/-
  Region 0, the movie tower (`cc0__movie_kernel`, grid of 16 points), entered from ANY contents `V` of the arrays.
  Each point loads its block of 1024 rows of the sorted movie table and of the aggregated messages with the whole weight
  matrices, and overwrites its blocks of the hidden layer and of the score. Here: the body run once, the proof data of the
  region and its body obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Region.Movie

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block of window `w` that point `t` is given: the window's array read through the block. -/
abbrev blk (c : Dev nD) (w : Fin cfg0.W) (t : Fin cfg0.N) :=
  ((cfg0.win w).blk t).view.read (Elt F) (V c (Pipeline.arrRef spec0 w))

/-- The rectangles the body loads and stores, each a whole block. -/
abbrev rRows : Rect S1024x32 := Rect.unit (s := S1024x32) ![0, 0] S1024x32.size inb_S1024x32_S1024x32_0_0
abbrev rSq : Rect S32x32 := Rect.unit (s := S32x32) ![0, 0] S32x32.size inb_S32x32_S32x32_0_0
abbrev rW : Rect S32x16 := Rect.unit (s := S32x16) ![0, 0] S32x16.size inb_S32x16_S32x16_0_0
abbrev rW2 : Rect S16x16 := Rect.unit (s := S16x16) ![0, 0] S16x16.size inb_S16x16_S16x16_0_0
abbrev rH : Rect S1024x16 := Rect.unit (s := S1024x16) ![0, 0] S1024x16.size inb_S1024x16_S1024x16_0_0
abbrev rFc : Rect S16x8 := Rect.unit (s := S16x8) ![0, 0] S16x8.size inb_S16x8_S16x8_0_0
abbrev rS : Rect S1024x8 := Rect.unit (s := S1024x8) ![0, 0] S1024x8.size inb_S1024x8_S1024x8_0_0

/-- The hidden block a point leaves, from the blocks it is given. -/
def outH (x0 : Vec F S1024x32 .f32) (x1 : Vec F S1024x32 .f32) (x2 : Vec F S32x32 .f32) (x3 : Vec F S32x16 .f32) (x4 : Vec F S32x16 .f32) (x5 : Vec F S16x16 .f32) : Vec F S1024x16 .f32 :=
  View.canon [⟨rH, k0_pay1 (View.ld x0 rRows) (View.ld x1 rRows) (View.ld x2 rSq) (View.ld x3 rW) (View.ld x4 rW) (View.ld x5 rW2)⟩]

/-- The score block a point leaves. -/
def outS (x0 : Vec F S1024x32 .f32) (x1 : Vec F S1024x32 .f32) (x2 : Vec F S32x32 .f32) (x3 : Vec F S32x16 .f32) (x4 : Vec F S32x16 .f32) (x5 : Vec F S16x16 .f32) (x6 : Vec F S16x8 .f32) : Vec F S1024x8 .f32 :=
  View.canon [⟨rS, k0_pay2 (View.ld x0 rRows) (View.ld x1 rRows) (View.ld x2 rSq) (View.ld x3 rW) (View.ld x4 rW) (View.ld x5 rW2) (View.ld x6 rFc)⟩]

/-- The store of the hidden block covers it, and so does the store of the score block. -/
theorem coverH (p : Vec F S1024x16 .f32) (y : S1024x16.Idx) :
    ∃ pc ∈ ([⟨rH, p⟩] : List (View.Piece (Elt F) S1024x16 .f32)), y ∈ pc.1.set :=
  View.cover_of_tiled [⟨rH, p⟩] S1024x16.size (by rfl) y
theorem coverS (p : Vec F S1024x8 .f32) (y : S1024x8.Idx) :
    ∃ pc ∈ ([⟨rS, p⟩] : List (View.Piece (Elt F) S1024x8 .f32)), y ∈ pc.1.set :=
  View.cover_of_tiled [⟨rS, p⟩] S1024x8.size (by rfl) y

set_option maxHeartbeats 1000000 in
/-- The body on whole buffers: the inputs come back as they were, the two outputs hold `outH` and `outS`. -/
theorem body_wp (c : Dev nD) (E : Set ℕ) (i : grid0.Coords) (a1 : Memref sig .tc .vmem S1024x32 .f32) (h1 : a1.IsWhole) (a2 : Memref sig .tc .vmem S1024x32 .f32) (h2 : a2.IsWhole) (a3 : Memref sig .tc .vmem S32x32 .f32) (h3 : a3.IsWhole) (a4 : Memref sig .tc .vmem S32x16 .f32) (h4 : a4.IsWhole) (a5 : Memref sig .tc .vmem S32x16 .f32) (h5 : a5.IsWhole) (a6 : Memref sig .tc .vmem S16x16 .f32) (h6 : a6.IsWhole) (a7 : Memref sig .tc .vmem S16x8 .f32) (h7 : a7.IsWhole) (a8 : Memref sig .tc .vmem S1024x16 .f32) (h8 : a8.IsWhole) (a9 : Memref sig .tc .vmem S1024x8 .f32) (h9 : a9.IsWhole)
    (x0 : Vec F S1024x32 .f32) (x1 : Vec F S1024x32 .f32) (x2 : Vec F S32x32 .f32) (x3 : Vec F S32x16 .f32) (x4 : Vec F S32x16 .f32) (x5 : Vec F S16x16 .f32) (x6 : Vec F S16x8 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ d, owns (c : Thread nD τ) a8 fullShare d) ∗ (∃ d, owns (c : Thread nD τ) a9 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare (outH x0 x1 x2 x3 x4 x5) ∗ owns (c : Thread nD τ) a9 fullShare (outS x0 x1 x2 x3 x4 x5 x6)) -∗ K ⟨⟩))
      ⊢ wp frame (wpE (defs₀ (F := F)) Variants.none c none) E (cc0__movie_kernel i a1 h1 a2 h2 a3 h3 a4 h4 a5 h5 a6 h6 a7 h7 a8 h8 a9 h9) K := by
  simp only [cc0__movie_kernel_eq_skeleton]; unfold cc0__movie_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]
  · iexists _; isplitr
    swap; · iexact H7
    ipureintro
    exact View.read_writes_eq_canon _ _ _ (coverH _)
  iexists _; isplitr
  swap; · iexact H8
  ipureintro
  exact View.read_writes_eq_canon _ _ _ (coverS _)

/-- The proof data of the region entered from `V`: arrays at `V`, inputs' buffers left at their blocks, outputs' at `outH`
    and `outS` of the input blocks, the buffers no window stages untouched. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => outH (blk V c 0 t) (blk V c 1 t) (blk V c 2 t) (blk V c 3 t) (blk V c 4 t) (blk V c 5 t)
    | ⟨8, _⟩ => outS (blk V c 0 t) (blk V c 1 t) (blk V c 2 t) (blk V c 3 t) (blk V c 4 t) (blk V c 5 t) (blk V c 6 t)
  Φ _ := Pipeline.scopedRest (Ix := Unit) (Name := ℕ) (U := UR sig nD τ) (Lvl := ℕ) (Val := Elt F) spec0 c
  q _ := fullShare
  owed _ := 0

theorem dat_A (c : Dev nD) (w : Fin cfg0.W) : (dat V c).A w = V c (Pipeline.arrRef spec0 w) := by dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) : (dat V c).after 5 t = blk V c 5 t := by dsimp only [dat]
theorem after_6 (c : Dev nD) (t : Fin cfg0.N) : (dat V c).after 6 t = blk V c 6 t := by dsimp only [dat]
theorem after_7 (c : Dev nD) (t : Fin cfg0.N) : (dat V c).after 7 t = outH (blk V c 0 t) (blk V c 1 t) (blk V c 2 t) (blk V c 3 t) (blk V c 4 t) (blk V c 5 t) := by dsimp only [dat]
theorem after_8 (c : Dev nD) (t : Fin cfg0.N) : (dat V c).after 8 t = outS (blk V c 0 t) (blk V c 1 t) (blk V c 2 t) (blk V c 3 t) (blk V c 4 t) (blk V c 5 t) (blk V c 6 t) := by dsimp only [dat]

/-- An input window's buffer holds its block whenever the body runs, fetched at that point or kept. -/
theorem before_0 (c : Dev nD) (t : Fin cfg0.N) (d) : (dat V c).before 0 t d = blk V c 0 t :=
  (dat V c).before_in_eq_fetched 0 rfl (fun _ => rfl) (fun _ _ _ => rfl) (fun t => by rw [after_0]; unfold Dat.blockOf blk; rw [dat_A]) t d |>.trans
    (by unfold Dat.fetched Dat.blockOf blk; rw [dat_A]; rfl)
theorem before_1 (c : Dev nD) (t : Fin cfg0.N) (d) : (dat V c).before 1 t d = blk V c 1 t :=
  (dat V c).before_in_eq_fetched 1 rfl (fun _ => rfl) (fun _ _ _ => rfl) (fun t => by rw [after_1]; unfold Dat.blockOf blk; rw [dat_A]) t d |>.trans
    (by unfold Dat.fetched Dat.blockOf blk; rw [dat_A]; rfl)
theorem before_2 (c : Dev nD) (t : Fin cfg0.N) (d) : (dat V c).before 2 t d = blk V c 2 t :=
  (dat V c).before_in_eq_fetched 2 rfl (fun _ => rfl) (fun _ _ _ => rfl) (fun t => by rw [after_2]; unfold Dat.blockOf blk; rw [dat_A]) t d |>.trans
    (by unfold Dat.fetched Dat.blockOf blk; rw [dat_A]; rfl)
theorem before_3 (c : Dev nD) (t : Fin cfg0.N) (d) : (dat V c).before 3 t d = blk V c 3 t :=
  (dat V c).before_in_eq_fetched 3 rfl (fun _ => rfl) (fun _ _ _ => rfl) (fun t => by rw [after_3]; unfold Dat.blockOf blk; rw [dat_A]) t d |>.trans
    (by unfold Dat.fetched Dat.blockOf blk; rw [dat_A]; rfl)
theorem before_4 (c : Dev nD) (t : Fin cfg0.N) (d) : (dat V c).before 4 t d = blk V c 4 t :=
  (dat V c).before_in_eq_fetched 4 rfl (fun _ => rfl) (fun _ _ _ => rfl) (fun t => by rw [after_4]; unfold Dat.blockOf blk; rw [dat_A]) t d |>.trans
    (by unfold Dat.fetched Dat.blockOf blk; rw [dat_A]; rfl)
theorem before_5 (c : Dev nD) (t : Fin cfg0.N) (d) : (dat V c).before 5 t d = blk V c 5 t :=
  (dat V c).before_in_eq_fetched 5 rfl (fun _ => rfl) (fun _ _ _ => rfl) (fun t => by rw [after_5]; unfold Dat.blockOf blk; rw [dat_A]) t d |>.trans
    (by unfold Dat.fetched Dat.blockOf blk; rw [dat_A]; rfl)
theorem before_6 (c : Dev nD) (t : Fin cfg0.N) (d) : (dat V c).before 6 t d = blk V c 6 t :=
  (dat V c).before_in_eq_fetched 6 rfl (fun _ => rfl) (fun _ _ _ => rfl) (fun t => by rw [after_6]; unfold Dat.blockOf blk; rw [dat_A]) t d |>.trans
    (by unfold Dat.fetched Dat.blockOf blk; rw [dat_A]; rfl)

/-- What the body is called with at point `t`, window by window, and what it returns. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d)))
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t))

/-- The body at a point: its inputs hold their blocks, so `body_wp` applies; the rest passes through. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_wp c Set.univ (grid0.coords t) _ _ _ _ _ _ _ _ _ _ _ _ _ _ _ _ _ _ (blk V c 0 t) (blk V c 1 t) (blk V c 2 t) (blk V c 3 t) (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body the pipeline calls at point `t` is the one `body_at` speaks of. -/
theorem row (t : Fin cfg0.N) :
    defs₀ (F := F) .tc cfg0.body (cfg0.bodyArgs t (cfg0.slots t)) = bodyAt0 t := by
  unfold defs₀; rw [Defs.onTc_tc]

/-- The body obligation of the region. -/
theorem body_obligation (c : Dev nD) : BodyObligation (dat (F := F) V c) (defs₀ (F := F)) Variants.none () Set.univ := fun t => by
  rw [bigSep_W0, bigSep_W0, row]
  exact triple_restated (body_at V c t) rfl .rfl fun _ => .rfl

end Cert.KernelIdeal.Region.Movie

end
-- ==== Proof.KernelIdeal.User.lean ====
/-
  Region 1, the user tower (`cc1__user_kernel`, grid of 4 points), entered from ANY contents `V` of the arrays.
  Each point loads its block of 1024 user rows and of the aggregated messages with the whole weight matrices, and overwrites its blocks of the hidden layer and of the score. Here: the body run once, the proof data of the
  region and its body obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Region.User

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block of window `w` that point `t` is given: the window's array read through the block. -/
abbrev blk (c : Dev nD) (w : Fin cfg1.W) (t : Fin cfg1.N) :=
  ((cfg1.win w).blk t).view.read (Elt F) (V c (Pipeline.arrRef spec1 w))

/-- The rectangles the body loads and stores, each a whole block. -/
abbrev rRows : Rect S1024x32 := Rect.unit (s := S1024x32) ![0, 0] S1024x32.size inb_S1024x32_S1024x32_0_0
abbrev rW : Rect S32x16 := Rect.unit (s := S32x16) ![0, 0] S32x16.size inb_S32x16_S32x16_0_0
abbrev rW2 : Rect S16x16 := Rect.unit (s := S16x16) ![0, 0] S16x16.size inb_S16x16_S16x16_0_0
abbrev rH : Rect S1024x16 := Rect.unit (s := S1024x16) ![0, 0] S1024x16.size inb_S1024x16_S1024x16_0_0
abbrev rFc : Rect S16x8 := Rect.unit (s := S16x8) ![0, 0] S16x8.size inb_S16x8_S16x8_0_0
abbrev rS : Rect S1024x8 := Rect.unit (s := S1024x8) ![0, 0] S1024x8.size inb_S1024x8_S1024x8_0_0

/-- The hidden block a point leaves, from the blocks it is given. -/
def outH (x0 : Vec F S1024x32 .f32) (x1 : Vec F S1024x32 .f32) (x2 : Vec F S32x16 .f32) (x3 : Vec F S32x16 .f32) (x4 : Vec F S16x16 .f32) : Vec F S1024x16 .f32 :=
  View.canon [⟨rH, k1_pay1 (View.ld x0 rRows) (View.ld x2 rW) (View.ld x1 rRows) (View.ld x3 rW) (View.ld x4 rW2)⟩]

/-- The score block a point leaves. -/
def outS (x0 : Vec F S1024x32 .f32) (x1 : Vec F S1024x32 .f32) (x2 : Vec F S32x16 .f32) (x3 : Vec F S32x16 .f32) (x4 : Vec F S16x16 .f32) (x5 : Vec F S16x8 .f32) : Vec F S1024x8 .f32 :=
  View.canon [⟨rS, k1_pay2 (View.ld x0 rRows) (View.ld x2 rW) (View.ld x1 rRows) (View.ld x3 rW) (View.ld x4 rW2) (View.ld x5 rFc)⟩]

/-- The store of the hidden block covers it, and so does the store of the score block. -/
theorem coverH (p : Vec F S1024x16 .f32) (y : S1024x16.Idx) :
    ∃ pc ∈ ([⟨rH, p⟩] : List (View.Piece (Elt F) S1024x16 .f32)), y ∈ pc.1.set :=
  View.cover_of_tiled [⟨rH, p⟩] S1024x16.size (by rfl) y
theorem coverS (p : Vec F S1024x8 .f32) (y : S1024x8.Idx) :
    ∃ pc ∈ ([⟨rS, p⟩] : List (View.Piece (Elt F) S1024x8 .f32)), y ∈ pc.1.set :=
  View.cover_of_tiled [⟨rS, p⟩] S1024x8.size (by rfl) y

set_option maxHeartbeats 1000000 in
/-- The body on whole buffers: the inputs come back as they were, the two outputs hold `outH` and `outS`. -/
theorem body_wp (c : Dev nD) (E : Set ℕ) (i : grid1.Coords) (a1 : Memref sig .tc .vmem S1024x32 .f32) (h1 : a1.IsWhole) (a2 : Memref sig .tc .vmem S1024x32 .f32) (h2 : a2.IsWhole) (a3 : Memref sig .tc .vmem S32x16 .f32) (h3 : a3.IsWhole) (a4 : Memref sig .tc .vmem S32x16 .f32) (h4 : a4.IsWhole) (a5 : Memref sig .tc .vmem S16x16 .f32) (h5 : a5.IsWhole) (a6 : Memref sig .tc .vmem S16x8 .f32) (h6 : a6.IsWhole) (a7 : Memref sig .tc .vmem S1024x16 .f32) (h7 : a7.IsWhole) (a8 : Memref sig .tc .vmem S1024x8 .f32) (h8 : a8.IsWhole)
    (x0 : Vec F S1024x32 .f32) (x1 : Vec F S1024x32 .f32) (x2 : Vec F S32x16 .f32) (x3 : Vec F S32x16 .f32) (x4 : Vec F S16x16 .f32) (x5 : Vec F S16x8 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ (∃ d, owns (c : Thread nD τ) a7 fullShare d) ∗ (∃ d, owns (c : Thread nD τ) a8 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare (outH x0 x1 x2 x3 x4) ∗ owns (c : Thread nD τ) a8 fullShare (outS x0 x1 x2 x3 x4 x5)) -∗ K ⟨⟩))
      ⊢ wp frame (wpE (defs₀ (F := F)) Variants.none c none) E (cc1__user_kernel i a1 h1 a2 h2 a3 h3 a4 h4 a5 h5 a6 h6 a7 h7 a8 h8) K := by
  simp only [cc1__user_kernel_eq_skeleton]; unfold cc1__user_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]
  · iexists _; isplitr
    swap; · iexact H6
    ipureintro
    exact View.read_writes_eq_canon _ _ _ (coverH _)
  iexists _; isplitr
  swap; · iexact H7
  ipureintro
  exact View.read_writes_eq_canon _ _ _ (coverS _)

/-- The proof data of the region entered from `V`: arrays at `V`, inputs' buffers left at their blocks, outputs' at `outH`
    and `outS` of the input blocks, the buffers no window stages untouched. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => outH (blk V c 0 t) (blk V c 1 t) (blk V c 2 t) (blk V c 3 t) (blk V c 4 t)
    | ⟨7, _⟩ => outS (blk V c 0 t) (blk V c 1 t) (blk V c 2 t) (blk V c 3 t) (blk V c 4 t) (blk V c 5 t)
  Φ _ := Pipeline.scopedRest (Ix := Unit) (Name := ℕ) (U := UR sig nD τ) (Lvl := ℕ) (Val := Elt F) spec1 c
  q _ := fullShare
  owed _ := 0

theorem dat_A (c : Dev nD) (w : Fin cfg1.W) : (dat V c).A w = V c (Pipeline.arrRef spec1 w) := by dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = blk V c 5 t := by dsimp only [dat]
theorem after_6 (c : Dev nD) (t : Fin cfg1.N) : (dat V c).after 6 t = outH (blk V c 0 t) (blk V c 1 t) (blk V c 2 t) (blk V c 3 t) (blk V c 4 t) := by dsimp only [dat]
theorem after_7 (c : Dev nD) (t : Fin cfg1.N) : (dat V c).after 7 t = outS (blk V c 0 t) (blk V c 1 t) (blk V c 2 t) (blk V c 3 t) (blk V c 4 t) (blk V c 5 t) := by dsimp only [dat]

/-- An input window's buffer holds its block whenever the body runs, fetched at that point or kept. -/
theorem before_0 (c : Dev nD) (t : Fin cfg1.N) (d) : (dat V c).before 0 t d = blk V c 0 t :=
  (dat V c).before_in_eq_fetched 0 rfl (fun _ => rfl) (fun _ _ _ => rfl) (fun t => by rw [after_0]; unfold Dat.blockOf blk; rw [dat_A]) t d |>.trans
    (by unfold Dat.fetched Dat.blockOf blk; rw [dat_A]; rfl)
theorem before_1 (c : Dev nD) (t : Fin cfg1.N) (d) : (dat V c).before 1 t d = blk V c 1 t :=
  (dat V c).before_in_eq_fetched 1 rfl (fun _ => rfl) (fun _ _ _ => rfl) (fun t => by rw [after_1]; unfold Dat.blockOf blk; rw [dat_A]) t d |>.trans
    (by unfold Dat.fetched Dat.blockOf blk; rw [dat_A]; rfl)
theorem before_2 (c : Dev nD) (t : Fin cfg1.N) (d) : (dat V c).before 2 t d = blk V c 2 t :=
  (dat V c).before_in_eq_fetched 2 rfl (fun _ => rfl) (fun _ _ _ => rfl) (fun t => by rw [after_2]; unfold Dat.blockOf blk; rw [dat_A]) t d |>.trans
    (by unfold Dat.fetched Dat.blockOf blk; rw [dat_A]; rfl)
theorem before_3 (c : Dev nD) (t : Fin cfg1.N) (d) : (dat V c).before 3 t d = blk V c 3 t :=
  (dat V c).before_in_eq_fetched 3 rfl (fun _ => rfl) (fun _ _ _ => rfl) (fun t => by rw [after_3]; unfold Dat.blockOf blk; rw [dat_A]) t d |>.trans
    (by unfold Dat.fetched Dat.blockOf blk; rw [dat_A]; rfl)
theorem before_4 (c : Dev nD) (t : Fin cfg1.N) (d) : (dat V c).before 4 t d = blk V c 4 t :=
  (dat V c).before_in_eq_fetched 4 rfl (fun _ => rfl) (fun _ _ _ => rfl) (fun t => by rw [after_4]; unfold Dat.blockOf blk; rw [dat_A]) t d |>.trans
    (by unfold Dat.fetched Dat.blockOf blk; rw [dat_A]; rfl)
theorem before_5 (c : Dev nD) (t : Fin cfg1.N) (d) : (dat V c).before 5 t d = blk V c 5 t :=
  (dat V c).before_in_eq_fetched 5 rfl (fun _ => rfl) (fun _ _ _ => rfl) (fun t => by rw [after_5]; unfold Dat.blockOf blk; rw [dat_A]) t d |>.trans
    (by unfold Dat.fetched Dat.blockOf blk; rw [dat_A]; rfl)

/-- What the body is called with at point `t`, window by window, and what it returns. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t))

/-- The body at a point: its inputs hold their blocks, so `body_wp` applies; the rest passes through. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_wp c Set.univ (grid1.coords t) _ _ _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body the pipeline calls at point `t` is the one `body_at` speaks of. -/
theorem row (t : Fin cfg1.N) :
    defs₀ (F := F) .tc cfg1.body (cfg1.bodyArgs t (cfg1.slots t)) = bodyAt1 t := by
  unfold defs₀; rw [Defs.onTc_tc]

/-- The body obligation of the region. -/
theorem body_obligation (c : Dev nD) : BodyObligation (dat (F := F) V c) (defs₀ (F := F)) Variants.none () Set.univ := fun t => by
  rw [bigSep_W1, bigSep_W1, row]
  exact triple_restated (body_at V c t) rfl .rfl fun _ => .rfl

end Cert.KernelIdeal.Region.User

end
-- ==== Proof.KernelIdeal.Mine.lean ====
/-
  Region 2, the mining kernel (`cc2__mine_kernel`, grid of 4 by 16 points), entered from ANY contents `V` of the arrays.
  Point (ub, mb) takes the user block ub, the block mb of the sorted movies and that block's column of the transposed
  one-hot table, and lowers, genre by genre from the word `lo` to the word `hi` of the block, the running minima its output
  block holds; at mb = 0 the minima start at the named constant. Here: the body run once, the proof data of the region and
  its body obligation, under the side condition the body assumes of the two words.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Region.Mine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The rectangles the body loads and stores: whole blocks, one word of a table, one row of the one-hot block. -/
abbrev rH : Rect S1024x16 := Rect.unit (s := S1024x16) ![0, 0] S1024x16.size inb_S1024x16_S1024x16_0_0
abbrev rO : Rect S1024x32 := Rect.unit (s := S1024x32) ![0, 0] S1024x32.size inb_S1024x32_S1024x32_0_0
abbrev rWord (i : grid2.Coords) : Rect S16 := Rect.unit (s := S16) (k2_off1 i) S1.size (k2_off1_inb i)
abbrev rRow (lo hi : BitVec 32) (hw : k2_chk1 lo hi) (k : Fin (k2_t1_loop lo hi).trips) : Rect S32x1024 :=
  Rect.unit (s := S32x1024) (k2_off2 lo hi k) S1x1024.size (k2_off2_inb lo hi hw k)

/-- The word of a table that point `i` reads. -/
def word (x : Vec F S16 .i32) (i : grid2.Coords) : BitVec 32 := View.ld x (rWord i) (Shape.Idx.first (numel1_S1.symm ▸ Nat.one_pos))

/-- The minima after the first `k` genres of the point. -/
def scan (hu hm : Vec F S1024x16 .f32) (oh : Vec F S32x1024 .f32) (lo hi : BitVec 32) (hw : k2_chk1 lo hi)
    (init : Vec F S1024x32 .f32) : ℕ → FVec F S1024x32 .f32
  | 0 => k2_pay3 init
  | k + 1 => if h : k < (k2_t1_loop lo hi).trips then
      k2_pay4 hu hm lo hi ⟨k, h⟩ (scan hu hm oh lo hi hw init k) (View.ld oh (rRow lo hi hw ⟨k, h⟩))
    else scan hu hm oh lo hi hw init k

theorem hz : (![0, 0] : Fin 2 → Nat) = fun _ => 0 := funext fun a => by fin_cases a <;> rfl

/-- The store of the output block covers it, whatever was stored before. -/
theorem cover (p : Vec F S1024x32 .f32) (ps : List (View.Piece (Elt F) S1024x32 .f32)) (y : S1024x32.Idx) :
    ∃ pc ∈ ((⟨rO, p⟩ : View.Piece (Elt F) S1024x32 .f32) :: ps), y ∈ pc.1.set := by
  obtain ⟨pc, hpc, hy⟩ := View.cover_of_tiled ([⟨rO, p⟩] : List (View.Piece (Elt F) S1024x32 .f32)) S1024x32.size (by rfl) y
  exact ⟨pc, by rw [List.mem_singleton] at hpc; rw [hpc]; exact List.mem_cons_self, hy⟩

/-- The loop that would take the genres a multiple of the unroll factor leaves over runs no trip. -/
theorem rest_trips (lo hi : BitVec 32) : (k2_t2_loop lo hi).trips = 0 := by
  have e : ∀ x : BitVec 32, Scalar.muli (Scalar.divsi x 1#32) 1#32 = x := fun x => by
    show IntOp.muli (IntOp.divsi .scalar x 1#32) 1#32 = x
    unfold IntOp.muli IntOp.divsi
    rw [if_neg (by unfold IntOp.SDivCorner; simp), BitVec.sdiv_one, BitVec.mul_one]
  show Scf.trips _ _ _ = 0
  dsimp only [k2_t2_loop]
  rw [e]
  unfold Scf.trips
  rw [sub_self]
  rfl

/-- What one trip of the loop yields is the payload at the row it loads. -/
theorem trip_eq (c : Dev nD) (i : grid2.Coords) (a2 : Memref sig .tc .smem S16 .i32) (h2 : a2.IsWhole) (a3 : Memref sig .tc .smem S16 .i32) (h3 : a3.IsWhole) (a4 : Memref sig .tc .vmem S1024x16 .f32) (h4 : a4.IsWhole) (a5 : Memref sig .tc .vmem S1024x16 .f32) (h5 : a5.IsWhole) (a6 : Memref sig .tc .vmem S32x1024 .f32) (h6 : a6.IsWhole) (a7 : Memref sig .tc .vmem S1024x32 .f32) (h7 : a7.IsWhole)
    (hu hm : Vec F S1024x16 .f32) (lo hi : BitVec 32) (hw : k2_chk1 lo hi) (f : BufTy.Contents (Elt F) a6.view.ty) (k : Fin (k2_t1_loop lo hi).trips) (acc : FVec F S1024x32 .f32) :
    tripR_k2_t1 (F := F) Variants.none c none i a2 h2 a3 h3 a4 h4 a5 h5 a6 h6 a7 h7 hu hm lo hi hw f k acc
      = k2_pay4 hu hm lo hi k acc (View.ld (a6.view.read (Elt F) f) (rRow lo hi hw k)) := by
  unfold tripR_k2_t1 trip_k2_t1
  rfl

/-- So the loop's state is `scan`. -/
theorem st_eq (c : Dev nD) (i : grid2.Coords) (a2 : Memref sig .tc .smem S16 .i32) (h2 : a2.IsWhole) (a3 : Memref sig .tc .smem S16 .i32) (h3 : a3.IsWhole) (a4 : Memref sig .tc .vmem S1024x16 .f32) (h4 : a4.IsWhole) (a5 : Memref sig .tc .vmem S1024x16 .f32) (h5 : a5.IsWhole) (a6 : Memref sig .tc .vmem S32x1024 .f32) (h6 : a6.IsWhole) (a7 : Memref sig .tc .vmem S1024x32 .f32) (h7 : a7.IsWhole)
    (hu hm : Vec F S1024x16 .f32) (lo hi : BitVec 32) (hw : k2_chk1 lo hi) (f : BufTy.Contents (Elt F) a6.view.ty) (init : Vec F S1024x32 .f32) (k : ℕ) :
    st_k2_t1 (F := F) Variants.none c none i a2 h2 a3 h3 a4 h4 a5 h5 a6 h6 a7 h7 hu hm lo hi hw f (k2_pay3 init) k
      = scan hu hm (a6.view.read (Elt F) f) lo hi hw init k := by
  induction k with
  | zero => rfl
  | succ k ih =>
    rw [st_k2_t1.eq_2, scan]
    unfold st_k2_t1Step
    by_cases h : k < (k2_t1_loop lo hi).trips
    · rw [dif_pos h, dif_pos h, trip_eq, ih]
    · rw [dif_neg h, dif_neg h, ih]

/-- The whole loop. -/
abbrev mined (hu hm : Vec F S1024x16 .f32) (oh : Vec F S32x1024 .f32) (lo hi : BitVec 32) (hw : k2_chk1 lo hi)
    (init : Vec F S1024x32 .f32) : Vec F S1024x32 .f32 :=
  scan hu hm oh lo hi hw init (k2_t1_loop lo hi).trips

set_option maxHeartbeats 1000000 in
/-- The body at a point of column 0: the minima start at the constant. -/
theorem body_wp_first (c : Dev nD) (E : Set ℕ) (i : grid2.Coords) (a2 : Memref sig .tc .smem S16 .i32) (h2 : a2.IsWhole) (a3 : Memref sig .tc .smem S16 .i32) (h3 : a3.IsWhole) (a4 : Memref sig .tc .vmem S1024x16 .f32) (h4 : a4.IsWhole) (a5 : Memref sig .tc .vmem S1024x16 .f32) (h5 : a5.IsWhole) (a6 : Memref sig .tc .vmem S32x1024 .f32) (h6 : a6.IsWhole) (a7 : Memref sig .tc .vmem S1024x32 .f32) (h7 : a7.IsWhole)
    (x0 x1 : Vec F S16 .i32) (x2 x3 : Vec F S1024x16 .f32) (x4 : Vec F S32x1024 .f32) (x5 : Vec F S1024x32 .f32) (hi : (i 1).val = 0) (hw : k2_chk1 (word x0 i) (word x1 i)) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare (mined x2 x3 x4 _ _ hw k2_pay1)) -∗ K ⟨⟩))
      ⊢ wp frame (wpE (defs₀ (F := F)) Variants.none c none) E (cc2__mine_kernel i a2 h2 a3 h3 a4 h4 a5 h5 a6 h6 a7 h7) K := by
  have hb : Scalar.cmpi .ne (Scalar.extui (Scalar.cmpi .eq (BitVec.ofNat 32 (i 1).val) 0#32)) 0#32 = 1#1 := by rw [hi]; rfl
  simp only [cc2__mine_kernel_eq_skeleton]; unfold cc2__mine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3 hf4 hf5
  sl_exec (disch := first | exact hb | exact hw)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  iexists _; isplitr
  swap; · iexact H5
  ipureintro
  refine (View.read_writes_eq_canon _ _ _ (cover _ _)).trans ?_
  rw [View.canon_cons_unit_zero (S := S1024x32) hz]
  have hr := rest_trips (word (a2.view.read (Elt F) f0) i) (word (a3.view.read (Elt F) f1) i)
  simp only [View.readAt_eq_ld, View.ld_unit_zero (S := S1024x16) hz]
  sl_unfold_words
  rw [View.readCov_unit_zero (S := S1024x32) _ hz]
  refine Eq.trans (b := st_k2_t2 (F := F) Variants.none c none i a2 h2 a3 h3 a4 h4 a5 h5 a6 h6 a7 h7 (a4.view.read (Elt F) f2) (a5.view.read (Elt F) f3) _ _ hw f4 _ (k2_t2_loop (word (a2.view.read (Elt F) f0) i) (word (a3.view.read (Elt F) f1) i)).trips) rfl ?_
  rw [hr, st_k2_t2_zero, st_eq]
  rfl

set_option maxHeartbeats 1000000 in
/-- The body at a later column: the minima go on from what the block holds. -/
theorem body_wp_next (c : Dev nD) (E : Set ℕ) (i : grid2.Coords) (a2 : Memref sig .tc .smem S16 .i32) (h2 : a2.IsWhole) (a3 : Memref sig .tc .smem S16 .i32) (h3 : a3.IsWhole) (a4 : Memref sig .tc .vmem S1024x16 .f32) (h4 : a4.IsWhole) (a5 : Memref sig .tc .vmem S1024x16 .f32) (h5 : a5.IsWhole) (a6 : Memref sig .tc .vmem S32x1024 .f32) (h6 : a6.IsWhole) (a7 : Memref sig .tc .vmem S1024x32 .f32) (h7 : a7.IsWhole)
    (x0 x1 : Vec F S16 .i32) (x2 x3 : Vec F S1024x16 .f32) (x4 : Vec F S32x1024 .f32) (x5 : Vec F S1024x32 .f32) (hi : (i 1).val ≠ 0) (hw : k2_chk1 (word x0 i) (word x1 i)) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare (mined x2 x3 x4 _ _ hw x5)) -∗ K ⟨⟩))
      ⊢ wp frame (wpE (defs₀ (F := F)) Variants.none c none) E (cc2__mine_kernel i a2 h2 a3 h3 a4 h4 a5 h5 a6 h6 a7 h7) K := by
  have hb : ¬Scalar.cmpi .ne (Scalar.extui (Scalar.cmpi .eq (BitVec.ofNat 32 (i 1).val) 0#32)) 0#32 = 1#1 := by
    have hlt : (i 1).val < 16 := (i 1).isLt
    generalize (i 1).val = n at hi hlt
    revert hi; revert hlt; revert n; decide
  simp only [cc2__mine_kernel_eq_skeleton]; unfold cc2__mine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3 hf4 hf5
  sl_exec (disch := first | exact hb | exact hw)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  iexists _; isplitr
  swap; · iexact H5
  ipureintro
  refine (View.read_writes_eq_canon _ _ _ (cover _ _)).trans ?_
  rw [View.canon_cons_unit_zero (S := S1024x32) hz]
  have hr := rest_trips (word (a2.view.read (Elt F) f0) i) (word (a3.view.read (Elt F) f1) i)
  simp only [View.readAt_eq_ld, View.ld_unit_zero (S := S1024x16) hz, View.ld_unit_zero (S := S1024x32) hz]
  sl_unfold_words
  refine Eq.trans (b := st_k2_t2 (F := F) Variants.none c none i a2 h2 a3 h3 a4 h4 a5 h5 a6 h6 a7 h7 (a4.view.read (Elt F) f2) (a5.view.read (Elt F) f3) _ _ hw f4 _ (k2_t2_loop (word (a2.view.read (Elt F) f0) i) (word (a3.view.read (Elt F) f1) i)).trips) rfl ?_
  rw [hr, st_k2_t2_zero, st_eq]
  rfl

/-! ## The proof data, at an entry valuation -/

variable (V : (c : Dev nD) → (b : Ref sig .tc) → Buf (Elt F) ((c : Thread nD τ).loc b))

/-- The block of window `w` that point `t` is given: the window's array read through the block. -/
abbrev blk (c : Dev nD) (w : Fin cfg2.W) (t : Fin cfg2.N) :=
  ((cfg2.win w).blk t).view.read (Elt F) (V c (Pipeline.arrRef spec2 w))

/-- The two words every point reads satisfy the side condition the body assumes of them. -/
def WordsOk : Prop := ∀ (c : Dev nD) (t : Fin cfg2.N),
  k2_chk1 (word (blk V c 0 t) (grid2.coords t)) (word (blk V c 1 t) (grid2.coords t))

variable (hV : WordsOk V)

/-- What point `t` leaves in the output block that holds `prev`. -/
def step (c : Dev nD) (t : Fin cfg2.N) (prev : Vec F S1024x32 .f32) : Vec F S1024x32 .f32 :=
  mined (blk V c 2 t) (blk V c 3 t) (blk V c 4 t) _ _ (hV c t) (if (grid2.coords t 1).val = 0 then k2_pay1 else prev)

/-- What the output block holds after point `n`. -/
def outAt (c : Dev nD) : ℕ → Vec F S1024x32 .f32
  | 0 => step V hV c ⟨0, by decide⟩ k2_pay1
  | n + 1 => if h : n + 1 < cfg2.N then step V hV c ⟨n + 1, h⟩ (outAt c n) else outAt c n

theorem coord_col : ∀ t : Fin grid2.N, (grid2.coords t 1).val = t.val % 16 := by decide

theorem outAt_first (c : Dev nD) (t : Fin cfg2.N) (h : (grid2.coords t 1).val = 0) (prev : Vec F S1024x32 .f32) :
    outAt V hV c t.val = step V hV c t prev := by
  obtain ⟨n, hn⟩ := t
  cases n with
  | zero => unfold outAt step; rw [if_pos h, if_pos h]
  | succ n => rw [outAt, dif_pos hn]; unfold step; rw [if_pos h, if_pos h]

theorem outAt_next (c : Dev nD) (t : Fin cfg2.N) (h : t.val ≠ 0) :
    outAt V hV c t.val = step V hV c t (outAt V hV c (t.val - 1)) := by
  obtain ⟨n, hn⟩ := t
  cases n with
  | zero => exact absurd rfl h
  | succ n => rw [outAt, dif_pos hn]; rfl

/-- The proof data of the region entered from `V`: arrays at `V`, inputs' buffers left at their blocks, the output's at
    `outAt`, the buffers no window stages untouched. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => outAt V hV c t.val
  Φ _ := Pipeline.scopedRest (Ix := Unit) (Name := ℕ) (U := UR sig nD τ) (Lvl := ℕ) (Val := Elt F) spec2 c
  q _ := fullShare
  owed _ := 0

theorem dat_A (c : Dev nD) (w : Fin cfg2.W) : (dat V hV c).A w = V c (Pipeline.arrRef spec2 w) := by dsimp only [dat]
theorem after_0 (c : Dev nD) (t : Fin cfg2.N) : (dat V hV c).after 0 t = blk V c 0 t := by dsimp only [dat]
theorem after_1 (c : Dev nD) (t : Fin cfg2.N) : (dat V hV c).after 1 t = blk V c 1 t := by dsimp only [dat]
theorem after_2 (c : Dev nD) (t : Fin cfg2.N) : (dat V hV c).after 2 t = blk V c 2 t := by dsimp only [dat]
theorem after_3 (c : Dev nD) (t : Fin cfg2.N) : (dat V hV c).after 3 t = blk V c 3 t := by dsimp only [dat]
theorem after_4 (c : Dev nD) (t : Fin cfg2.N) : (dat V hV c).after 4 t = blk V c 4 t := by dsimp only [dat]
theorem after_5 (c : Dev nD) (t : Fin cfg2.N) : (dat V hV c).after 5 t = outAt V hV c t.val := by dsimp only [dat]

/-- An input window's buffer holds its block whenever the body runs, fetched at that point or kept. -/
theorem before_0 (c : Dev nD) (t : Fin cfg2.N) (d) : (dat V hV c).before 0 t d = blk V c 0 t :=
  (dat V hV c).before_in_eq_fetched 0 rfl (fun _ => rfl) (fun _ _ _ => rfl) (fun t => by rw [after_0]; unfold Dat.blockOf blk; rw [dat_A]) t d |>.trans
    (by unfold Dat.fetched Dat.blockOf blk; rw [dat_A]; rfl)
theorem before_1 (c : Dev nD) (t : Fin cfg2.N) (d) : (dat V hV c).before 1 t d = blk V c 1 t :=
  (dat V hV c).before_in_eq_fetched 1 rfl (fun _ => rfl) (fun _ _ _ => rfl) (fun t => by rw [after_1]; unfold Dat.blockOf blk; rw [dat_A]) t d |>.trans
    (by unfold Dat.fetched Dat.blockOf blk; rw [dat_A]; rfl)
theorem before_2 (c : Dev nD) (t : Fin cfg2.N) (d) : (dat V hV c).before 2 t d = blk V c 2 t :=
  (dat V hV c).before_in_eq_fetched 2 rfl (fun _ => rfl) (fun _ _ _ => rfl) (fun t => by rw [after_2]; unfold Dat.blockOf blk; rw [dat_A]) t d |>.trans
    (by unfold Dat.fetched Dat.blockOf blk; rw [dat_A]; rfl)
theorem before_3 (c : Dev nD) (t : Fin cfg2.N) (d) : (dat V hV c).before 3 t d = blk V c 3 t :=
  (dat V hV c).before_in_eq_fetched 3 rfl (fun _ => rfl) (fun _ _ _ => rfl) (fun t => by rw [after_3]; unfold Dat.blockOf blk; rw [dat_A]) t d |>.trans
    (by unfold Dat.fetched Dat.blockOf blk; rw [dat_A]; rfl)
theorem before_4 (c : Dev nD) (t : Fin cfg2.N) (d) : (dat V hV c).before 4 t d = blk V c 4 t :=
  (dat V hV c).before_in_eq_fetched 4 rfl (fun _ => rfl) (fun _ _ _ => rfl) (fun t => by rw [after_4]; unfold Dat.blockOf blk; rw [dat_A]) t d |>.trans
    (by unfold Dat.fetched Dat.blockOf blk; rw [dat_A]; rfl)

/-- The output's buffer holds, off column 0, what the point before left. -/
theorem before_5 (c : Dev nD) (t : Fin cfg2.N) (ht : (grid2.coords t 1).val ≠ 0) (d) :
    (dat V hV c).before 5 t d = outAt V hV c (t.val - 1) := by
  rw [coord_col] at ht
  have h0 : t.val ≠ 0 := fun h => ht (by rw [h])
  have hlt : t.val < 64 := lt_of_lt_of_eq t.isLt N_2
  refine ((dat V hV c).before_out_kept 5 rfl t h0 ?_ (fun _ => rfl) (fun _ _ => rfl) d).trans (after_5 V hV c _)
  rw [Bool.eq_false_iff]
  intro hf
  have := (flush2_5 _).mp hf
  simp only at this
  omega

/-- What the body is called with at point `t`, window by window, and what it returns. -/
def bodyPre (c : Dev nD) (t : Fin cfg2.N) : sProp 𝕄 :=
  iprop((dat V hV c).Φ t.castSucc ∗ (dat V hV c).owesAt () t.castSucc
    ∗ (∃ d, owns (c : Thread nD τ) (st2_0 t) fullShare ((dat V hV c).before 0 t d))
    ∗ (∃ d, owns (c : Thread nD τ) (st2_1 t) fullShare ((dat V hV c).before 1 t d))
    ∗ (∃ d, owns (c : Thread nD τ) (st2_2 t) fullShare ((dat V hV c).before 2 t d))
    ∗ (∃ d, owns (c : Thread nD τ) (st2_3 t) fullShare ((dat V hV c).before 3 t d))
    ∗ (∃ d, owns (c : Thread nD τ) (st2_4 t) fullShare ((dat V hV c).before 4 t d))
    ∗ (∃ d, owns (c : Thread nD τ) (st2_5 t) fullShare ((dat V hV c).before 5 t d)))
def bodyPost (c : Dev nD) (t : Fin cfg2.N) : sProp 𝕄 :=
  iprop((dat V hV c).Φ t.succ ∗ (dat V hV c).owesAt () t.succ
    ∗ owns (c : Thread nD τ) (st2_0 t) fullShare ((dat V hV c).after 0 t)
    ∗ owns (c : Thread nD τ) (st2_1 t) fullShare ((dat V hV c).after 1 t)
    ∗ owns (c : Thread nD τ) (st2_2 t) fullShare ((dat V hV c).after 2 t)
    ∗ owns (c : Thread nD τ) (st2_3 t) fullShare ((dat V hV c).after 3 t)
    ∗ owns (c : Thread nD τ) (st2_4 t) fullShare ((dat V hV c).after 4 t)
    ∗ owns (c : Thread nD τ) (st2_5 t) fullShare ((dat V hV c).after 5 t))

/-- The body at a point: its inputs hold their blocks, so the triple of its column applies; the rest passes through. -/
theorem body_at (c : Dev nD) (t : Fin cfg2.N) :
    bodyPre V hV c t ⊢ wp frame (wpE (defs₀ (F := F)) Variants.none c none) Set.univ (bodyAt2 t) (fun _ => bodyPost V hV c t) := by
  unfold bodyPre bodyPost bodyAt2
  simp only [before_0, before_1, before_2, before_3, before_4]
  rw [show (dat V hV c).Φ t.succ = (dat V hV c).Φ t.castSucc from rfl,
    show (dat V hV c).owesAt () t.succ = (dat V hV c).owesAt () t.castSucc from rfl,
    after_0, after_1, after_2, after_3, after_4, after_5]
  by_cases hc : (grid2.coords t 1).val = 0
  · rw [outAt_first V hV c t hc k2_pay1]
    unfold step
    rw [if_pos hc]
    iintro ⟨HΦ, Ho, ⟨%d0, H0⟩, ⟨%d1, H1⟩, ⟨%d2, H2⟩, ⟨%d3, H3⟩, ⟨%d4, H4⟩, ⟨%d5, H5⟩⟩
    iapply (body_wp_first c Set.univ (grid2.coords t) _ _ _ _ _ _ _ _ _ _ _ _ (blk V c 0 t) (blk V c 1 t) (blk V c 2 t) (blk V c 3 t) (blk V c 4 t) _ hc (hV c t) _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · have h0 : t.val ≠ 0 := fun h => hc (by rw [coord_col, h])
    rw [outAt_next V hV c t h0]
    simp only [before_5 V hV c t hc]
    unfold step
    rw [if_neg hc]
    iintro ⟨HΦ, Ho, ⟨%d0, H0⟩, ⟨%d1, H1⟩, ⟨%d2, H2⟩, ⟨%d3, H3⟩, ⟨%d4, H4⟩, ⟨%d5, H5⟩⟩
    iapply (body_wp_next c Set.univ (grid2.coords t) _ _ _ _ _ _ _ _ _ _ _ _ (blk V c 0 t) (blk V c 1 t) (blk V c 2 t) (blk V c 3 t) (blk V c 4 t) _ hc (hV c t) _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body the pipeline calls at point `t` is the one `body_at` speaks of. -/
theorem row (t : Fin cfg2.N) :
    defs₀ (F := F) .tc cfg2.body (cfg2.bodyArgs t (cfg2.slots t)) = bodyAt2 t := by
  unfold defs₀; rw [Defs.onTc_tc]

/-- The body obligation of the region. -/
theorem body_obligation (c : Dev nD) : BodyObligation (dat (F := F) V hV c) (defs₀ (F := F)) Variants.none () Set.univ := fun t => by
  rw [bigSep_W2, bigSep_W2, row]
  exact triple_restated (body_at V hV c t) rfl .rfl fun _ => .rfl

end Cert.KernelIdeal.Region.Mine

end
-- ==== Proof.KernelIdeal.Run.lean ====
/-
  The whole program run. One record serves every region (`regionAt`): a region whose invariant is the scoped rest, entered
  from all unscoped buffers at `V` and left with them at `V'`, where `V'` has each window's array at the region's own
  final contents and agrees with `V` off the windows. The three regions are its instances, chained between the host
  stretches; `run_main` says what every unscoped buffer of the TensorCore holds at the end.
-/
module

public import proofs.«01_k».proof.Proof.KernelIdeal.Movie
public import proofs.«01_k».proof.Proof.KernelIdeal.User
public import proofs.«01_k».proof.Proof.KernelIdeal.Mine
public import proofs.«01_k».proof.Proof.Gen.KernelIdeal.Regions

@[expose] public section

set_option maxRecDepth 16384

noncomputable section

namespace Cert.KernelIdeal.Run

open Cert.KernelIdeal Cert.KernelIdeal.Gen Cert.KernelIdeal.Region
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F] [Named F]

local notation "𝕄" => MT nD τ sig Unit (Elt F) ℕ (UR sig nD τ) ℕ

/-- No core owes another anything: no level is assigned. -/
abbrev L : GSem nD τ sig → Finset Unit := fun _ => ∅
abbrev lv : GSem nD τ sig → Unit → ℕ := fun _ _ => 0

/-- Contents of every buffer, per core. -/
abbrev Conts (F : FTy → Type) := (c : Dev nD) → (b : Ref sig .tc) → Buf (Elt F) ((c : Thread nD τ).loc b)

/-- The core's dues, whatever waits it may have recorded. -/
abbrev dues (c : Dev nD) : sProp 𝕄 := iprop(∃ W, owes (c : Thread nD τ) (0 : CellTallies nD τ sig Unit) W)

abbrev PDats (F : FTy → Type) := (p : Fin 3) → (c : Dev nD) → Dat τ (Elt F) Unit ℕ (UR sig nD τ) ℕ (cfgs p) c

set_option backward.isDefEq.respectTransparency.types false in
/-- A region whose invariant is the scoped rest, over the thread state "every unscoped buffer, and the dues". -/
def regionAt (pd : PDats F) (p : Fin 3) (lf : Pipeline.LaunchFacts (nD := nD) (τ := τ) cfgs p) (V V' : Conts F)
    (hA : ∀ c w, (pd p c).A w = V c (Pipeline.arrRef (cfgs p).spec w))
    (hΦ : ∀ c t, (pd p c).Φ t = Pipeline.scopedRest (cfgs p).spec c)
    (hq : ∀ c w, (pd p c).q w = fullShare) (howed : ∀ c t, (pd p c).owed t = 0) (hrec : ∀ c, (pd p c).recorded 0 = Set.univ)
    (hbody : ∀ c, BodyObligation (pd p c) (defs₀ (F := F)) Variants.none () Set.univ)
    (hin : ∀ c w, (pd p c).arrAt w (cfgs p).N = V' c (Pipeline.arrRef (cfgs p).spec w))
    (hoff : ∀ c (b : Ref sig .tc), b ∉ Finset.univ.image (Pipeline.arrRef (cfgs p).spec) → V' c b = V c b) :
    RegionSeg (pcfgs (F := F)) adm pd () defs₀ Variants.none L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(unscopedBufs c (V c) ∗ dues c)
  post c := iprop(unscopedBufs c (V' c) ∗ dues c)
  X _ := BI.emp
  Y _ := BI.emp
  Z c := Pipeline.unscopedRest (Ix := Unit) (Name := ℕ) (U := UR sig nD τ) (Lvl := ℕ) (cfgs p).spec c (V c)
  hentry c := by
    rw [Pipeline.ownSems0_none]
    have hsplit := Pipeline.arrays_of_unscopedBufs (p := p) (pcfgs (F := F)) adm pd lf.win lf.arr_whole c
      ((pd p c).share_full (hq c)) (V c) (hA c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pd p c).owed 0 = 0 from howed c 0]
      icases HO with ⟨%W, HO⟩; iexists W; isplitr; · ipureintro; exact fun _ _ => Or.inl (hrec c ▸ Set.mem_univ _)
      iexact HO
    isplitr; · iempintro
    iexact Hrest
  hin c := by
    rw [hΦ c 0]
    iintro ⟨-, -, Hr⟩; iexact Hr
  hout c := by
    rw [Pipeline.ownSems0_none, hΦ c (Fin.last _)]
    iintro Hr
    isplitr; · iempintro
    isplitr; · iempintro
    iexact Hr
  hexit c := by
    have hjoin := Pipeline.unscopedBufs_of_arrays (p := p) (pcfgs (F := F)) adm (Ix := Unit) (Name := ℕ) (U := UR sig nD τ) (Lvl := ℕ) lf.win lf.arr_whole c
      pd ((pd p c).share_full (hq c)) (V c) (V' c) ((pd p c).arrAt · (cfgs p).N) (hin c) (hoff c)
    iintro ⟨Ha, HO, -, Hrest⟩
    imodintro
    isplitl [Ha Hrest]
    · iapply hjoin; isplitl [Ha] <;> iassumption
    unfold Pipeline.Dat.owesAt Pipeline.owesWithin
    rw [show (pd p c).owed (Fin.last _) = 0 from howed c (Fin.last _)]
    icases HO with ⟨%W, -, HO⟩; iexists W; iexact HO

/-! ## What the regions leave -/

variable (m : (ℓ : Loc nD τ sig) → Buf (Elt F) ℓ)

/-- A valuation as contents of the TensorCore's buffers. -/
abbrev conts (W : (c : Dev nD) → Valuation τ sig (Elt F)) : Conts F := fun c b => W c b

/-- After the movie region. -/
def W9 (c : Dev nD) : Valuation τ sig (Elt F) :=
  Function.update (Function.update (V8 m c) main_v45_0 ((Movie.dat (conts (V8 m)) c).arrAt 7 cfg0.N))
    main_v45_1 ((Movie.dat (conts (V8 m)) c).arrAt 8 cfg0.N)

/-- After the user region. -/
def W10 (c : Dev nD) : Valuation τ sig (Elt F) :=
  Function.update (Function.update (W9 m c) main_v46_0 ((User.dat (conts (W9 m)) c).arrAt 6 cfg1.N))
    main_v46_1 ((User.dat (conts (W9 m)) c).arrAt 7 cfg1.N)

variable (hw : Mine.WordsOk (conts (W10 m)))

/-- After the mining region. -/
def W11 (c : Dev nD) : Valuation τ sig (Elt F) :=
  Function.update (W10 m c) main_v47 ((Mine.dat (conts (W10 m)) hw c).arrAt 5 cfg2.N)

/-- The contents the regions leave, as the host stretches' valuations take them. -/
def outs : Outs (F := F) := fun J r c => if J = 9 then W9 m c r else if J = 10 then W10 m c r else W11 m hw c r

theorem W9_movie0 (c : Dev nD) : W9 m c main_v45_0 = (Movie.dat (conts (V8 m)) c).arrAt 7 cfg0.N := by
  unfold W9
  rw [Function.update_of_ne (StableHlo.devRef_ne_of_ne (by decide)), Function.update_self]
theorem W9_movie1 (c : Dev nD) : W9 m c main_v45_1 = (Movie.dat (conts (V8 m)) c).arrAt 8 cfg0.N := by
  unfold W9; rw [Function.update_self]
theorem W9_of (c : Dev nD) (r : Ref sig .tc) (h0 : r ≠ main_v45_0) (h1 : r ≠ main_v45_1) : W9 m c r = V8 m c r := by
  unfold W9
  rw [Function.update_of_ne (StableHlo.devRef_ne_of_ne h1), Function.update_of_ne (StableHlo.devRef_ne_of_ne h0)]
theorem W10_user0 (c : Dev nD) : W10 m c main_v46_0 = (User.dat (conts (W9 m)) c).arrAt 6 cfg1.N := by
  unfold W10
  rw [Function.update_of_ne (StableHlo.devRef_ne_of_ne (by decide)), Function.update_self]
theorem W10_user1 (c : Dev nD) : W10 m c main_v46_1 = (User.dat (conts (W9 m)) c).arrAt 7 cfg1.N := by
  unfold W10; rw [Function.update_self]
theorem W10_of (c : Dev nD) (r : Ref sig .tc) (h0 : r ≠ main_v46_0) (h1 : r ≠ main_v46_1) : W10 m c r = W9 m c r := by
  unfold W10
  rw [Function.update_of_ne (StableHlo.devRef_ne_of_ne h1), Function.update_of_ne (StableHlo.devRef_ne_of_ne h0)]
theorem W11_mine (c : Dev nD) : W11 m hw c main_v47 = (Mine.dat (conts (W10 m)) hw c).arrAt 5 cfg2.N := by
  unfold W11; rw [Function.update_self]
theorem W11_of (c : Dev nD) (r : Ref sig .tc) (h0 : r ≠ main_v47) : W11 m hw c r = W10 m c r := by
  unfold W11
  rw [Function.update_of_ne (StableHlo.devRef_ne_of_ne h0)]

theorem V9_eq (c : Dev nD) : V9 m (outs m hw) c = W9 m c := by
  show Function.update (Function.update (V8 m c) main_v45_0 (W9 m c main_v45_0)) main_v45_1 (W9 m c main_v45_1) = W9 m c
  rw [W9_movie0, W9_movie1]; rfl
theorem V10_eq (c : Dev nD) : V10 m (outs m hw) c = W10 m c := by
  show Function.update (Function.update (V9 m (outs m hw) c) main_v46_0 (W10 m c main_v46_0)) main_v46_1 (W10 m c main_v46_1) = W10 m c
  rw [V9_eq, W10_user0, W10_user1]; rfl
theorem V11_eq (c : Dev nD) : V11 m (outs m hw) c = W11 m hw c := by
  show Function.update (V10 m (outs m hw) c) main_v47 (W11 m hw c main_v47) = W11 m hw c
  rw [V10_eq, W11_mine]; rfl

/-! ## The three regions -/

/-- The proof data of the three regions. -/
def pdats : PDats F
  | ⟨0, _⟩ => fun c => Movie.dat (conts (V8 m)) c
  | ⟨1, _⟩ => fun c => User.dat (conts (W9 m)) c
  | ⟨2, _⟩ => fun c => Mine.dat (conts (W10 m)) hw c

/-- What a window only read holds at the end is what it held at the start. -/
theorem in_kept {p : Fin 3} {c : Dev nD} (d : Dat τ (Elt F) Unit ℕ (UR sig nD τ) ℕ (cfgs p) c) (V : Conts F) (w : Fin (cfgs p).W)
    (hA : d.A w = V c (Pipeline.arrRef (cfgs p).spec w)) (h : ((cfgs p).win w).isOut = false)
    {x : Buf (Elt F) ((c : Thread nD τ).loc (Pipeline.arrRef (cfgs p).spec w))} (hx : x = V c (Pipeline.arrRef (cfgs p).spec w)) :
    d.arrAt w (cfgs p).N = x :=
  (d.arrAt_in w h _).trans (hA.trans hx.symm)

/-- The movie region. -/
def reg0 : RegionSeg (pcfgs (F := F)) adm (pdats m hw) () defs₀ Variants.none L lv 0 :=
  regionAt (pdats m hw) 0 launch0 (conts (V8 m)) (conts (W9 m)) (fun _ _ => rfl) (fun _ _ => rfl) (fun _ _ => rfl) (fun _ _ => rfl) (fun _ => rfl)
    (Movie.body_obligation (conts (V8 m)))
    (fun c w => by
      by_cases h7 : w = (7 : Fin 9)
      · subst h7; exact (W9_movie0 m c).symm
      by_cases h8 : w = (8 : Fin 9)
      · subst h8; exact (W9_movie1 m c).symm
      have hs : ∀ w : Fin 9, w ≠ 7 → w ≠ 8 → (cfg0.win w).isOut = false ∧ Pipeline.arrRef spec0 w ≠ main_v45_0 ∧ Pipeline.arrRef spec0 w ≠ main_v45_1 := by
        decide
      obtain ⟨ho, hn0, hn1⟩ := hs w h7 h8
      exact in_kept (p := 0) (Movie.dat (conts (V8 m)) c) (conts (V8 m)) w rfl ho (W9_of m c _ hn0 hn1))
    (fun c b hb => W9_of m c b (fun h => hb (h ▸ Finset.mem_image.mpr ⟨(7 : Fin 9), Finset.mem_univ _, rfl⟩))
      (fun h => hb (h ▸ Finset.mem_image.mpr ⟨(8 : Fin 9), Finset.mem_univ _, rfl⟩)))

/-- The user region. -/
def reg1 : RegionSeg (pcfgs (F := F)) adm (pdats m hw) () defs₀ Variants.none L lv 1 :=
  regionAt (pdats m hw) 1 launch1 (conts (W9 m)) (conts (W10 m)) (fun _ _ => rfl) (fun _ _ => rfl) (fun _ _ => rfl) (fun _ _ => rfl) (fun _ => rfl)
    (User.body_obligation (conts (W9 m)))
    (fun c w => by
      by_cases h6 : w = (6 : Fin 8)
      · subst h6; exact (W10_user0 m c).symm
      by_cases h7 : w = (7 : Fin 8)
      · subst h7; exact (W10_user1 m c).symm
      have hs : ∀ w : Fin 8, w ≠ 6 → w ≠ 7 → (cfg1.win w).isOut = false ∧ Pipeline.arrRef spec1 w ≠ main_v46_0 ∧ Pipeline.arrRef spec1 w ≠ main_v46_1 := by
        decide
      obtain ⟨ho, hn0, hn1⟩ := hs w h6 h7
      exact in_kept (p := 1) (User.dat (conts (W9 m)) c) (conts (W9 m)) w rfl ho (W10_of m c _ hn0 hn1))
    (fun c b hb => W10_of m c b (fun h => hb (h ▸ Finset.mem_image.mpr ⟨(6 : Fin 8), Finset.mem_univ _, rfl⟩))
      (fun h => hb (h ▸ Finset.mem_image.mpr ⟨(7 : Fin 8), Finset.mem_univ _, rfl⟩)))

/-- The mining region. -/
def reg2 : RegionSeg (pcfgs (F := F)) adm (pdats m hw) () defs₀ Variants.none L lv 2 :=
  regionAt (pdats m hw) 2 launch2 (conts (W10 m)) (conts (W11 m hw)) (fun _ _ => rfl) (fun _ _ => rfl) (fun _ _ => rfl) (fun _ _ => rfl) (fun _ => rfl)
    (Mine.body_obligation (conts (W10 m)) hw)
    (fun c w => by
      by_cases h5 : w = (5 : Fin 6)
      · subst h5; exact (W11_mine m hw c).symm
      have hs : ∀ w : Fin 6, w ≠ 5 → (cfg2.win w).isOut = false ∧ Pipeline.arrRef spec2 w ≠ main_v47 := by
        decide
      obtain ⟨ho, hn0⟩ := hs w h5
      exact in_kept (p := 2) (Mine.dat (conts (W10 m)) hw c) (conts (W10 m)) w rfl ho (W11_of m hw c _ hn0))
    (fun c b hb => W11_of m hw c b (fun h => hb (h ▸ Finset.mem_image.mpr ⟨(5 : Fin 6), Finset.mem_univ _, rfl⟩)))

/-! ## The run -/

variable (ρ : Dev nD → PrngReg)

/-- What the buffers hold when the program has ended. -/
abbrev Vend (c : Dev nD) : Valuation τ sig (Elt F) := V32 m (outs m hw) c

/-- All unscoped buffers of a core at a valuation, as the regions' records hold them. -/
theorem held_bufs (c : Dev nD) (W : Valuation τ sig (Elt F)) :
    (StableHlo.held (c : Thread nD τ) (Pipeline.ucRefs τ sig) W : sProp 𝕄) = unscopedBufs c (fun b => W b) :=
  (Pipeline.unscopedBufs_held c W).symm

set_option backward.isDefEq.respectTransparency.types false in
/-- From any memory with zero counters, every weakly fair execution of the program terminates; every final state has each
    unscoped buffer of the TensorCore at `Vend` and every semaphore counter at zero. -/
theorem run_main : θ_run defs (onTc (τ := τ) (main (F := F))) ⟨m, fun _ => 0, ρ⟩ (fun r =>
    (∀ (c : Dev nD) (b : Ref sig .tc), b.isScoped = false → r.2.mem ((c.tc : Thread nD τ).loc b) = Vend m hw c b) ∧ r.2.sem = fun _ => 0) := by
  refine Pipeline.θ_run_regions_kit_dev_sems (pcfgs (F := F)) adm (pdats m hw) () cellOf_inj emb₁ defs₀ Variants.none L lv m ρ main
    (segs m (outs m hw) Variants.none L lv (fun _ c => dues c) () (pdats m hw) (reg0 m hw) (reg1 m hw) (reg2 m hw))
    (fun c Q => by
      rewrite [main_chain c, Seg.run_eq_chain,
        show (segs m (outs m hw) Variants.none L lv (fun _ c => dues c) () (pdats m hw) (reg0 m hw) (reg1 m hw) (reg2 m hw) c).map Seg.prog = [
          StableHlo.seq hostOps0, StableHlo.seq hostOps0_1, StableHlo.seq hostOps0_2, StableHlo.seq hostOps0_3,
          StableHlo.seq hostOps0_4, StableHlo.seq hostOps0_5, StableHlo.seq hostOps0_6, StableHlo.seq hostOps0_7,
          Prog.lift (.customCall (Pipeline.entry 0) ()),
          Prog.lift (.customCall (Pipeline.entry 1) ()),
          Prog.lift (.customCall (Pipeline.entry 2) ()),
          StableHlo.seq hostOps3, StableHlo.seq hostOps3_1, StableHlo.seq hostOps3_2, StableHlo.seq hostOps3_3,
          StableHlo.seq hostOps3_4, StableHlo.seq hostOps3_5, StableHlo.seq hostOps3_6, StableHlo.seq hostOps3_7,
          StableHlo.seq hostOps3_8, StableHlo.seq hostOps3_9, StableHlo.seq hostOps3_10, StableHlo.seq hostOps3_11,
          StableHlo.seq hostOps3_12, StableHlo.seq hostOps3_13, StableHlo.seq hostOps3_14, StableHlo.seq hostOps3_15,
          StableHlo.seq hostOps3_16, StableHlo.seq hostOps3_17, StableHlo.seq hostOps3_18, StableHlo.seq hostOps3_19,
          StableHlo.seq hostOps3_20 ] from rfl]
      dsimp (config := { failIfUnchanged := false }) only
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ dues c))
    (Tₙ := fun c => StableHlo.held (c : Thread nD τ) (Pipeline.ucRefs τ sig) (Vend m hw c))
    (hch := fun c => ⟨.rfl, .rfl, .rfl, .rfl, .rfl, .rfl, .rfl, .rfl, ?_, ?_, ?_, ?_, .rfl, .rfl, .rfl, .rfl, .rfl, .rfl, .rfl, .rfl, .rfl, .rfl, .rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => ∀ b : Ref sig .tc, b.isScoped = false → s.mem ((c.tc : Thread nD τ).loc b) = Vend m hw c b)
    (hfin := fun c s' => ?_) (hQ := fun _ h hz => ⟨h, funext fun g => hz g (.inr (regions_no_unscoped g.2))⟩)
  · show iprop(StableHlo.held (c : Thread nD τ) (Pipeline.ucRefs τ sig) (V8 m c) ∗ dues c) ⊢ iprop(unscopedBufs c (conts (V8 m) c) ∗ dues c)
    rw [held_bufs]
  · show iprop(unscopedBufs c (conts (W9 m) c) ∗ dues c) ⊢ iprop(unscopedBufs c (conts (W9 m) c) ∗ dues c)
    exact .rfl
  · show iprop(unscopedBufs c (conts (W10 m) c) ∗ dues c) ⊢ iprop(unscopedBufs c (conts (W10 m) c) ∗ dues c)
    exact .rfl
  · show iprop(unscopedBufs c (conts (W11 m hw) c) ∗ dues c) ⊢ iprop(StableHlo.held (c : Thread nD τ) (Pipeline.ucRefs τ sig) (V11 m (outs m hw) c) ∗ dues c)
    rw [held_bufs, V11_eq]
  · unfold StableHlo.held
    iintro ⟨Hh, HSI⟩
    ihave Hr := (pointsTo_read_all (Pipeline.ucRefs τ sig) (fun b => ((c : Thread nD τ).1, b)) (Vend m hw c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, by simpa using hb⟩)
    · iexact HSI

end Cert.KernelIdeal.Run

end
-- ==== Proof.Take.lean ====
/-
  Reading the two takes that the programs print, `jnp.take(table, idx, axis=0)` of the rows of a matrix and of the entries of a
  vector: the index wrapped when negative, the in-range test, the gather, and the fill where the test fails. Where every index
  word is the number of a row that exists, the result holds those rows.
-/
module

public import Idealize.ShloMosaic.Lib.Pointwise
public import Idealize.ShloMosaic.Lib.Pointwise.IndexVar
public import Idealize.ShloMosaic.Lib.Pointwise.IndexBridge
public import Idealize.ShloMosaic.Lib.Routing.Ops
public import Idealize.ShloMosaic.Lib.Routing.OpsSet
public import Idealize.ShloMosaic.Lib.ReduceAll
public import Idealize.ShloMosaic.Lib.SortFacts

@[expose] public section

set_option maxRecDepth 16384

namespace Cert.Take

open Idealize.ShloMosaic Idealize.ShloMosaic.Routing

/-- The signed value of the word of a small number. -/
theorem toInt_word {b : ℕ} (h : b < 2 ^ 31) : (BitVec.ofNat 32 b).toInt = b :=
  StableHlo.Predicate.toInt_ofNat_small _ h

variable {n nb B : ℕ}

/-- The index words as the gather reads them: a negative word is moved up by the table's extent, and the vector made a column. -/
abbrev wrapped (hb : shape0.BroadcastsInDim (shape1 n) ![]) (hb' : shape0.BroadcastsInDim (shape1 n) ![])
    (hc : (shape1 n).BroadcastsInDim (shape2 n 1) ![0]) (size : BitVec 32) (i : IVec (shape1 n) 32) : IVec (shape2 n 1) 32 :=
  broadcastInDim (shape2 n 1) ![0] hc
    (select (cmpi .slt i (broadcastInDim (shape1 n) ![] hb (constantI shape0 32 0#32)))
      (addi i (broadcastInDim (shape1 n) ![] hb' (constantI shape0 32 size))) i)

/-- Whether each index word, as a column, is a row of the table. -/
abbrev inside (hz : shape0.BroadcastsInDim (shape2 n 1) ![]) (h1 : (shape1 1).BroadcastsInDim (shape2 1 1) ![1])
    (h11 : (shape2 1 1).BroadcastsInDim (shape2 n 1) ![0, 1]) (hr : (shape2 n 1).ReducesTo [1] (shape1 n)) (hu : 0 < shape0.numel)
    (last : BitVec 32) (w : IVec (shape2 n 1) 32) : IVec (shape1 n) 1 :=
  Host.reduce IntOp.andi
    (andi (cmpi .sge w (broadcastInDim (shape2 n 1) ![] hz (constantI shape0 32 0#32)))
      (cmpi .sle w (broadcastInDim (shape2 n 1) ![0, 1] h11 (broadcastInDim (shape2 1 1) ![1] h1 (constantI (shape1 1) 32 last)))))
    (constantI shape0 1 1#1) hr hu

theorem wrapped_at (hb : shape0.BroadcastsInDim (shape1 n) ![]) (hb' : shape0.BroadcastsInDim (shape1 n) ![])
    (hc : (shape1 n).BroadcastsInDim (shape2 n 1) ![0]) (size : BitVec 32) (i : IVec (shape1 n) 32) (p : Fin n) (b : ℕ) (hbb : b < 2 ^ 31)
    (h : i (ix1 p) = BitVec.ofNat 32 b) : wrapped hb hb' hc size i (ix2 p 0) = BitVec.ofNat 32 b := by
  refine (bcCol hc _ p).trans ?_
  show Scalar.select (IntOp.cmpi .slt (i (ix1 p)) 0#32) _ (i (ix1 p)) = _
  rw [h]
  have h0 : IntOp.cmpi .slt (BitVec.ofNat 32 b) 0#32 = 0#1 := by
    show BitVec.ofBool ((BitVec.ofNat 32 b).slt 0#32) = 0#1
    rw [BitVec.slt_eq_decide, toInt_word hbb, decide_eq_false (by simp)]
    rfl
  rw [h0]
  rfl

theorem inside_at (hz : shape0.BroadcastsInDim (shape2 n 1) ![]) (h1 : (shape1 1).BroadcastsInDim (shape2 1 1) ![1])
    (h11 : (shape2 1 1).BroadcastsInDim (shape2 n 1) ![0, 1]) (hr : (shape2 n 1).ReducesTo [1] (shape1 n)) (hu : 0 < shape0.numel)
    (last : ℕ) (hl : last < 2 ^ 31) (w : IVec (shape2 n 1) 32) (f : Fin n → ℕ) (hf : ∀ p, f p ≤ last)
    (hw : ∀ p, w (ix2 p 0) = BitVec.ofNat 32 (f p)) (j : (shape1 n).Idx) :
    inside hz h1 h11 hr hu (BitVec.ofNat 32 last) w j = 1#1 := by
  refine Host.reduce_andi_one _ _ hr hu j rfl fun i => ?_
  obtain ⟨p, q, rfl⟩ : ∃ (p : Fin n) (q : Fin 1), i = ix2 p q := ⟨i 0, i 1, eq_ix2 i⟩
  obtain rfl : q = 0 := Subsingleton.elim _ _
  show IntOp.andi (IntOp.cmpi .sge (w (ix2 p 0)) 0#32) (IntOp.cmpi .sle (w (ix2 p 0)) (BitVec.ofNat 32 last)) = 1#1
  rw [hw p]
  have hfp := hf p
  have e1 : IntOp.cmpi .sge (BitVec.ofNat 32 (f p)) 0#32 = 1#1 := by
    show BitVec.ofBool ((0#32).sle (BitVec.ofNat 32 (f p))) = 1#1
    rw [BitVec.sle_eq_decide, toInt_word (by omega : f p < 2 ^ 31), decide_eq_true (by simp)]
    rfl
  have e2 : IntOp.cmpi .sle (BitVec.ofNat 32 (f p)) (BitVec.ofNat 32 last) = 1#1 := by
    show BitVec.ofBool ((BitVec.ofNat 32 (f p)).sle (BitVec.ofNat 32 last)) = 1#1
    rw [BitVec.sle_eq_decide, toInt_word (by omega : f p < 2 ^ 31), toInt_word hl, decide_eq_true (by exact_mod_cast hfp)]
    rfl
  rw [e1, e2]; rfl

variable {α : Type}

/-- A take of rows: where every index word is the number of a row, the result holds those rows. -/
theorem rows_at (hb : shape0.BroadcastsInDim (shape1 n) ![]) (hb' : shape0.BroadcastsInDim (shape1 n) ![])
    (hc : (shape1 n).BroadcastsInDim (shape2 n 1) ![0])
    (hz : shape0.BroadcastsInDim (shape2 n 1) ![]) (h1 : (shape1 1).BroadcastsInDim (shape2 1 1) ![1])
    (h11 : (shape2 1 1).BroadcastsInDim (shape2 n 1) ![0, 1]) (hr : (shape2 n 1).ReducesTo [1] (shape1 n)) (hu : 0 < shape0.numel)
    (hm : (shape1 n).BroadcastsInDim (shape2 n B) ![0])
    (d : GatherDims (shape2 nb B) (shape2 n 1) (shape2 n B)) (hoff : d.offsetDims = [1])
    (hcoll : d.collapsedSliceDims = [0]) (hob : d.operandBatchingDims = [])
    (hsim : d.startIndexMap = [0]) (hivd : d.indexVectorDim = 1)
    (size : BitVec 32) (last : ℕ) (hl : last + 1 < 2 ^ 31) (hnb : nb = last + 1)
    (x : (shape2 nb B).Idx → α) (i : IVec (shape1 n) 32) (fill : (shape2 n B).Idx → α)
    (f : Fin n → Fin nb) (hf : ∀ p, i (ix1 p) = BitVec.ofNat 32 (f p).val) (p : Fin n) (y : Fin B) :
    select (broadcastInDim (shape2 n B) ![0] hm (inside hz h1 h11 hr hu (BitVec.ofNat 32 last) (wrapped hb hb' hc size i)))
      (Host.gather d x (wrapped hb hb' hc size i)) fill (ix2 p y) = x (ix2 (f p) y) := by
  have hlt : ∀ p, (f p).val < 2 ^ 31 := fun p => by have := (f p).isLt; omega
  have hw : ∀ p, wrapped hb hb' hc size i (ix2 p 0) = BitVec.ofNat 32 (f p).val := fun p => wrapped_at hb hb' hc size i p _ (hlt p) (hf p)
  show Scalar.select (inside hz h1 h11 hr hu (BitVec.ofNat 32 last) (wrapped hb hb' hc size i) _) _ _ = _
  rw [inside_at hz h1 h11 hr hu last (by omega) _ (fun p => (f p).val) (fun p => by have := (f p).isLt; omega) hw]
  exact gather_row d hoff hcoll hob hsim hivd x _ p y (f p) (hw p) (by omega)

/-- A take of entries of a vector, likewise. -/
theorem entries_at (hb : shape0.BroadcastsInDim (shape1 n) ![]) (hb' : shape0.BroadcastsInDim (shape1 n) ![])
    (hc : (shape1 n).BroadcastsInDim (shape2 n 1) ![0])
    (hz : shape0.BroadcastsInDim (shape2 n 1) ![]) (h1 : (shape1 1).BroadcastsInDim (shape2 1 1) ![1])
    (h11 : (shape2 1 1).BroadcastsInDim (shape2 n 1) ![0, 1]) (hr : (shape2 n 1).ReducesTo [1] (shape1 n)) (hu : 0 < shape0.numel)
    (d : GatherDims (shape1 nb) (shape2 n 1) (shape1 n))
    (hcoll : d.collapsedSliceDims = [0]) (hob : d.operandBatchingDims = [])
    (hsim : d.startIndexMap = [0]) (hivd : d.indexVectorDim = 1)
    (size : BitVec 32) (last : ℕ) (hl : last + 1 < 2 ^ 31) (hnb : nb = last + 1)
    (x : (shape1 nb).Idx → α) (i : IVec (shape1 n) 32) (fill : (shape1 n).Idx → α)
    (f : Fin n → Fin nb) (hf : ∀ p, i (ix1 p) = BitVec.ofNat 32 (f p).val) (p : Fin n) :
    select (inside hz h1 h11 hr hu (BitVec.ofNat 32 last) (wrapped hb hb' hc size i))
      (Host.gather d x (wrapped hb hb' hc size i)) fill (ix1 p) = x (ix1 (f p)) := by
  have hlt : ∀ p, (f p).val < 2 ^ 31 := fun p => by have := (f p).isLt; omega
  have hw : ∀ p, wrapped hb hb' hc size i (ix2 p 0) = BitVec.ofNat 32 (f p).val := fun p => wrapped_at hb hb' hc size i p _ (hlt p) (hf p)
  show Scalar.select (inside hz h1 h11 hr hu (BitVec.ofNat 32 last) (wrapped hb hb' hc size i) _) _ _ = _
  rw [inside_at hz h1 h11 hr hu last (by omega) _ (fun p => (f p).val) (fun p => by have := (f p).isLt; omega) hw]
  exact gather_take1 d hcoll hob hsim hivd x _ p (f p) (hw p) (by omega)

/-! ## The order that a stable sort of the labels makes -/

/-- The comparison of two labels, positions riding along. -/
abbrev byLabel : BitVec 32 × BitVec 32 → BitVec 32 × BitVec 32 → BitVec 1 := fun l r => IntOp.cmpi .slt l.1 r.1

/-- The position that the sort puts at place `k`. -/
noncomputable def order (lab : IVec (shape1 n) 32) : Fin n → Fin n :=
  sortedFrom fun k k' : Fin n => byLabel (lab (ix1 k), BitVec.ofNat 32 k.val) (lab (ix1 k'), BitVec.ofNat 32 k'.val) == 1#1

theorem order_bijective (lab : IVec (shape1 n) 32) : Function.Bijective (order lab) :=
  ⟨sortedFrom_injective _, sortedFrom_surjective _⟩

/-- Along the order the labels do not descend. -/
theorem order_sorted (lab : IVec (shape1 n) 32) (i j : Fin n) (h : i < j) :
    (lab (ix1 (order lab i))).toInt ≤ (lab (ix1 (order lab j))).toInt := by
  have key := sortedFrom_noInversion (n := n)
    (fun k k' => byLabel (lab (ix1 k), BitVec.ofNat 32 k.val) (lab (ix1 k'), BitVec.ofNat 32 k'.val) == 1#1)
    (fun k k' => byLabel (lab (ix1 k), BitVec.ofNat 32 k.val) (lab (ix1 k'), BitVec.ofNat 32 k'.val) == 1#1)
  have lt_iff : ∀ a b : Fin n, (byLabel (lab (ix1 a), BitVec.ofNat 32 a.val) (lab (ix1 b), BitVec.ofNat 32 b.val) == 1#1) = true
      ↔ (lab (ix1 a)).toInt < (lab (ix1 b)).toInt := fun a b => by
    show (BitVec.ofBool ((lab (ix1 a)).slt (lab (ix1 b))) == 1#1) = true ↔ _
    rw [BitVec.slt_eq_decide]
    by_cases hlt : (lab (ix1 a)).toInt < (lab (ix1 b)).toInt <;> simp [hlt]
  have nlt : ∀ a b : Fin n, (byLabel (lab (ix1 a), BitVec.ofNat 32 a.val) (lab (ix1 b), BitVec.ofNat 32 b.val) == 1#1) = false
      ↔ (lab (ix1 b)).toInt ≤ (lab (ix1 a)).toInt := fun a b => by
    rw [← not_lt, ← lt_iff]; simp
  have := key (fun a b hab => (nlt b a).2 (le_of_lt ((lt_iff a b).1 hab))) (fun a b hab => hab)
    (fun a b c hab hbc => (nlt a c).2 (((nlt b c).1 hbc).trans ((nlt a b).1 hab))) i j h
  exact (nlt _ _).1 this

/-- The sort's second result, its positions `0 … n-1` sorted along, is that order. -/
theorem sort_positions (lab : IVec (shape1 n) 32) (k : Fin n) :
    (Host.sort2 (shape1 n) 0 byLabel lab (iotaInDim (shape1 n) 32 0)).2 (ix1 k) = BitVec.ofNat 32 (order lab k).val := by
  have hd : 0 < (shape1 n).rank := Nat.zero_lt_one
  have e : ∀ (j : (shape1 n).Idx) (c : Fin n), j.along (⟨0, hd⟩ : Fin (shape1 n).rank) c = ix1 c := fun j c =>
    (Shape.Idx.along_rank1 j c).trans (ofFin_eq_ix1 c)
  unfold Host.sort2 order
  rw [dif_pos hd]
  refine (congrArg (iotaInDim (shape1 n) 32 0) (e (ix1 k) _)).trans ?_
  refine congrArg (fun q : Fin n => BitVec.ofNat 32 q.val) ?_
  show sortedFrom _ k = sortedFrom _ k
  congr 1
  funext a b
  exact congrArg₂ (fun u v => byLabel (lab u, iotaInDim (shape1 n) 32 0 u) (lab v, iotaInDim (shape1 n) 32 0 v) == 1#1)
    (e (ix1 k) a) (e (ix1 k) b)

end Cert.Take
-- ==== Proof.KernelIdeal.Prefix.lean ====
/-
  The host operations before the first region, read at an index: the sorted order of the labels, its inverse, the rows of the
  movie table taken along it with their labels, the one-hot rows, and the first and last label of each block of 1024 movies.
-/
module

public import proofs.«01_k».proof.Proof.KernelIdeal.Run
public import proofs.«01_k».proof.Proof.Take
public import Idealize.ShloMosaic.Lib.StableHlo.ReadAt

@[expose] public section

set_option maxRecDepth 16384

noncomputable section

namespace Cert.KernelIdeal.Prefix

open Cert.KernelIdeal Cert.KernelIdeal.Gen Cert.KernelIdeal.Region
open Idealize.ShloMosaic Idealize.ShloMosaic.TcCoe Idealize.ShloMosaic.Tactic
open Cert.Take

variable {F : FTy → Type} [FloatOps F] [Named F]

/-- The rows of `[movie_nodes, labels]` taken along the positions. -/
theorem rows_taken (W : Valuation τ sig (Elt F)) (f : Fin 16384 → Fin 16384)
    (hf : ∀ p, (W main_v17 : IVec S16384 32) (ix1 p) = BitVec.ofNat 32 (f p).val) (p : Fin 16384) (y : Fin 33) :
    (StableHlo.after hostOps0_5 W main_v29 : Vec F S16384x33 .f32) (ix2 p y) = (W main_v28 : Vec F S16384x33 .f32) (ix2 (f p) y) := by
  after_reads_simp
  simp -implicitDefEqProofs only [StableHlo.TRef.toBuf, StableHlo.TRef.ofBuf, cast_cast, cast_eq]
  clean_types
  exact rows_at _ _ _ _ _ _ _ _ _ _ rfl rfl rfl rfl rfl 16384#32 16383 (by norm_num) rfl _ _ _ f hf p y

/-- The positions are the order of the labels. -/
theorem positions (W : Valuation τ sig (Elt F)) (k : Fin 16384) :
    (StableHlo.after hostOps0_3 W main_v17 : IVec S16384 32) (ix1 k) = BitVec.ofNat 32 (order (n := 16384) (W main_arg3) k).val := by
  after_reads_simp
  simp -implicitDefEqProofs only [StableHlo.TRef.toBuf, StableHlo.TRef.ofBuf, cast_cast, cast_eq]
  clean_types
  exact sort_positions (n := 16384) (W main_arg3) k

/-- A label as a float. -/
theorem label_float (W : Valuation τ sig (Elt F)) (p : Fin 16384) :
    (StableHlo.after hostOps0_2 W main_v16 : Vec F S16384 .f32) (ix1 p) = FloatOps.sitofp .f32 ((W main_arg3 : IVec S16384 32) (ix1 p)) := by
  after_reads_at

/-- A row of the movie table with its label's float after it. -/
theorem labelled (W : Valuation τ sig (Elt F)) (p : Fin 16384) (y : Fin 33) :
    (StableHlo.after hostOps0_4 W main_v28 : Vec F S16384x33 .f32) (ix2 p y)
      = if h : y.val < 32 then (W main_arg1 : Vec F S16384x32 .f32) (ix2 p ⟨y.val, h⟩) else (W main_v16 : Vec F S16384 .f32) (ix1 p) := by
  after_reads_at

/-- The inverse order: at the position that place `k` holds, `k`. -/
theorem inverse (W : Valuation τ sig (Elt F)) (f : Fin 16384 → Fin 16384) (hbij : Function.Bijective f)
    (hf : ∀ p, (W main_v17 : IVec S16384 32) (ix1 p) = BitVec.ofNat 32 (f p).val) (k : Fin 16384) :
    (StableHlo.after hostOps0_4 W main_v26 : IVec S16384 32) (ix1 (f k)) = BitVec.ofNat 32 k.val := by
  after_reads_simp
  clean_types
  refine (Routing.scatter_set _ rfl rfl rfl _ _ _ (fun i => if h : i < 16384 then (f ⟨i, h⟩).val else 0) (fun i => ?_) (fun i => ?_) (f k)
    (BitVec.ofNat 32 k.val) (fun i hi => ?_)).1 ⟨k, by rw [dif_pos k.isLt]⟩
  · rw [dif_pos i.isLt]
    exact wrapped_at _ _ _ _ _ i _ (by have := (f i).isLt; omega) (hf i)
  · rw [dif_pos i.isLt]; have := (f i).isLt; omega
  · rw [dif_pos i.isLt] at hi
    obtain rfl : i = k := hbij.1 (Fin.ext hi)
    rfl

/-- The movie rows along the order. -/
theorem sorted_rows (W : Valuation τ sig (Elt F)) (p : Fin 16384) (y : Fin 32) :
    (StableHlo.after hostOps0_6 W main_v30 : Vec F S16384x32 .f32) (ix2 p y)
      = (W main_v29 : Vec F S16384x33 .f32) (ix2 p ⟨y.val, by omega⟩) := by
  after_reads_at

/-- The one-hot rows, from the last column of the rows taken. -/
theorem onehot_rows (W : Valuation τ sig (Elt F)) (p : Fin 16384) (g : Fin 32) :
    (StableHlo.after hostOps0_6 W main_v40 : Vec F S16384x32 .f32) (ix2 p g)
      = FloatOps.uitofp .f32 (IntOp.cmpi .eq (FloatOps.fptosi 32 ((W main_v29 : Vec F S16384x33 .f32) (ix2 p 32))) (BitVec.ofNat 32 g.val)) := by
  after_reads_at

theorem onehot_cols (W : Valuation τ sig (Elt F)) (p : Fin 16384) (g : Fin 32) :
    (StableHlo.after hostOps0_6 W main_v41 : Vec F S32x16384 .f32) (ix2 g p)
      = FloatOps.uitofp .f32 (IntOp.cmpi .eq (FloatOps.fptosi 32 ((W main_v29 : Vec F S16384x33 .f32) (ix2 p 32))) (BitVec.ofNat 32 g.val)) := by
  after_reads_at

/-- The first label of a block of 1024 sorted movies. -/
theorem first_label (W : Valuation τ sig (Elt F)) (b : Fin 16) :
    (StableHlo.after hostOps0_6 W main_v42 : IVec S16 32) (ix1 b)
      = FloatOps.fptosi 32 ((W main_v29 : Vec F S16384x33 .f32) (ix2 ⟨1024 * b.val, by omega⟩ 32)) := by
  after_reads_at

/-- The last label of the block. -/
theorem last_label (W : Valuation τ sig (Elt F)) (b : Fin 16) :
    (StableHlo.after hostOps0_6 W main_v43 : IVec S16 32) (ix1 b)
      = FloatOps.fptosi 32 ((W main_v29 : Vec F S16384x33 .f32) (ix2 ⟨1024 * b.val + 1023, by omega⟩ 32)) := by
  after_reads_at
  exact congrArg (fun q => FloatOps.fptosi 32 ((W main_v29 : Vec F S16384x33 .f32) (ix2 q 32))) (Fin.ext (Nat.add_comm _ _))

/-- The scorer's weights, the first column of the padded ones. -/
theorem padded (W : Valuation τ sig (Elt F)) (k : Fin 16) :
    (StableHlo.after hostOps0_7 W main_v44 : Vec F S16x8 .f32) (ix2 k 0) = (W main_arg11 : Vec F S16x1 .f32) (ix2 k 0) := by
  after_reads_at

/-! ## The buffers before the first region -/

variable (m : (ℓ : Loc nD τ sig) → Buf (Elt F) ℓ) (c : Dev nD)

/-- The labels. -/
abbrev lab : IVec S16384 32 := V0 m c main_arg3

/-- The order of the labels: the movie at each place. -/
abbrev place : Fin 16384 → Fin 16384 := order (n := 16384) (lab m c)

theorem place_words (k : Fin 16384) : (V4 m c main_v17 : IVec S16384 32) (ix1 k) = BitVec.ofNat 32 (place m c k).val := by
  refine (positions (V3 m c) k).trans ?_
  rw [V3_of m c main_arg3 (by decide), V2_of m c main_arg3 (by decide), V1_of m c main_arg3 (by decide)]

theorem place_words' (k : Fin 16384) : (V5 m c main_v17 : IVec S16384 32) (ix1 k) = BitVec.ofNat 32 (place m c k).val := by
  rw [V5_of m c main_v17 (by decide)]; exact place_words m c k

theorem taken_row (p : Fin 16384) (y : Fin 32) :
    (V6 m c main_v29 : Vec F S16384x33 .f32) (ix2 p ⟨y.val, by omega⟩) = (V0 m c main_arg1 : Vec F S16384x32 .f32) (ix2 (place m c p) y) := by
  refine (rows_taken (V5 m c) (place m c) (place_words' m c) p _).trans ?_
  refine (labelled (V4 m c) _ _).trans ?_
  rw [dif_pos y.isLt, V4_of m c main_arg1 (by decide), V3_of m c main_arg1 (by decide), V2_of m c main_arg1 (by decide),
    V1_of m c main_arg1 (by decide)]

theorem taken_label (p : Fin 16384) :
    (V6 m c main_v29 : Vec F S16384x33 .f32) (ix2 p 32) = FloatOps.sitofp .f32 (lab m c (ix1 (place m c p))) := by
  refine (rows_taken (V5 m c) (place m c) (place_words' m c) p _).trans ?_
  refine (labelled (V4 m c) _ _).trans ?_
  rw [dif_neg (by decide), V4_of m c main_v16 (by decide)]
  refine (label_float (V2 m c) _).trans ?_
  rw [V2_of m c main_arg3 (by decide), V1_of m c main_arg3 (by decide)]

/-- A label in range comes back from its float. -/
def Returns (F : FTy → Type) [FloatOps F] : Prop :=
  ∀ a : ℕ, a < 32 → FloatOps.fptosi 32 (FloatOps.sitofp (F := F) .f32 (BitVec.ofNat 32 a)) = BitVec.ofNat 32 a

/-- Every label in range, as a number. -/
def InRange : Prop := ∃ l : Fin 16384 → Fin 32, ∀ p, lab m c (ix1 p) = BitVec.ofNat 32 (l p).val

end Cert.KernelIdeal.Prefix
-- ==== Proof.Labels.lean ====
/-
  A label below 32 converted to a float and back, at the two instances: it is itself.
-/
module

public import proofs.«01_k».proof.Proof.KernelIdeal.Prefix
public import proofs.«01_k».proof.Proof.Kernel.Prefix
public import Idealize.ShloMosaic.Lib.NatWords
public import Idealize.ShloMosaic.Lib.NatWordsOrder
public import Idealize.ShloMosaic.PureOps.BitExact
public import Idealize.ShloMosaic.PureOps.Ideal

@[expose] public section

set_option maxRecDepth 16384

namespace Cert.Labels

open Idealize.ShloMosaic

theorem returns_bits : Cert.Kernel.Prefix.Returns Bits := fun a h => by
  have e : FloatOps.sitofp (F := Bits) .f32 (BitVec.ofNat 32 a) = Bits.f32OfNat a := Bits.sitofp32_ofNat (by omega)
  rw [e]
  exact Bits.fptosi32_nat a (by omega)

theorem returns_ideal : Cert.KernelIdeal.Prefix.Returns Ideal := fun a h => by
  show Ideal.fptosi 32 (((BitVec.ofNat 32 a).toInt : ℝ) : EReal) = _
  rw [StableHlo.Predicate.toInt_ofNat_small _ (by omega : a < 2 ^ 31)]
  unfold Ideal.fptosi
  rw [Ideal.toIntClamped_coe, if_pos (by positivity), Int.floor_intCast]
  rw [min_eq_right (by norm_num; omega), max_eq_right (by norm_num), BitVec.ofInt_natCast]

end Cert.Labels
-- ==== Proof.KernelIdeal.Words.lean ====
/-
  The two words that the mining kernel reads at a point are labels of the block of movies at hand, so with all labels in
  range its side condition holds at every point.
-/
module

public import proofs.«01_k».proof.Proof.KernelIdeal.Prefix
public import Idealize.ShloMosaic.Lib.Pipeline.ValueKit

@[expose] public section

set_option maxRecDepth 16384

noncomputable section

namespace Cert.KernelIdeal.Words

open Cert.KernelIdeal Cert.KernelIdeal.Gen Cert.KernelIdeal.Region Cert.KernelIdeal.Run Cert.KernelIdeal.Prefix
open Idealize.ShloMosaic Idealize.ShloMosaic.TcCoe Idealize.ShloMosaic.Tactic
open Cert.Take

variable {F : FTy → Type} [FloatOps F] [Named F]

/-- Two labels in range make the loop over the genres between them well formed, and each genre a row of the one-hot block. -/
theorem chk_of_range : ∀ a b : Fin 32, k2_chk1 (BitVec.ofNat 32 a.val) (BitVec.ofNat 32 b.val) := by decide +kernel

theorem index0 : ∀ t : Fin cfg2.N, win2_0.index t = ![0] := by decide +kernel
theorem index1 : ∀ t : Fin cfg2.N, win2_1.index t = ![0] := by decide +kernel
theorem off1 : ∀ t : Fin cfg2.N, k2_off1 (grid2.coords t) = ![t.val % 16] := by decide +kernel

/-- The place of the word that a point reads. -/
theorem at_point (t : Fin cfg2.N) (x : (Mine.rWord (grid2.coords t)).shape.Idx) :
    (((Mine.rWord (grid2.coords t)).idx x 0 : Fin _) : ℕ) = t.val % 16 := by
  refine (Rect.idx_unit_val _ _ _ _ _).trans ?_
  have h : (x 0).val < 1 := (x 0).isLt
  have e : k2_off1 (grid2.coords t) 0 = t.val % 16 := congrFun (off1 t) 0
  exact (congrArg (· + (x 0).val) e).trans (by omega)

variable (m : (ℓ : Loc nD τ sig) → Buf (Elt F) ℓ) (c : Dev nD)

/-- The first word of a point. -/
theorem word_lo (V : Conts F) (t : Fin cfg2.N) :
    Mine.word (Mine.blk V c 0 t) (grid2.coords t) = (V c main_v42 : IVec S16 32) (ix1 ⟨t.val % 16, Nat.mod_lt _ (by norm_num)⟩) := by
  unfold Mine.word
  have e := off1 t
  rw [View.ld_apply]
  blk_ext [index0 t, Mine.blk, e]
  exact at_point t _

theorem word_hi (V : Conts F) (t : Fin cfg2.N) :
    Mine.word (Mine.blk V c 1 t) (grid2.coords t) = (V c main_v43 : IVec S16 32) (ix1 ⟨t.val % 16, Nat.mod_lt _ (by norm_num)⟩) := by
  unfold Mine.word
  have e := off1 t
  rw [View.ld_apply]
  blk_ext [index1 t, Mine.blk, e]
  exact at_point t _

variable (hF : Returns F)
include hF

theorem label_word (l : Fin 16384 → Fin 32) (hl : ∀ p, lab m c (ix1 p) = BitVec.ofNat 32 (l p).val) (p : Fin 16384) :
    FloatOps.fptosi 32 ((V6 m c main_v29 : Vec F S16384x33 .f32) (ix2 p 32)) = BitVec.ofNat 32 (l (place m c p)).val := by
  rw [taken_label, hl]
  exact hF _ (l _).isLt

theorem lo_word (l : Fin 16384 → Fin 32) (hl : ∀ p, lab m c (ix1 p) = BitVec.ofNat 32 (l p).val) (t : Fin cfg2.N) :
    Mine.word (Mine.blk (conts (W10 m)) c 0 t) (grid2.coords t)
      = BitVec.ofNat 32 (l (place m c ⟨1024 * (t.val % 16), by omega⟩)).val := by
  rw [word_lo]
  show (W10 m c main_v42 : IVec S16 32) _ = _
  rw [W10_of m c main_v42 (by decide) (by decide), W9_of m c main_v42 (by decide) (by decide), V8_of m c main_v42 (by decide)]
  exact (first_label (V6 m c) _).trans (label_word m c hF l hl _)

theorem hi_word (l : Fin 16384 → Fin 32) (hl : ∀ p, lab m c (ix1 p) = BitVec.ofNat 32 (l p).val) (t : Fin cfg2.N) :
    Mine.word (Mine.blk (conts (W10 m)) c 1 t) (grid2.coords t)
      = BitVec.ofNat 32 (l (place m c ⟨1024 * (t.val % 16) + 1023, by omega⟩)).val := by
  rw [word_hi]
  show (W10 m c main_v43 : IVec S16 32) _ = _
  rw [W10_of m c main_v43 (by decide) (by decide), W9_of m c main_v43 (by decide) (by decide), V8_of m c main_v43 (by decide)]
  exact (last_label (V6 m c) _).trans (label_word m c hF l hl _)

/-- With every label in range, the side condition holds at every point. -/
theorem words_ok (hin : ∀ c, InRange m c) : Mine.WordsOk (conts (W10 m)) := fun c t => by
  obtain ⟨l, hl⟩ := hin c
  rw [lo_word m c hF l hl t, hi_word m c hF l hl t]
  exact chk_of_range _ _

end Cert.KernelIdeal.Words
-- ==== Proof.Frames.lean ====
/-
  The two kernels run to completion, leave their arguments unchanged and every semaphore at zero.
-/
module

public import proofs.«01_k».proof.Defs
public import proofs.«01_k».proof.Proof.Pre.All
public import proofs.«01_k».proof.Proof.Labels
public import proofs.«01_k».proof.Proof.Kernel.Words
public import proofs.«01_k».proof.Proof.KernelIdeal.Words

@[expose] public section

set_option maxRecDepth 16384

namespace Cert.Frames

open Idealize.ShloMosaic Idealize.SL.Sem

theorem kernel : Cert.quiescent_Kernel := by
  intro m g hpre
  have hw := Cert.Kernel.Words.words_ok m Cert.Labels.returns_bits fun c => Cert.Pre.labels_of_range (hpre c)
  refine θ_run_mono (Cert.Kernel.Run.run_main m hw g) fun r hr => ⟨fun c => ?_, hr.2⟩
  have h := hr.1 c
  exact ⟨(h Cert.Kernel.main_arg0 rfl).trans (Cert.Kernel.Gen.V32_main_arg0 m _ c),
    (h Cert.Kernel.main_arg1 rfl).trans (Cert.Kernel.Gen.V32_main_arg1 m _ c),
    (h Cert.Kernel.main_arg2 rfl).trans (Cert.Kernel.Gen.V32_main_arg2 m _ c),
    (h Cert.Kernel.main_arg3 rfl).trans (Cert.Kernel.Gen.V32_main_arg3 m _ c),
    (h Cert.Kernel.main_arg4 rfl).trans (Cert.Kernel.Gen.V32_main_arg4 m _ c),
    (h Cert.Kernel.main_arg5 rfl).trans (Cert.Kernel.Gen.V32_main_arg5 m _ c),
    (h Cert.Kernel.main_arg6 rfl).trans (Cert.Kernel.Gen.V32_main_arg6 m _ c),
    (h Cert.Kernel.main_arg7 rfl).trans (Cert.Kernel.Gen.V32_main_arg7 m _ c),
    (h Cert.Kernel.main_arg8 rfl).trans (Cert.Kernel.Gen.V32_main_arg8 m _ c),
    (h Cert.Kernel.main_arg9 rfl).trans (Cert.Kernel.Gen.V32_main_arg9 m _ c),
    (h Cert.Kernel.main_arg10 rfl).trans (Cert.Kernel.Gen.V32_main_arg10 m _ c),
    (h Cert.Kernel.main_arg11 rfl).trans (Cert.Kernel.Gen.V32_main_arg11 m _ c),
    (h Cert.Kernel.main_arg12 rfl).trans (Cert.Kernel.Gen.V32_main_arg12 m _ c)⟩

theorem ideal_of (m : (ℓ : Loc Cert.KernelIdeal.nD Cert.KernelIdeal.τ Cert.KernelIdeal.sig) → Buf (Elt Ideal) ℓ) (g : Dev Cert.KernelIdeal.nD → PrngReg)
    (hin : ∀ c, Cert.KernelIdeal.Prefix.InRange m c) :
    θ_run (Cert.KernelIdeal.defs (F := Ideal)) (onTc (τ := Cert.KernelIdeal.τ) (Cert.KernelIdeal.main (F := Ideal))) ⟨m, fun _ => 0, g⟩ fun r =>
      (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)) ∧ r.2.sem = fun _ => 0 := by
  have hw := Cert.KernelIdeal.Words.words_ok m Cert.Labels.returns_ideal hin
  refine θ_run_mono (Cert.KernelIdeal.Run.run_main m hw g) fun r hr => ⟨fun c => ?_, hr.2⟩
  have h := hr.1 c
  exact ⟨(h Cert.KernelIdeal.main_arg0 rfl).trans (Cert.KernelIdeal.Gen.V32_main_arg0 m _ c),
    (h Cert.KernelIdeal.main_arg1 rfl).trans (Cert.KernelIdeal.Gen.V32_main_arg1 m _ c),
    (h Cert.KernelIdeal.main_arg2 rfl).trans (Cert.KernelIdeal.Gen.V32_main_arg2 m _ c),
    (h Cert.KernelIdeal.main_arg3 rfl).trans (Cert.KernelIdeal.Gen.V32_main_arg3 m _ c),
    (h Cert.KernelIdeal.main_arg4 rfl).trans (Cert.KernelIdeal.Gen.V32_main_arg4 m _ c),
    (h Cert.KernelIdeal.main_arg5 rfl).trans (Cert.KernelIdeal.Gen.V32_main_arg5 m _ c),
    (h Cert.KernelIdeal.main_arg6 rfl).trans (Cert.KernelIdeal.Gen.V32_main_arg6 m _ c),
    (h Cert.KernelIdeal.main_arg7 rfl).trans (Cert.KernelIdeal.Gen.V32_main_arg7 m _ c),
    (h Cert.KernelIdeal.main_arg8 rfl).trans (Cert.KernelIdeal.Gen.V32_main_arg8 m _ c),
    (h Cert.KernelIdeal.main_arg9 rfl).trans (Cert.KernelIdeal.Gen.V32_main_arg9 m _ c),
    (h Cert.KernelIdeal.main_arg10 rfl).trans (Cert.KernelIdeal.Gen.V32_main_arg10 m _ c),
    (h Cert.KernelIdeal.main_arg11 rfl).trans (Cert.KernelIdeal.Gen.V32_main_arg11 m _ c),
    (h Cert.KernelIdeal.main_arg12 rfl).trans (Cert.KernelIdeal.Gen.V32_main_arg12 m _ c)⟩

theorem ideal : Cert.quiescent_KernelIdeal :=
  fun m g hpre => ideal_of m g fun c => Cert.Pre.labels_of_range_ideal (hpre c)

theorem ideal_finite : Cert.quiescent_KernelIdeal_pre_indices_in_range_and_finite :=
  fun m g hpre => ideal_of m g fun c => (Cert.Pre.good_of_pre (hpre c)).labels

/-- The one constant the idealization names: `1e30`, the seed of every minimum, stands for `+∞`. -/
theorem preserved : Cert.preserves_Kernel_KernelIdeal :=
  IdealRules.named_const.statement Cert.KernelIdeal.κ "big" .f32 0x7149F2CA#32 ⊤ rfl

end Cert.Frames
-- ==== Proof.ReferenceIdeal.Frame.lean ====
/-
  The reference runs to completion, leaves its arguments unchanged and every semaphore at zero.
-/
module

public import proofs.«01_k».proof.Defs
public import proofs.«01_k».proof.Proof.Gen.ReferenceIdeal
public import proofs.«01_k».proof.Proof.Pre.Facts
public import Idealize.ShloMosaic.Lib.Claim

@[expose] public section

set_option maxRecDepth 16384

namespace Cert.ReferenceIdeal.Frame

open Idealize.ShloMosaic Idealize.SL.Sem

theorem frame : Cert.quiescent_ReferenceIdeal := by
  intro m g hpre
  hlo_run
  · exact fun _ => by simp
  · exact sem_eq_zero_of_no_sems rfl _

theorem frame' : Cert.quiescent_ReferenceIdeal_pre_indices_in_range_and_finite :=
  fun m g hpre => frame m g trivial

end Cert.ReferenceIdeal.Frame
-- ==== Proof.Sums.lean ====
/-
  Rows added into a table: the scatter that sums row `p` of the updates into the row of the table that index word `p` names, read
  at an entry.
-/
module

public import Idealize.ShloMosaic.Lib.Pointwise
public import Idealize.ShloMosaic.Lib.Pointwise.IndexBridge
public import Idealize.ShloMosaic.Lib.Routing.Ops
public import Idealize.ShloMosaic.Lib.Routing.OpsOne

@[expose] public section

noncomputable section

namespace Cert.Sums

open Idealize.ShloMosaic Idealize.ShloMosaic.Routing
open scoped BigOperators

variable {nb B n : ℕ}

/-- Update `(p, e)` lands at `(a, c)` exactly when index word `p`, read signed, is `a` and `e` is `c`. -/
theorem lands_row (d : ScatterDims (shape2 nb B) (shape2 n 1) (shape2 n B)) (huw : d.updateWindowDims = [1])
    (hiw : d.insertedWindowDims = [0]) (hsd : d.scatterDimsToOperandDims = [0]) (hivd : d.indexVectorDim = 1)
    (idx : IVec (shape2 n 1) 32) (p : Fin n) (e : Fin B) (a : Fin nb) (c : Fin B) :
    d.resultIdx? (ValueIdx.ix2 p e) idx = some (ValueIdx.ix2 a c) ↔ (idx (ValueIdx.ix2 p 0)).toInt = (a.val : Int) ∧ e = c := by
  have hm : (0 : Fin 2) ∈ d.scatterDimsToOperandDims := by rw [hsd]; exact List.mem_singleton.2 rfl
  have hkept : d.sKept = [1] := by
    show (shape2 nb B).kept d.insertedWindowDims = _
    rw [hiw]
    rfl
  have hwin0 : d.window (ValueIdx.ix2 p e) 0 = 0 := by
    unfold ScatterDims.window
    rw [dif_neg fun h => by rw [hkept] at h; exact absurd (List.mem_singleton.1 h) (by decide : (0 : Fin 2) ≠ 1)]
  have hwin1 : d.window (ValueIdx.ix2 p e) 1 = e.val := by
    unfold ScatterDims.window
    rw [dif_pos (by rw [hkept]; exact List.mem_singleton.2 rfl)]
    have q : ∀ (X : Fin 2), X = 1 → (ValueIdx.ix2 p e X).val = e.val := fun X hX => by subst hX; rfl
    refine q _ ?_
    simp [huw]
  have hstart1 : d.start (ValueIdx.ix2 p e) idx 1 = 0 := by
    unfold ScatterDims.start
    rw [dif_neg fun h => by rw [hsd] at h; exact absurd (List.mem_singleton.1 h) (by decide : (1 : Fin 2) ≠ 0)]
  have hus : d.uScatter = [0] := by
    show (shape2 n B).kept d.updateWindowDims = _
    rw [huw]
    rfl
  have hstart0 : d.start (ValueIdx.ix2 p e) idx 0 = (idx (ValueIdx.ix2 p 0)).toInt := by
    unfold ScatterDims.start
    rw [dif_pos hm]
    have hsi : d.siIdx (ValueIdx.ix2 p e) ⟨d.scatterDimsToOperandDims.idxOf 0, List.idxOf_lt_length_iff.2 hm⟩ = ValueIdx.ix2 p (0 : Fin 1) := by
      funext b'
      apply Fin.ext
      match b' with
      | ⟨0, _⟩ =>
        unfold ScatterDims.siIdx
        rw [dif_neg (by rw [hivd]; exact Nat.zero_ne_one)]
        unfold ScatterDims.siCoord
        simp only [Fin.val_cast]
        have q : ∀ (X : Fin 2), X = 0 → (ValueIdx.ix2 p e X).val = p.val := fun X hX => by subst hX; rfl
        refine q _ ?_
        simp [hus]
      | ⟨1, _⟩ =>
        unfold ScatterDims.siIdx
        rw [dif_pos (by rw [hivd])]
        show List.idxOf (0 : Fin 2) d.scatterDimsToOperandDims = 0
        rw [hsd]; simp
    rw [hsi]
  rw [Fin.ext_iff, Routing.resultIdx?_ix2, hstart0, hwin0, hstart1, hwin1]
  omega

/-- Entry `(a, c)` of the sum, over the library's other indices: the table's entry and the entries `c` of the rows whose index word is `a`. -/
theorem rows_added' (d : ScatterDims (shape2 nb B) (shape2 n 1) (shape2 n B)) (huw : d.updateWindowDims = [1])
    (hiw : d.insertedWindowDims = [0]) (hsd : d.scatterDimsToOperandDims = [0]) (hivd : d.indexVectorDim = 1)
    (x : (shape2 nb B).Idx → EReal) (idx : IVec (shape2 n 1) 32) (upd : (shape2 n B).Idx → EReal) (a : Fin nb) (c : Fin B) :
    Ideal.hostScatterAdd d x idx upd (ValueIdx.ix2 a c)
      = x (ValueIdx.ix2 a c) + ∑ p : Fin n, if (idx (ValueIdx.ix2 p 0)).toInt = (a.val : Int) then upd (ValueIdx.ix2 p c) else 0 := by
  unfold Ideal.hostScatterAdd
  congr 1
  rw [Finset.sum_filter, ValueIdx.sum_idx2]
  refine Finset.sum_congr rfl fun p _ => ?_
  rw [Finset.sum_eq_single c]
  · refine if_congr ?_ rfl rfl
    exact (lands_row d huw hiw hsd hivd idx p c a c).trans (and_iff_left rfl)
  · intro e _ he
    exact if_neg fun h => he ((lands_row d huw hiw hsd hivd idx p e a c).1 h).2
  · exact fun h => absurd (Finset.mem_univ _) h

/-- Entry `(a, c)` of the sum: the table's entry and the entries `c` of the rows whose index word is `a`. -/
theorem rows_added (d : ScatterDims (shape2 nb B) (shape2 n 1) (shape2 n B)) (huw : d.updateWindowDims = [1])
    (hiw : d.insertedWindowDims = [0]) (hsd : d.scatterDimsToOperandDims = [0]) (hivd : d.indexVectorDim = 1)
    (x : (shape2 nb B).Idx → EReal) (idx : IVec (shape2 n 1) 32) (upd : (shape2 n B).Idx → EReal) (a : Fin nb) (c : Fin B) :
    Ideal.hostScatterAdd d x idx upd (ix2 a c)
      = x (ix2 a c) + ∑ p : Fin n, if (idx (ix2 p 0)).toInt = (a.val : Int) then upd (ix2 p c) else 0 :=
  rows_added' d huw hiw hsd hivd x idx upd a c

end Cert.Sums
-- ==== Proof.Spec.lean ====
/-
  The quantities that both programs compute, over plain functions of row and column numbers, and what is true of them.
-/
module

public import Idealize.ShloMosaic.Lib.Pointwise

@[expose] public section

noncomputable section

namespace Cert.Spec

open Idealize.ShloMosaic
open scoped BigOperators

/-- The entries of a matrix, by row and column. -/
abbrev mat {n k : ℕ} (x : (⟨2, ![n, k]⟩ : Shape).Idx → EReal) (i : Fin n) (j : Fin k) : EReal := x (ix2 i j)

/-- The entries of a vector. -/
abbrev vec {n : ℕ} (x : (⟨1, ![n]⟩ : Shape).Idx → EReal) (i : Fin n) : EReal := x (ix1 i)

/-- The entry of a scalar. -/
abbrev sca (x : (⟨0, ![]⟩ : Shape).Idx → EReal) : EReal := x ix0

/-- The entries of an array of rank three. -/
abbrev cub {n k l : ℕ} (x : (⟨3, ![n, k, l]⟩ : Shape).Idx → EReal) (i : Fin n) (j : Fin k) (h : Fin l) : EReal := x (ix3 i j h)

/-- The rows whose word is `a`, averaged. -/
def mean {n B : ℕ} (w : Fin n → ℤ) (r : Fin n → Fin B → EReal) (a : ℕ) (e : Fin B) : EReal :=
  Ideal.div (∑ p, if w p = (a : ℤ) then r p e else 0) (max (∑ p, if w p = (a : ℤ) then (1 : EReal) else 0) 1)

/-- Two layers: the row and its neighbours' row through their weights, `relu`, the second weights, `relu`. -/
def layers (x n : Fin 32 → EReal) (Ws Wn : Fin 32 → Fin 16 → EReal) (W2 : Fin 16 → Fin 16 → EReal) (j : Fin 16) : EReal :=
  max (∑ k, max ((∑ a, x a * Ws a k) + ∑ a, n a * Wn a k) 0 * W2 k j) 0

/-- The sum of a row's squares. -/
def squares (x : Fin 16 → EReal) : EReal := ∑ j, x j * x j

/-- The distance of two rows, from the sum of their squares and their product. -/
def root (two eps t : EReal) (x y : Fin 16 → EReal) : EReal := Ideal.sqrt (max 0 (t - two * ∑ j, x j * y j) + eps)

end Cert.Spec
-- ==== Proof.Lanes.lean ====
/-
  Four operations read at an index: the gather by a pair of index words, the minimum along an axis, the sort of each row, and the
  place of each row's minimum.  Then what the first two entries of a sorted row are.
-/
module

public import proofs.«01_k».proof.Defs
public import proofs.«01_k».proof.Proof.Take

@[expose] public section

set_option maxRecDepth 16384

noncomputable section

namespace Cert.Lanes

open Idealize.ShloMosaic Idealize.ShloMosaic.Routing

/-! ## The gather by a pair of words -/

theorem gather_cell {α : Type} {R C n : ℕ} (d : GatherDims (shape2 R C) (shape2 n 2) (shape1 n)) (hcoll : d.collapsedSliceDims = [0, 1])
    (hob : d.operandBatchingDims = []) (hsim : d.startIndexMap = [0, 1]) (hivd : d.indexVectorDim = 1) (x : (shape2 R C).Idx → α)
    (idx : IVec (shape2 n 2) 32) (p : Fin n) (a : Fin R) (b : Fin C) (ha : idx (ix2 p 0) = BitVec.ofNat 32 a.val)
    (hb : idx (ix2 p 1) = BitVec.ofNat 32 b.val) (hR : R < 2 ^ 31) (hC : C < 2 ^ 31) :
    Host.gather d x idx (ix1 p) = x (ix2 a b) := by
  have hal := a.isLt
  have hbl := b.isLt
  have hmem : ∀ q : Fin 2, q ∈ d.startIndexMap := fun q => by rw [hsim]; fin_cases q <;> simp
  have hcm : ∀ q : Fin 2, q ∈ d.collapsedSliceDims := fun q => by rw [hcoll]; fin_cases q <;> simp
  have hsl : ∀ q : Fin 2, d.sliceSizes q = 1 := fun q => d.slice_collapsed q (hcm q)
  have hsi : ∀ q : Fin 2, d.siIdx (ix1 p) ⟨d.startIndexMap.idxOf q, List.idxOf_lt_length_iff.2 (hmem q)⟩ = ix2 p q := fun q => by
    funext c
    apply Fin.ext
    match c with
    | ⟨0, _⟩ =>
      unfold GatherDims.siIdx
      rw [dif_neg (by rw [hivd]; exact Nat.zero_ne_one)]
      unfold GatherDims.siCoord
      simp only [Fin.val_cast]
      have e : ∀ X : Fin 1, ((ix1 p : (shape1 n).Idx) X).val = p.val := fun X => by
        obtain rfl : X = 0 := Subsingleton.elim _ _
        rfl
      exact e _
    | ⟨1, _⟩ =>
      unfold GatherDims.siIdx
      rw [dif_pos (by rw [hivd])]
      show List.idxOf q d.startIndexMap = q.val
      rw [hsim]
      fin_cases q <;> rfl
  have hst : ∀ q : Fin 2, d.start (ix1 p) idx q = min (idx (ix2 p q)).toInt.toNat ((shape2 R C).size q - 1) := fun q => by
    unfold GatherDims.start
    rw [dif_pos (hmem q), hsi q, hsl q]
  have hnb : ∀ q : Fin 2, q ∉ d.operandBatchingDims := fun q => by rw [hob]; exact List.not_mem_nil
  have hnk : ∀ q : Fin 2, q ∉ d.sKept := fun q => by rw [GatherDims.mem_sKept]; exact fun h => h.1 (hcm q)
  unfold Host.gather
  refine congrArg x (funext fun q => Fin.ext ?_)
  simp only [GatherDims.operandIdx, GatherDims.batchCoord_eq_zero _ _ _ (hnb q), GatherDims.offCoord_eq_zero _ _ _ (hnk q), Nat.add_zero, hst]
  match q with
  | ⟨0, _⟩ =>
    show min (idx (ix2 p 0)).toInt.toNat (R - 1) = a.val
    rw [ha, Take.toInt_word (by omega)]
    omega
  | ⟨1, _⟩ =>
    show min (idx (ix2 p 1)).toInt.toNat (C - 1) = b.val
    rw [hb, Take.toInt_word (by omega)]
    omega

/-! ## The minimum along an axis -/

theorem inf_top : Ideal.ofBits .f32 0x7F800000#32 = ⊤ := by simp [Ideal.ofBits, Ideal.ieee]

/-- The minimum of each row. -/
theorem row_min {n k : ℕ} (x : (shape2 n k).Idx → EReal) (init : shape0.Idx → EReal) (hinit : ∀ i, init i = ⊤)
    (h' : (shape2 n k).ReducesTo [1] (shape1 n)) (h : (shape2 n k).Reduces [1] (shape1 n)) (hu : 0 < shape0.numel) (u : Fin n) :
    Host.reduce (FloatOps.minimumf (F := Ideal) (φ := .f32)) x init h' hu (ix1 u) = Finset.univ.inf fun g => x (ix2 u g) := by
  rw [Host.reduce_eq_fold_single _ x init h' h hu, hinit]
  have e : ∀ g : Fin k, h.lift (ix1 u) g = ix2 u g := fun g => by
    funext a
    apply Fin.ext
    refine (h.lift_val _ _ _).trans ?_
    match a with
    | ⟨0, _⟩ => simp [Shape.Reduces.liftVal]
    | ⟨1, _⟩ => simp [Shape.Reduces.liftVal]
  show Finset.fold min ⊤ (fun g : Fin k => x (h.lift (ix1 u) g)) Finset.univ = _
  simp only [e]
  rfl

/-- The minimum along the middle axis. -/
theorem middle_min {n k l : ℕ} (x : (⟨3, ![n, k, l]⟩ : Shape).Idx → EReal) (init : shape0.Idx → EReal) (hinit : ∀ i, init i = ⊤)
    (h' : (⟨3, ![n, k, l]⟩ : Shape).ReducesTo [1] (shape2 n l)) (h : (⟨3, ![n, k, l]⟩ : Shape).Reduces [1] (shape2 n l)) (hu : 0 < shape0.numel)
    (u : Fin n) (g : Fin l) :
    Host.reduce (FloatOps.minimumf (F := Ideal) (φ := .f32)) x init h' hu (ix2 u g) = Finset.univ.inf fun p => x (ix3 u p g) := by
  rw [Host.reduce_eq_fold_single _ x init h' h hu, hinit]
  have e : ∀ p : Fin k, h.lift (ix2 u g) p = ix3 u p g := fun p => by
    funext a
    apply Fin.ext
    refine (h.lift_val _ _ _).trans ?_
    match a with
    | ⟨0, _⟩ => simp [Shape.Reduces.liftVal]
    | ⟨1, _⟩ => simp [Shape.Reduces.liftVal]
    | ⟨2, _⟩ => simp [Shape.Reduces.liftVal]
  show Finset.fold min ⊤ (fun p : Fin k => x (h.lift (ix2 u g) p)) Finset.univ = _
  simp only [e]
  rfl

/-! ## The sort of each row -/

theorem less_bit (a b : EReal) : FloatOps.cmpf (F := Ideal) (φ := .f32) .olt a b = BitVec.ofBool (decide (a < b)) := by
  rw [Ideal.cmpf_def]; simp [Ideal.cmp]
theorem less_bit' (a b : EReal) : FloatOps.cmpfTotal (F := Ideal) (φ := .f32) .lt a b = BitVec.ofBool (decide (a < b)) := less_bit a b
theorem equal_bit (a b : EReal) : FloatOps.cmpf (F := Ideal) (φ := .f32) .oeq a b = BitVec.ofBool (decide (a = b)) := by
  rw [Ideal.cmpf_def]; simp [Ideal.cmp]
theorem self_bit (a : EReal) : FloatOps.cmpf (F := Ideal) (φ := .f32) .une a a = 0#1 := by
  rw [Ideal.cmpf_def]; simp [Ideal.cmp]

theorem before_iff (a b : EReal) : (ReferenceIdeal.comparator_f32_d1 (F := Ideal) a b == 1#1) = true ↔ a < b := by
  have h0 : Ideal.ofBits .f32 0x00000000#32 = 0 := by simp [Ideal.ofBits, Ideal.ieee]
  have hz : ∀ c : EReal, Scalar.select (BitVec.ofBool (decide (c = 0))) (0 : EReal) c = c := fun c => by
    by_cases h : c = 0 <;> simp [h, Scalar.select]
  have hn : ∀ c d : EReal, Scalar.select 0#1 d c = c := fun c d => by simp [Scalar.select]
  have key : ReferenceIdeal.comparator_f32_d1 (F := Ideal) a b = BitVec.ofBool (decide (a < b)) := by
    unfold ReferenceIdeal.comparator_f32_d1
    simp only [Ideal.ofBits_def, h0, equal_bit, self_bit, less_bit', hz, hn]
  rw [key]
  by_cases h : a < b <;> simp [h]

theorem sorted_row {n k : ℕ} (x : (shape2 n k).Idx → EReal) (u : Fin n) :
    ∃ σ : Fin k → Fin k, Function.Bijective σ
      ∧ (∀ j, Host.sort (shape2 n k) 1 (ReferenceIdeal.comparator_f32_d1 (F := Ideal)) x (ix2 u j) = x (ix2 u (σ j)))
      ∧ ∀ i j, i < j → x (ix2 u (σ i)) ≤ x (ix2 u (σ j)) := by
  let B : Fin k → Fin k → Bool := fun a b => ReferenceIdeal.comparator_f32_d1 (F := Ideal) (x (ix2 u a)) (x (ix2 u b)) == 1#1
  have nlt : ∀ a b, B a b = false ↔ x (ix2 u b) ≤ x (ix2 u a) := fun a b => by
    rw [← not_lt, ← before_iff]; simp [B]
  refine ⟨sortedFrom B, ⟨sortedFrom_injective _, sortedFrom_surjective _⟩, fun j => ?_, fun i j hij => ?_⟩
  · have hd : 1 < (shape2 n k).rank := Nat.one_lt_two
    have e : ∀ c : Fin k, (ix2 u j : (shape2 n k).Idx).along (⟨1, hd⟩ : Fin (shape2 n k).rank) c = ix2 u c := fun c => by
      funext a
      match a with
      | ⟨0, _⟩ => rfl
      | ⟨1, _⟩ => rfl
    unfold Host.sort
    rw [dif_pos hd]
    refine (congrArg x (e _)).trans ?_
    refine congrArg (fun q : Fin k => x (ix2 u q)) ?_
    show sortedFrom _ j = sortedFrom _ j
    congr 1
    funext a b
    exact congrArg₂ (fun v w => ReferenceIdeal.comparator_f32_d1 (F := Ideal) (x v) (x w) == 1#1) (e a) (e b)
  · have key := sortedFrom_noInversion B B (fun a b hab => (nlt b a).2 (le_of_lt ((before_iff _ _).1 hab))) (fun a b hab => hab)
      (fun a b c hab hbc => (nlt a c).2 (((nlt b c).1 hbc).trans ((nlt a b).1 hab))) i j hij
    exact (nlt _ _).1 key

/-- The first entry of a sorted row is its minimum, and the second is the minimum without a lane that holds the minimum. -/
theorem first_two {k : ℕ} (f : Fin (k + 2) → EReal) (σ : Fin (k + 2) → Fin (k + 2)) (hσ : Function.Bijective σ)
    (hs : ∀ i j, i < j → f (σ i) ≤ f (σ j)) (a : Fin (k + 2)) (ha : f a = Finset.univ.inf f) :
    f (σ 0) = Finset.univ.inf f ∧ f (σ 1) = Finset.univ.inf fun g => if g = a then ⊤ else f g := by
  have h0 : ∀ g, f (σ 0) ≤ f g := fun g => by
    obtain ⟨i, rfl⟩ := hσ.2 g
    rcases eq_or_ne i 0 with rfl | hi
    · exact le_rfl
    · exact hs _ _ (Fin.pos_of_ne_zero hi)
  have h1 : ∀ i, i ≠ 0 → f (σ 1) ≤ f (σ i) := fun i hi => by
    rcases eq_or_ne i 1 with rfl | hi1
    · exact le_rfl
    · refine hs _ _ ?_
      rw [Fin.lt_def]
      have e0 : i.val ≠ 0 := fun h => hi (Fin.ext h)
      have e1 : i.val ≠ 1 := fun h => hi1 (Fin.ext h)
      show 1 < i.val
      omega
  have hmin : f (σ 0) = Finset.univ.inf f := le_antisymm (Finset.le_inf fun g _ => h0 g) (Finset.inf_le (Finset.mem_univ _))
  refine ⟨hmin, ?_⟩
  have h01 : f (σ 0) ≤ f (σ 1) := h0 _
  have hne : σ 0 ≠ σ 1 := fun h => absurd (hσ.1 h) (by simp [Fin.ext_iff])
  refine le_antisymm (Finset.le_inf fun g _ => ?_) ?_
  · by_cases hg : g = a
    · rw [if_pos hg]; exact le_top
    · rw [if_neg hg]
      obtain ⟨i, rfl⟩ := hσ.2 g
      rcases eq_or_ne i 0 with rfl | hi
      · obtain ⟨j, rfl⟩ := hσ.2 a
        have hj : j ≠ 0 := fun h => hg (by rw [h])
        calc f (σ 1) ≤ f (σ j) := h1 j hj
          _ = f (σ 0) := by rw [ha, hmin]
      · exact h1 i hi
  · by_cases h : σ 1 = a
    · refine (Finset.inf_le (Finset.mem_univ (σ 0))).trans ?_
      rw [if_neg (fun h' => hne (h'.trans h.symm))]
      exact h01
    · refine (Finset.inf_le (Finset.mem_univ (σ 1))).trans ?_
      rw [if_neg h]

/-! ## The place of the minimum -/

theorem reducer_eq (a b : EReal × BitVec 32) :
    ReferenceIdeal.reducer_argmin_f32_i32 (F := Ideal) a b = (min a.1 b.1, if a.1 < b.1 ∨ (a.1 = b.1 ∧ a.2.slt b.2) then a.2 else b.2) := by
  unfold ReferenceIdeal.reducer_argmin_f32_i32
  simp only [less_bit, equal_bit, self_bit]
  obtain ⟨a1, a2⟩ := a
  obtain ⟨b1, b2⟩ := b
  simp only [IntOp.cmpi, IntOp.ori, IntOp.andi]
  rcases lt_trichotomy a1 b1 with h | h | h
  · simp [h, h.ne, Scalar.select, min_eq_left h.le]
  · subst h
    by_cases h2 : a2.slt b2 = true <;> simp [h2, Scalar.select]
  · simp [h.not_gt, h.ne', Scalar.select, min_eq_right h.le]

theorem reducer_cases (a b : EReal × BitVec 32) :
    (ReferenceIdeal.reducer_argmin_f32_i32 (F := Ideal) a b = a ∨ ReferenceIdeal.reducer_argmin_f32_i32 (F := Ideal) a b = b)
      ∧ (ReferenceIdeal.reducer_argmin_f32_i32 (F := Ideal) a b).1 ≤ a.1 ∧ (ReferenceIdeal.reducer_argmin_f32_i32 (F := Ideal) a b).1 ≤ b.1 := by
  rw [reducer_eq]
  refine ⟨?_, min_le_left _ _, min_le_right _ _⟩
  obtain ⟨a1, a2⟩ := a
  obtain ⟨b1, b2⟩ := b
  simp only
  rcases lt_trichotomy a1 b1 with h | h | h
  · exact Or.inl (by rw [if_pos (Or.inl h), min_eq_left h.le])
  · subst h
    by_cases h2 : a2.slt b2 = true
    · exact Or.inl (by rw [if_pos (Or.inr ⟨rfl, h2⟩), min_self])
    · exact Or.inr (by rw [if_neg (by simp [h2]), min_self])
  · exact Or.inr (by rw [if_neg (by simp [h.not_gt, h.ne']), min_eq_right h.le])

theorem fold_cases (l : List (EReal × BitVec 32)) : ∀ r : EReal × BitVec 32,
    (l.foldl (ReferenceIdeal.reducer_argmin_f32_i32 (F := Ideal)) r = r ∨ l.foldl (ReferenceIdeal.reducer_argmin_f32_i32 (F := Ideal)) r ∈ l)
      ∧ (l.foldl (ReferenceIdeal.reducer_argmin_f32_i32 (F := Ideal)) r).1 ≤ r.1
      ∧ ∀ p ∈ l, (l.foldl (ReferenceIdeal.reducer_argmin_f32_i32 (F := Ideal)) r).1 ≤ p.1 := by
  induction l with
  | nil => exact fun r => ⟨Or.inl rfl, le_rfl, fun p hp => absurd hp List.not_mem_nil⟩
  | cons b l ih =>
    intro r
    obtain ⟨hm, hr, hl⟩ := ih (ReferenceIdeal.reducer_argmin_f32_i32 (F := Ideal) r b)
    obtain ⟨hc, h1, h2⟩ := reducer_cases r b
    rw [List.foldl_cons]
    refine ⟨?_, hr.trans h1, fun p hp => ?_⟩
    · rcases hm with hm | hm
      · rcases hc with hc | hc
        · exact Or.inl (hm.trans hc)
        · exact Or.inr (by rw [hm, hc]; exact List.mem_cons_self)
      · exact Or.inr (List.mem_cons_of_mem _ hm)
    · rcases List.mem_cons.1 hp with rfl | hp
      · exact hr.trans h2
      · exact hl p hp

/-- The word that the arg-min returns for a row is a lane that holds the row's minimum. -/
theorem nearest_lane {n k : ℕ} (x : (shape2 n (k + 1)).Idx → EReal) (init : shape0.Idx → EReal) (hinit : ∀ i, init i = ⊤)
    (h' : (shape2 n (k + 1)).ReducesTo [1] (shape1 n)) (h : (shape2 n (k + 1)).Reduces [1] (shape1 n)) (hu : 0 < shape0.numel) (u : Fin n) :
    ∃ a : Fin (k + 1), (Host.argReduce (F := Ideal) (φ := .f32) (ReferenceIdeal.reducer_argmin_f32_i32 (F := Ideal)) x (iotaInDim (shape2 n (k + 1)) 32 1)
        init (constantI shape0 32 0#32) h' hu (ix1 u)).2 = BitVec.ofNat 32 a.val
      ∧ x (ix2 u a) = Finset.univ.inf fun g => x (ix2 u g) := by
  rw [Ideal.argReduce_eq_reduce2, Host.reduce2_eq_foldl_fiber]
  have e : ∀ g : Fin (k + 1), h.lift (ix1 u) g = ix2 u g := fun g => by
    funext a
    apply Fin.ext
    refine (h.lift_val _ _ _).trans ?_
    match a with
    | ⟨0, _⟩ => simp [Shape.Reduces.liftVal]
    | ⟨1, _⟩ => simp [Shape.Reduces.liftVal]
  have mem : ∀ p, p ∈ Host.argReduceFiber x (iotaInDim (shape2 n (k + 1)) 32 1) h' (ix1 u) ↔ ∃ g : Fin (k + 1), p = (x (ix2 u g), BitVec.ofNat 32 g.val) := fun p => by
    unfold Host.argReduceFiber
    rw [List.mem_map]
    constructor
    · rintro ⟨m, hm, rfl⟩
      have hd := of_decide_eq_true (List.mem_filter.1 hm).2
      rw [Shape.ReducesTo.drop_eq_drop h' h] at hd
      have hl : (shape2 n (k + 1)).rowMajor.symm m = ix2 u ((shape2 n (k + 1)).rowMajor.symm m 1) := by
        refine Eq.trans ?_ (e _)
        rw [← hd]
        exact (h.lift_drop _).symm
      exact ⟨(shape2 n (k + 1)).rowMajor.symm m 1, Prod.ext (congrArg x hl) rfl⟩
    · rintro ⟨g, rfl⟩
      refine ⟨(shape2 n (k + 1)).rowMajor (ix2 u g), List.mem_filter.2 ⟨List.mem_finRange _, decide_eq_true ?_⟩, ?_⟩
      · rw [Equiv.symm_apply_apply, Shape.ReducesTo.drop_eq_drop h' h, ← e]; exact h.drop_lift _ _
      · rw [Equiv.symm_apply_apply]; rfl
  obtain ⟨hm, _, hl⟩ := fold_cases (Host.argReduceFiber x (iotaInDim (shape2 n (k + 1)) 32 1) h' (ix1 u)) (init (Shape.Idx.first hu), 0#32)
  have least : ∀ g : Fin (k + 1), _ ≤ x (ix2 u g) := fun g => hl _ ((mem _).2 ⟨g, rfl⟩)
  rcases hm with hm | hm
  · refine ⟨0, congrArg Prod.snd hm, ?_⟩
    have ht : ∀ g : Fin (k + 1), x (ix2 u g) = ⊤ := fun g => top_le_iff.1 (by
      have := least g
      rw [hm] at this
      exact (hinit _).symm.le.trans this)
    rw [ht 0]
    exact (top_le_iff.1 (Finset.le_inf fun g _ => (ht g).symm.le)).symm
  · obtain ⟨g, hg⟩ := (mem _).1 hm
    refine ⟨g, congrArg Prod.snd hg, ?_⟩
    refine le_antisymm (Finset.le_inf fun g' _ => ?_) (Finset.inf_le (Finset.mem_univ _))
    have := least g'
    rw [hg] at this
    exact this

end Cert.Lanes
-- ==== Proof.KernelIdeal.Suffix.lean ====
/-
  The kernel program's host operations read at an index, at exact values: the neighbours' average before the regions, and every
  stretch after them.
-/
module

public import proofs.«01_k».proof.Proof.KernelIdeal.Prefix
public import proofs.«01_k».proof.Proof.Sums
public import proofs.«01_k».proof.Proof.Spec
public import proofs.«01_k».proof.Proof.Lanes

@[expose] public section

set_option maxRecDepth 16384

noncomputable section

namespace Cert.KernelIdeal.Suffix

open Cert.KernelIdeal Cert.KernelIdeal.Gen
open Idealize.ShloMosaic Idealize.ShloMosaic.TcCoe Idealize.ShloMosaic.Tactic
open Cert.Take Cert.Spec
open scoped BigOperators

variable (W : Valuation τ sig (Elt Ideal))

theorem sources (p : Fin 16384) : (StableHlo.after hostOps0 W main_v1 : IVec S16384 32) (ix1 p) = (W main_arg2 : IVec S16384x2 32) (ix2 p 0) := by
  after_reads_at

theorem targets (p : Fin 16384) : (StableHlo.after hostOps0 W main_v3 : IVec S16384 32) (ix1 p) = (W main_arg2 : IVec S16384x2 32) (ix2 p 1) := by
  after_reads_at

/-- The movie rows of the edges' targets. -/
theorem rows_of_targets (f : Fin 16384 → Fin 16384)
    (hf : ∀ p, (W main_v3 : IVec S16384 32) (ix1 p) = BitVec.ofNat 32 (f p).val) (p : Fin 16384) (y : Fin 32) :
    mat (StableHlo.after hostOps0_1 W main_v4 : Vec Ideal S16384x32 .f32) p y = mat (W main_arg1 : Vec Ideal S16384x32 .f32) (f p) y := by
  unfold mat
  after_reads_simp
  simp -implicitDefEqProofs only [StableHlo.TRef.toBuf, StableHlo.TRef.ofBuf, cast_cast, cast_eq]
  clean_types
  exact rows_at _ _ _ _ _ _ _ _ _ _ rfl rfl rfl rfl rfl 16384#32 16383 (by norm_num) rfl _ _ _ f hf p y

/-- The neighbours' rows averaged: the sums and the counts are columns of one sum. -/
theorem averaged (a : Fin 4096) (e : Fin 32) :
    mat (StableHlo.after hostOps0_2 W main_v15 : Vec Ideal S4096x32 .f32) a e
      = mean (fun p : Fin 16384 => ((W main_v1 : IVec S16384 32) (ix1 p)).toInt) (mat (W main_v4 : Vec Ideal S16384x32 .f32)) a.val e := by
  unfold mat mean
  after_reads_simp
  clean_types
  pointwise
  refine congrArg₂ Ideal.div ((Sums.rows_added _ rfl rfl rfl rfl _ _ _ a ⟨e.val, by omega⟩).trans ?_)
    (congrArg (max · 1) ((Sums.rows_added _ rfl rfl rfl rfl _ _ _ a 32).trans ?_))
  · pointwise
    refine Finset.sum_congr rfl fun p _ => ?_
    congr 1
  · pointwise
    refine Finset.sum_congr rfl fun p _ => ?_
    congr 1
    show (StableHlo.after (hostOps0_2.take 2) W main_v5 : Vec Ideal S16384x1 .f32) (ix2 p 0) = _
    simp only [List.take]
    after_reads_at

theorem user_squares (u : Fin 4096) :
    vec (StableHlo.after hostOps3 W main_v49 : Vec Ideal S4096 .f32) u = squares (mat (W main_v46_0 : Vec Ideal S4096x16 .f32) u) := by
  unfold vec squares mat
  after_reads_at

theorem movie_columns (k : Fin 16384) (y : Fin 17) :
    mat (StableHlo.after hostOps3 W main_v51 : Vec Ideal S16384x17 .f32) k y
      = if h : y.val < 16 then mat (W main_v45_0 : Vec Ideal S16384x16 .f32) k ⟨y.val, h⟩ else mat (W main_v45_1 : Vec Ideal S16384x8 .f32) k 0 := by
  unfold mat
  after_reads_at
  split
  · rfl
  · exact congrArg (fun z => (W main_v45_1 : Vec Ideal S16384x8 .f32) (ix2 k z)) (Fin.ext (by have := y.isLt; show y.val - 16 = 0; omega))

theorem back_in_place (f : Fin 16384 → Fin 16384)
    (hf : ∀ p, (W main_v26 : IVec S16384 32) (ix1 p) = BitVec.ofNat 32 (f p).val) (p : Fin 16384) (y : Fin 17) :
    mat (StableHlo.after hostOps3_1 W main_v52 : Vec Ideal S16384x17 .f32) p y = mat (W main_v51 : Vec Ideal S16384x17 .f32) (f p) y := by
  unfold mat
  after_reads_simp
  simp -implicitDefEqProofs only [StableHlo.TRef.toBuf, StableHlo.TRef.ofBuf, cast_cast, cast_eq]
  clean_types
  exact rows_at _ _ _ _ _ _ _ _ _ _ rfl rfl rfl rfl rfl 16384#32 16383 (by norm_num) rfl _ _ _ f hf p y

theorem movie_packed (p : Fin 16384) (y : Fin 16) :
    mat (StableHlo.after hostOps3_2 W main_v58 : Vec Ideal S16384x18 .f32) p ⟨y.val, by omega⟩
      = mat (W main_v52 : Vec Ideal S16384x17 .f32) p ⟨y.val, by omega⟩ := by
  unfold mat
  after_reads_at
  show (StableHlo.after (hostOps3_2.take 1) W main_v53 : Vec Ideal S16384x16 .f32) (ix2 p y) = _
  simp only [List.take]
  after_reads_at

theorem movie_packed_squares (p : Fin 16384) :
    mat (StableHlo.after hostOps3_2 W main_v58 : Vec Ideal S16384x18 .f32) p 16
      = squares fun y => mat (W main_v52 : Vec Ideal S16384x17 .f32) p ⟨y.val, by omega⟩ := by
  unfold mat squares
  after_reads_at
  show (StableHlo.after (hostOps3_2.take 5) W main_v56 : Vec Ideal S16384x1 .f32) (ix2 p 0) = _
  simp only [List.take]
  after_reads_at

theorem movie_packed_label (p : Fin 16384) :
    mat (StableHlo.after hostOps3_2 W main_v58 : Vec Ideal S16384x18 .f32) p 17 = vec (W main_v16 : Vec Ideal S16384 .f32) p := by
  unfold mat vec
  after_reads_at
  show (StableHlo.after (hostOps3_2.take 6) W main_v57 : Vec Ideal S16384x1 .f32) (ix2 p 0) = _
  simp only [List.take]
  after_reads_at

theorem movie_of_target (f : Fin 16384 → Fin 16384)
    (hf : ∀ p, (W main_v3 : IVec S16384 32) (ix1 p) = BitVec.ofNat 32 (f p).val) (p : Fin 16384) (y : Fin 18) :
    mat (StableHlo.after hostOps3_3 W main_v59 : Vec Ideal S16384x18 .f32) p y = mat (W main_v58 : Vec Ideal S16384x18 .f32) (f p) y := by
  unfold mat
  after_reads_simp
  simp -implicitDefEqProofs only [StableHlo.TRef.toBuf, StableHlo.TRef.ofBuf, cast_cast, cast_eq]
  clean_types
  exact rows_at _ _ _ _ _ _ _ _ _ _ rfl rfl rfl rfl rfl 16384#32 16383 (by norm_num) rfl _ _ _ f hf p y

theorem user_packed (u : Fin 4096) (y : Fin 17) :
    mat (StableHlo.after hostOps3_4 W main_v61 : Vec Ideal S4096x17 .f32) u y
      = if h : y.val < 16 then mat (W main_v46_0 : Vec Ideal S4096x16 .f32) u ⟨y.val, h⟩ else vec (W main_v49 : Vec Ideal S4096 .f32) u := by
  unfold mat vec
  after_reads_at

theorem user_of_source (f : Fin 16384 → Fin 4096)
    (hf : ∀ p, (W main_v1 : IVec S16384 32) (ix1 p) = BitVec.ofNat 32 (f p).val) (p : Fin 16384) (y : Fin 17) :
    mat (StableHlo.after hostOps3_5 W main_v62 : Vec Ideal S16384x17 .f32) p y = mat (W main_v61 : Vec Ideal S4096x17 .f32) (f p) y := by
  unfold mat
  after_reads_simp
  simp -implicitDefEqProofs only [StableHlo.TRef.toBuf, StableHlo.TRef.ofBuf, cast_cast, cast_eq]
  clean_types
  exact rows_at _ _ _ _ _ _ _ _ _ _ rfl rfl rfl rfl rfl 4096#32 4095 (by norm_num) rfl _ _ _ f hf p y

theorem gaps (u : Fin 4096) (g : Fin 32) :
    mat (StableHlo.after hostOps3_6 W main_v65 : Vec Ideal S4096x32 .f32) u g
      = vec (W main_v49 : Vec Ideal S4096 .f32) u + mat (W main_v47 : Vec Ideal S4096x32 .f32) u g := by
  unfold mat vec
  after_reads_at

theorem zero_bound : sca (StableHlo.after hostOps3_6 W main_cst_7 : Vec Ideal S_ .f32) = 0 := by
  unfold sca
  after_reads_at

theorem clipped (u : Fin 4096) (g : Fin 32) :
    mat (StableHlo.after hostOps3_7 W main_v66 : Vec Ideal S4096x32 .f32) u g
      = max (sca (W main_cst_7 : Vec Ideal S_ .f32)) (mat (W main_v65 : Vec Ideal S4096x32 .f32) u g) := by
  unfold mat sca
  after_reads_at
  rfl

theorem distances (u : Fin 4096) (g : Fin 32) :
    mat (StableHlo.after hostOps3_8 W main_v69 : Vec Ideal S4096x32 .f32) u g
      = Ideal.sqrt (mat (W main_v66 : Vec Ideal S4096x32 .f32) u g + Ideal.ofBits .f32 0x2B8CBCCC#32) := by
  unfold mat
  after_reads_at

theorem nearest : (StableHlo.after hostOps3_9 W main_v70 : IVec S4096 32)
    = fun j => (Host.argReduce (F := Ideal) (φ := .f32) reducer_argmin_f32_i32 (W main_v69 : Vec Ideal S4096x32 .f32) (iotaInDim S4096x32 32 1)
        (constant (F := Ideal) S_ .f32 0x7F800000#32) (constantI S_ 32 0#32) reducesTo_S4096x32_S4096_d1 h_S_ j).2 := by
  after_reads_simp
  rfl

theorem least (u : Fin 4096) :
    vec (StableHlo.after hostOps3_10 W main_v71 : Vec Ideal S4096 .f32) u = Finset.univ.inf (mat (W main_v69 : Vec Ideal S4096x32 .f32) u) := by
  unfold vec mat
  after_reads_simp
  clean_types
  exact Lanes.row_min _ _ (fun _ => Lanes.inf_top) _ (by decide) _ u

theorem at_nearest (u : Fin 4096) (g : Fin 32) :
    (StableHlo.after hostOps3_10 W main_v77 : IVec S4096x32 1) (ix2 u g) = IntOp.cmpi .eq (BitVec.ofNat 32 g.val) ((W main_v70 : IVec S4096 32) (ix1 u)) := by
  after_reads_at

theorem top_bound : sca (StableHlo.after hostOps3_10 W main_cst_10 : Vec Ideal S_ .f32) = ⊤ := by
  unfold sca
  after_reads_at
  exact Lanes.inf_top

theorem without_nearest (u : Fin 4096) (g : Fin 32) :
    mat (StableHlo.after hostOps3_11 W main_v78 : Vec Ideal S4096x32 .f32) u g
      = Scalar.select ((W main_v77 : IVec S4096x32 1) (ix2 u g)) (sca (W main_cst_10 : Vec Ideal S_ .f32)) (mat (W main_v69 : Vec Ideal S4096x32 .f32) u g) := by
  unfold mat sca
  after_reads_at
  rfl

theorem packed_word (u : Fin 4096) :
    mat (StableHlo.after hostOps3_12 W main_v84 : Vec Ideal S4096x3 .f32) u 0 = FloatOps.sitofp (F := Ideal) .f32 ((W main_v70 : IVec S4096 32) (ix1 u)) := by
  unfold mat
  after_reads_at
  show (StableHlo.after (hostOps3_12.take 4) W main_v81 : Vec Ideal S4096x1 .f32) (ix2 u 0) = _
  simp only [List.take]
  after_reads_at

theorem packed_least (u : Fin 4096) :
    mat (StableHlo.after hostOps3_12 W main_v84 : Vec Ideal S4096x3 .f32) u 1 = vec (W main_v71 : Vec Ideal S4096 .f32) u := by
  unfold mat vec
  after_reads_at
  show (StableHlo.after (hostOps3_12.take 5) W main_v82 : Vec Ideal S4096x1 .f32) (ix2 u 0) = _
  simp only [List.take]
  after_reads_at

theorem packed_next (u : Fin 4096) :
    mat (StableHlo.after hostOps3_12 W main_v84 : Vec Ideal S4096x3 .f32) u 2 = Finset.univ.inf (mat (W main_v78 : Vec Ideal S4096x32 .f32) u) := by
  unfold mat
  after_reads_at
  show (StableHlo.after (hostOps3_12.take 6) W main_v83 : Vec Ideal S4096x1 .f32) (ix2 u 0) = _
  simp only [List.take]
  after_reads_at
  rw [Lanes.inf_top]
  rfl

theorem mined_of_source (f : Fin 16384 → Fin 4096)
    (hf : ∀ p, (W main_v1 : IVec S16384 32) (ix1 p) = BitVec.ofNat 32 (f p).val) (p : Fin 16384) (y : Fin 3) :
    mat (StableHlo.after hostOps3_13 W main_v85 : Vec Ideal S16384x3 .f32) p y = mat (W main_v84 : Vec Ideal S4096x3 .f32) (f p) y := by
  unfold mat
  after_reads_simp
  simp -implicitDefEqProofs only [StableHlo.TRef.toBuf, StableHlo.TRef.ofBuf, cast_cast, cast_eq]
  clean_types
  exact rows_at _ _ _ _ _ _ _ _ _ _ rfl rfl rfl rfl rfl 4096#32 4095 (by norm_num) rfl _ _ _ f hf p y

theorem pair_gap (p : Fin 16384) :
    vec (StableHlo.after hostOps3_14 W main_v97 : Vec Ideal S16384 .f32) p
      = (mat (W main_v62 : Vec Ideal S16384x17 .f32) p 16 + mat (W main_v59 : Vec Ideal S16384x18 .f32) p 16)
        - Ideal.ofBits .f32 0x40000000#32
          * ∑ y : Fin 16, mat (W main_v62 : Vec Ideal S16384x17 .f32) p ⟨y.val, by omega⟩ * mat (W main_v59 : Vec Ideal S16384x18 .f32) p ⟨y.val, by omega⟩ := by
  unfold mat vec
  after_reads_at

theorem zero_bound' : sca (StableHlo.after hostOps3_14 W main_cst_14 : Vec Ideal S_ .f32) = 0 := by
  unfold sca
  after_reads_at

theorem pair_clipped (p : Fin 16384) :
    vec (StableHlo.after hostOps3_15 W main_v98 : Vec Ideal S16384 .f32) p
      = max (sca (W main_cst_14 : Vec Ideal S_ .f32)) (vec (W main_v97 : Vec Ideal S16384 .f32) p) := by
  unfold vec sca
  after_reads_at
  rfl

theorem pair_distance (p : Fin 16384) :
    vec (StableHlo.after hostOps3_16 W main_v101 : Vec Ideal S16384 .f32) p
      = Ideal.sqrt (vec (W main_v98 : Vec Ideal S16384 .f32) p + Ideal.ofBits .f32 0x2B8CBCCC#32) := by
  unfold vec
  after_reads_at

theorem same_genre (p : Fin 16384) : (StableHlo.after hostOps3_16 W main_v106 : IVec S16384 1) (ix1 p)
    = FloatOps.cmpf (F := Ideal) (φ := .f32) .oeq (mat (W main_v85 : Vec Ideal S16384x3 .f32) p 0) (mat (W main_v59 : Vec Ideal S16384x18 .f32) p 17) := by
  unfold mat
  after_reads_at

theorem pair_next (p : Fin 16384) :
    vec (StableHlo.after hostOps3_16 W main_v108 : Vec Ideal S16384 .f32) p = mat (W main_v85 : Vec Ideal S16384x3 .f32) p 2 := by
  unfold vec mat
  after_reads_at

theorem pair_least (p : Fin 16384) :
    vec (StableHlo.after hostOps3_16 W main_v110 : Vec Ideal S16384 .f32) p = mat (W main_v85 : Vec Ideal S16384x3 .f32) p 1 := by
  unfold vec mat
  after_reads_at

theorem hardest (p : Fin 16384) :
    vec (StableHlo.after hostOps3_17 W main_v111 : Vec Ideal S16384 .f32) p
      = Scalar.select ((W main_v106 : IVec S16384 1) (ix1 p)) (vec (W main_v108 : Vec Ideal S16384 .f32) p) (vec (W main_v110 : Vec Ideal S16384 .f32) p) := by
  unfold vec
  after_reads_at

theorem margin (p : Fin 16384) :
    vec (StableHlo.after hostOps3_18 W main_v114 : Vec Ideal S16384 .f32) p
      = vec (W main_v101 : Vec Ideal S16384 .f32) p - vec (W main_v111 : Vec Ideal S16384 .f32) p + 1 := by
  unfold vec
  after_reads_at

theorem relu_margin (p : Fin 16384) :
    vec (StableHlo.after hostOps3_19 W main_v115 : Vec Ideal S16384 .f32) p = max (vec (W main_v114 : Vec Ideal S16384 .f32) p) 0 := by
  unfold vec
  after_reads_at

theorem loss : sca (StableHlo.after hostOps3_20 W main_v117 : Vec Ideal S_ .f32)
    = Ideal.div (∑ p, vec (W main_v115 : Vec Ideal S16384 .f32) p) (Ideal.ofBits .f32 0x46800000#32) := by
  unfold vec sca
  after_reads_at

theorem user_scores (a : Fin 4096) :
    mat (StableHlo.after hostOps3_20 W main_v121 : Vec Ideal S4096x1 .f32) a 0
      = mat (W main_v46_1 : Vec Ideal S4096x8 .f32) a 0 + vec (W main_arg12 : Vec Ideal S1 .f32) 0 := by
  unfold mat vec
  after_reads_at

theorem movie_scores (a : Fin 16384) :
    mat (StableHlo.after hostOps3_20 W main_v125 : Vec Ideal S16384x1 .f32) a 0
      = mat (W main_v52 : Vec Ideal S16384x17 .f32) a 16 + vec (W main_arg12 : Vec Ideal S1 .f32) 0 := by
  unfold mat vec
  after_reads_at

end Cert.KernelIdeal.Suffix
-- ==== Proof.KernelIdeal.Hidden.lean ====
/-
  The movie region's and the user region's result arrays, entry by entry: hidden rows and scores as functions of the arrays
  that the regions are entered with.
-/
module

public import proofs.«01_k».proof.Proof.KernelIdeal.Run
public import proofs.«01_k».proof.Proof.Spec
public import Idealize.ShloMosaic.Lib.Pipeline.ValueKit

@[expose] public section

set_option maxRecDepth 16384

noncomputable section

namespace Cert.KernelIdeal.Hidden

open Cert.KernelIdeal Cert.KernelIdeal.Gen Cert.KernelIdeal.Region Cert.KernelIdeal.Run
open Idealize.ShloMosaic Idealize.ShloMosaic.TcCoe Idealize.ShloMosaic.Tactic
open Idealize.ShloMosaic.Pipeline (Dat)
open Cert.Spec
open scoped BigOperators

/-- The movie payload at an index. -/
theorem movie_pay (x0 x1 : Vec Ideal S1024x32 .f32) (x2 : Vec Ideal S32x32 .f32) (x3 x4 : Vec Ideal S32x16 .f32) (x5 : Vec Ideal S16x16 .f32)
    (r : Fin 1024) (j : Fin 16) :
    mat (k0_pay1 x0 x1 x2 x3 x4 x5) r j
      = layers (mat x0 r) (fun e => ∑ g, mat x1 r g * mat x2 g e) (mat x3) (mat x4) (mat x5) j := by
  unfold mat layers
  pointwise [k0_pay1]

theorem movie_pay_score (x0 x1 : Vec Ideal S1024x32 .f32) (x2 : Vec Ideal S32x32 .f32) (x3 x4 : Vec Ideal S32x16 .f32) (x5 : Vec Ideal S16x16 .f32)
    (x6 : Vec Ideal S16x8 .f32) (r : Fin 1024) (j : Fin 8) :
    mat (k0_pay2 x0 x1 x2 x3 x4 x5 x6) r j
      = ∑ k, mat (k0_pay1 x0 x1 x2 x3 x4 x5) r k * mat x6 k j := by
  unfold mat
  pointwise [k0_pay2]

/-- The user payload at an index. -/
theorem user_pay (x0 x1 : Vec Ideal S1024x32 .f32) (x3 x4 : Vec Ideal S32x16 .f32) (x5 : Vec Ideal S16x16 .f32)
    (r : Fin 1024) (j : Fin 16) :
    mat (k1_pay1 x0 x3 x1 x4 x5) r j = layers (mat x0 r) (mat x1 r) (mat x3) (mat x4) (mat x5) j := by
  unfold mat layers
  pointwise [k1_pay1]

theorem user_pay_score (x0 x1 : Vec Ideal S1024x32 .f32) (x3 x4 : Vec Ideal S32x16 .f32) (x5 : Vec Ideal S16x16 .f32)
    (x6 : Vec Ideal S16x8 .f32) (r : Fin 1024) (j : Fin 8) :
    mat (k1_pay2 x0 x3 x1 x4 x5 x6) r j = ∑ k, mat (k1_pay1 x0 x3 x1 x4 x5) r k * mat x6 k j := by
  unfold mat
  pointwise [k1_pay2]

/-! ## The arrays -/

theorem tiles0_0 : ∀ t : Fin cfg0.N, win0_0.index t = ![t.val, 0] := by decide +kernel
theorem tiles0_1 : ∀ t : Fin cfg0.N, win0_1.index t = ![t.val, 0] := by decide +kernel
theorem tiles0_2 : ∀ t : Fin cfg0.N, win0_2.index t = ![0, 0] := by decide +kernel
theorem tiles0_3 : ∀ t : Fin cfg0.N, win0_3.index t = ![0, 0] := by decide +kernel
theorem tiles0_4 : ∀ t : Fin cfg0.N, win0_4.index t = ![0, 0] := by decide +kernel
theorem tiles0_5 : ∀ t : Fin cfg0.N, win0_5.index t = ![0, 0] := by decide +kernel
theorem tiles0_6 : ∀ t : Fin cfg0.N, win0_6.index t = ![0, 0] := by decide +kernel
theorem tiles0_7 : ∀ t : Fin cfg0.N, win0_7.index t = ![t.val, 0] := by decide +kernel
theorem tiles0_8 : ∀ t : Fin cfg0.N, win0_8.index t = ![t.val, 0] := by decide +kernel
theorem tiles1_0 : ∀ t : Fin cfg1.N, win1_0.index t = ![t.val, 0] := by decide +kernel
theorem tiles1_1 : ∀ t : Fin cfg1.N, win1_1.index t = ![t.val, 0] := by decide +kernel
theorem tiles1_2 : ∀ t : Fin cfg1.N, win1_2.index t = ![0, 0] := by decide +kernel
theorem tiles1_3 : ∀ t : Fin cfg1.N, win1_3.index t = ![0, 0] := by decide +kernel
theorem tiles1_4 : ∀ t : Fin cfg1.N, win1_4.index t = ![0, 0] := by decide +kernel
theorem tiles1_5 : ∀ t : Fin cfg1.N, win1_5.index t = ![0, 0] := by decide +kernel
theorem tiles1_6 : ∀ t : Fin cfg1.N, win1_6.index t = ![t.val, 0] := by decide +kernel
theorem tiles1_7 : ∀ t : Fin cfg1.N, win1_7.index t = ![t.val, 0] := by decide +kernel

variable (V : Conts Ideal) (c : Dev nD)

/-- The hidden row of a movie, in sorted order. -/
def movieRow (k : Fin 16384) : Fin 16 → EReal :=
  layers (mat (V c main_v30 : Vec Ideal S16384x32 .f32) k)
    (fun e => ∑ g, mat (V c main_v40 : Vec Ideal S16384x32 .f32) k g * mat (V c main_arg4 : Vec Ideal S32x32 .f32) g e)
    (mat (V c main_arg7 : Vec Ideal S32x16 .f32)) (mat (V c main_arg8 : Vec Ideal S32x16 .f32)) (mat (V c main_arg10 : Vec Ideal S16x16 .f32))

/-- The hidden row of a user. -/
def userRow (u : Fin 4096) : Fin 16 → EReal :=
  layers (mat (V c main_arg0 : Vec Ideal S4096x32 .f32) u) (mat (V c main_v15 : Vec Ideal S4096x32 .f32) u)
    (mat (V c main_arg5 : Vec Ideal S32x16 .f32)) (mat (V c main_arg6 : Vec Ideal S32x16 .f32)) (mat (V c main_arg9 : Vec Ideal S16x16 .f32))

theorem row_lt0 (t : Fin cfg0.N) (r : Fin 1024) : 1024 * t.val + r.val < 16384 := by
  have h : t.val < 16 := lt_of_lt_of_eq t.isLt N_0
  omega
theorem row_lt1 (t : Fin cfg1.N) (r : Fin 1024) : 1024 * t.val + r.val < 4096 := by
  have h : t.val < 4 := lt_of_lt_of_eq t.isLt N_1
  omega

theorem blk0_0 (t : Fin cfg0.N) (r : Fin 1024) (a : Fin 32) :
    mat (Movie.blk V c 0 t : Vec Ideal S1024x32 .f32) r a = mat (V c main_v30 : Vec Ideal S16384x32 .f32) ⟨1024 * t.val + r.val, row_lt0 t r⟩ a := by
  unfold mat
  have e := tiles0_0 t
  blk_ext [Movie.blk, e]
theorem blk0_1 (t : Fin cfg0.N) (r : Fin 1024) (a : Fin 32) :
    mat (Movie.blk V c 1 t : Vec Ideal S1024x32 .f32) r a = mat (V c main_v40 : Vec Ideal S16384x32 .f32) ⟨1024 * t.val + r.val, row_lt0 t r⟩ a := by
  unfold mat
  have e := tiles0_1 t
  blk_ext [Movie.blk, e]
theorem blk0_2 (t : Fin cfg0.N) : (Movie.blk V c 2 t : Vec Ideal S32x32 .f32) = (V c main_arg4 : Vec Ideal S32x32 .f32) := by
  have e := tiles0_2 t
  funext y
  blk_ext [Movie.blk, e]
theorem blk0_3 (t : Fin cfg0.N) : (Movie.blk V c 3 t : Vec Ideal S32x16 .f32) = (V c main_arg7 : Vec Ideal S32x16 .f32) := by
  have e := tiles0_3 t
  funext y
  blk_ext [Movie.blk, e]
theorem blk0_4 (t : Fin cfg0.N) : (Movie.blk V c 4 t : Vec Ideal S32x16 .f32) = (V c main_arg8 : Vec Ideal S32x16 .f32) := by
  have e := tiles0_4 t
  funext y
  blk_ext [Movie.blk, e]
theorem blk0_5 (t : Fin cfg0.N) : (Movie.blk V c 5 t : Vec Ideal S16x16 .f32) = (V c main_arg10 : Vec Ideal S16x16 .f32) := by
  have e := tiles0_5 t
  funext y
  blk_ext [Movie.blk, e]
theorem blk0_6 (t : Fin cfg0.N) : (Movie.blk V c 6 t : Vec Ideal S16x8 .f32) = (V c main_v44 : Vec Ideal S16x8 .f32) := by
  have e := tiles0_6 t
  funext y
  blk_ext [Movie.blk, e]
theorem blk1_0 (t : Fin cfg1.N) (r : Fin 1024) (a : Fin 32) :
    mat (User.blk V c 0 t : Vec Ideal S1024x32 .f32) r a = mat (V c main_arg0 : Vec Ideal S4096x32 .f32) ⟨1024 * t.val + r.val, row_lt1 t r⟩ a := by
  unfold mat
  have e := tiles1_0 t
  blk_ext [User.blk, e]
theorem blk1_1 (t : Fin cfg1.N) (r : Fin 1024) (a : Fin 32) :
    mat (User.blk V c 1 t : Vec Ideal S1024x32 .f32) r a = mat (V c main_v15 : Vec Ideal S4096x32 .f32) ⟨1024 * t.val + r.val, row_lt1 t r⟩ a := by
  unfold mat
  have e := tiles1_1 t
  blk_ext [User.blk, e]
theorem blk1_2 (t : Fin cfg1.N) : (User.blk V c 2 t : Vec Ideal S32x16 .f32) = (V c main_arg5 : Vec Ideal S32x16 .f32) := by
  have e := tiles1_2 t
  funext y
  blk_ext [User.blk, e]
theorem blk1_3 (t : Fin cfg1.N) : (User.blk V c 3 t : Vec Ideal S32x16 .f32) = (V c main_arg6 : Vec Ideal S32x16 .f32) := by
  have e := tiles1_3 t
  funext y
  blk_ext [User.blk, e]
theorem blk1_4 (t : Fin cfg1.N) : (User.blk V c 4 t : Vec Ideal S16x16 .f32) = (V c main_arg9 : Vec Ideal S16x16 .f32) := by
  have e := tiles1_4 t
  funext y
  blk_ext [User.blk, e]
theorem blk1_5 (t : Fin cfg1.N) : (User.blk V c 5 t : Vec Ideal S16x8 .f32) = (V c main_v44 : Vec Ideal S16x8 .f32) := by
  have e := tiles1_5 t
  funext y
  blk_ext [User.blk, e]

theorem movie_block (t : Fin cfg0.N) (r : Fin 1024) (j : Fin 16) :
    mat (k0_pay1 (Movie.blk V c 0 t) (Movie.blk V c 1 t) (Movie.blk V c 2 t) (Movie.blk V c 3 t) (Movie.blk V c 4 t) (Movie.blk V c 5 t)) r j
      = movieRow V c ⟨1024 * t.val + r.val, row_lt0 t r⟩ j := by
  rw [movie_pay, blk0_2, blk0_3, blk0_4, blk0_5]
  unfold movieRow
  rw [show mat (Movie.blk V c 0 t : Vec Ideal S1024x32 .f32) r = _ from funext (blk0_0 V c t r),
    show mat (Movie.blk V c 1 t : Vec Ideal S1024x32 .f32) r = _ from funext (blk0_1 V c t r)]

theorem user_block (t : Fin cfg1.N) (r : Fin 1024) (j : Fin 16) :
    mat (k1_pay1 (User.blk V c 0 t) (User.blk V c 2 t) (User.blk V c 1 t) (User.blk V c 3 t) (User.blk V c 4 t)) r j
      = userRow V c ⟨1024 * t.val + r.val, row_lt1 t r⟩ j := by
  rw [user_pay, blk1_2, blk1_3, blk1_4]
  unfold userRow
  rw [show mat (User.blk V c 0 t : Vec Ideal S1024x32 .f32) r = _ from funext (blk1_0 V c t r),
    show mat (User.blk V c 1 t : Vec Ideal S1024x32 .f32) r = _ from funext (blk1_1 V c t r)]

/-- The movie region's hidden rows. -/
theorem movie_hidden (k : Fin 16384) (j : Fin 16) :
    mat ((Movie.dat V c).arrAt 7 cfg0.N : Vec Ideal S16384x16 .f32) k j = movieRow V c k j := by
  have key : ((Movie.dat V c).arrAt 7 cfg0.N : Vec Ideal S16384x16 .f32) = fun i => movieRow V c (i 0) (i 1) := by
    refine Dat.arrAt_eq_of_covers (Movie.dat V c) 7 _ (by decide +kernel) fun t hf y => ?_
    blk_simp
    rw [Movie.after_7, Movie.outH]
    have hz : ∀ a : Fin 2, (![0, 0] : Fin 2 → ℕ) a = 0 := by decide
    refine (congrFun (View.canon_cons_unit_lit _ _ [] hz) y).trans ?_
    rw [View.ld_unit_lit _ _ hz, View.ld_unit_lit _ _ hz, View.ld_unit_lit _ _ hz, View.ld_unit_lit _ _ hz, View.ld_unit_lit _ _ hz, View.ld_unit_lit _ _ hz]
    obtain ⟨r, s, rfl⟩ : ∃ (r : Fin 1024) (s : Fin 16), y = ix2 r s := ⟨y 0, y 1, by funext a; match a with | ⟨0, _⟩ => rfl | ⟨1, _⟩ => rfl⟩
    have e := tiles0_7 t
    refine (movie_block V c t r s).trans ?_
    refine congrArg₂ (movieRow V c) (Fin.ext ?_) (Fin.ext ?_)
    · show 1024 * t.val + r.val = _
      blk_simp [e]
      omega
    · blk_simp [e]
  exact congrFun key (ix2 k j)

/-- The movie region's scores. -/
theorem movie_scores (k : Fin 16384) (j : Fin 8) :
    mat ((Movie.dat V c).arrAt 8 cfg0.N : Vec Ideal S16384x8 .f32) k j = ∑ q, movieRow V c k q * mat (V c main_v44 : Vec Ideal S16x8 .f32) q j := by
  have key : ((Movie.dat V c).arrAt 8 cfg0.N : Vec Ideal S16384x8 .f32) = fun i => ∑ q, movieRow V c (i 0) q * mat (V c main_v44 : Vec Ideal S16x8 .f32) q (i 1) := by
    refine Dat.arrAt_eq_of_covers (Movie.dat V c) 8 _ (by decide +kernel) fun t hf y => ?_
    blk_simp
    rw [Movie.after_8, Movie.outS]
    have hz : ∀ a : Fin 2, (![0, 0] : Fin 2 → ℕ) a = 0 := by decide
    refine (congrFun (View.canon_cons_unit_lit _ _ [] hz) y).trans ?_
    rw [View.ld_unit_lit _ _ hz, View.ld_unit_lit _ _ hz, View.ld_unit_lit _ _ hz, View.ld_unit_lit _ _ hz, View.ld_unit_lit _ _ hz, View.ld_unit_lit _ _ hz, View.ld_unit_lit _ _ hz]
    obtain ⟨r, s, rfl⟩ : ∃ (r : Fin 1024) (s : Fin 8), y = ix2 r s := ⟨y 0, y 1, by funext a; match a with | ⟨0, _⟩ => rfl | ⟨1, _⟩ => rfl⟩
    have e := tiles0_8 t
    refine (movie_pay_score _ _ _ _ _ _ _ r s).trans (Finset.sum_congr rfl fun q _ => congrArg₂ (· * ·) ((movie_block V c t r q).trans ?_) ?_)
    · refine congrArg (fun z => movieRow V c z q) (Fin.ext ?_)
      show 1024 * t.val + r.val = _
      blk_simp [e]
      omega
    · rw [blk0_6]
      refine congrArg (fun z => mat (V c main_v44 : Vec Ideal S16x8 .f32) q z) (Fin.ext ?_)
      blk_simp [e]
  exact congrFun key (ix2 k j)

/-- The user region's hidden rows. -/
theorem user_hidden (k : Fin 4096) (j : Fin 16) :
    mat ((User.dat V c).arrAt 6 cfg1.N : Vec Ideal S4096x16 .f32) k j = userRow V c k j := by
  have key : ((User.dat V c).arrAt 6 cfg1.N : Vec Ideal S4096x16 .f32) = fun i => userRow V c (i 0) (i 1) := by
    refine Dat.arrAt_eq_of_covers (User.dat V c) 6 _ (by decide +kernel) fun t hf y => ?_
    blk_simp
    rw [User.after_6, User.outH]
    have hz : ∀ a : Fin 2, (![0, 0] : Fin 2 → ℕ) a = 0 := by decide
    refine (congrFun (View.canon_cons_unit_lit _ _ [] hz) y).trans ?_
    rw [View.ld_unit_lit _ _ hz, View.ld_unit_lit _ _ hz, View.ld_unit_lit _ _ hz, View.ld_unit_lit _ _ hz, View.ld_unit_lit _ _ hz]
    obtain ⟨r, s, rfl⟩ : ∃ (r : Fin 1024) (s : Fin 16), y = ix2 r s := ⟨y 0, y 1, by funext a; match a with | ⟨0, _⟩ => rfl | ⟨1, _⟩ => rfl⟩
    have e := tiles1_6 t
    refine (user_block V c t r s).trans ?_
    refine congrArg₂ (userRow V c) (Fin.ext ?_) (Fin.ext ?_)
    · show 1024 * t.val + r.val = _
      blk_simp [e]
      omega
    · blk_simp [e]
  exact congrFun key (ix2 k j)

/-- The user region's scores. -/
theorem user_scores (k : Fin 4096) (j : Fin 8) :
    mat ((User.dat V c).arrAt 7 cfg1.N : Vec Ideal S4096x8 .f32) k j = ∑ q, userRow V c k q * mat (V c main_v44 : Vec Ideal S16x8 .f32) q j := by
  have key : ((User.dat V c).arrAt 7 cfg1.N : Vec Ideal S4096x8 .f32) = fun i => ∑ q, userRow V c (i 0) q * mat (V c main_v44 : Vec Ideal S16x8 .f32) q (i 1) := by
    refine Dat.arrAt_eq_of_covers (User.dat V c) 7 _ (by decide +kernel) fun t hf y => ?_
    blk_simp
    rw [User.after_7, User.outS]
    have hz : ∀ a : Fin 2, (![0, 0] : Fin 2 → ℕ) a = 0 := by decide
    refine (congrFun (View.canon_cons_unit_lit _ _ [] hz) y).trans ?_
    rw [View.ld_unit_lit _ _ hz, View.ld_unit_lit _ _ hz, View.ld_unit_lit _ _ hz, View.ld_unit_lit _ _ hz, View.ld_unit_lit _ _ hz, View.ld_unit_lit _ _ hz]
    obtain ⟨r, s, rfl⟩ : ∃ (r : Fin 1024) (s : Fin 8), y = ix2 r s := ⟨y 0, y 1, by funext a; match a with | ⟨0, _⟩ => rfl | ⟨1, _⟩ => rfl⟩
    have e := tiles1_7 t
    refine (user_pay_score _ _ _ _ _ _ r s).trans (Finset.sum_congr rfl fun q _ => congrArg₂ (· * ·) ((user_block V c t r q).trans ?_) ?_)
    · refine congrArg (fun z => userRow V c z q) (Fin.ext ?_)
      show 1024 * t.val + r.val = _
      blk_simp [e]
      omega
    · rw [blk1_5]
      refine congrArg (fun z => mat (V c main_v44 : Vec Ideal S16x8 .f32) q z) (Fin.ext ?_)
      blk_simp [e]
  exact congrFun key (ix2 k j)

end Cert.KernelIdeal.Hidden
-- ==== Proof.KernelIdeal.Mining.lean ====
/-
  The mining region's result array: at a user and a genre, the least of the scores of the genre's movies.
-/
module

public import proofs.«01_k».proof.Proof.KernelIdeal.Words
public import proofs.«01_k».proof.Proof.Labels
public import proofs.«01_k».proof.Proof.Lanes
public import proofs.«01_k».proof.Proof.Spec
public import Idealize.ShloMosaic.Lib.Pipeline.ValueKit

@[expose] public section

set_option maxRecDepth 16384

noncomputable section

namespace Cert.KernelIdeal.Mining

open Cert.KernelIdeal Cert.KernelIdeal.Gen Cert.KernelIdeal.Region Cert.KernelIdeal.Run
open Idealize.ShloMosaic Idealize.ShloMosaic.TcCoe Idealize.ShloMosaic.Tactic
open Idealize.ShloMosaic.Pipeline (Dat)
open Cert.Spec
open scoped BigOperators

/-- The score of two rows: the squares of the second less twice their product. -/
def score (x y : Fin 16 → EReal) : EReal := squares y - Ideal.ofBits .f32 0x40000000#32 * ∑ q, x q * y q

theorem big_top : Named.named (F := Ideal) (φ := .f32) κ "big" 0x7149F2CA#32 = (⊤ : EReal) := rfl

theorem pay2 (hu hm : Vec Ideal S1024x16 .f32) (r k : Fin 1024) : mat (k2_pay2 hu hm) r k = score (mat hu r) (mat hm k) := by
  unfold mat score squares
  pointwise [k2_pay2]
  try simp only [one_mul]

theorem pay1 (r : Fin 1024) (g : Fin 32) : mat (k2_pay1 (F := Ideal)) r g = ⊤ := by
  unfold mat
  pointwise [k2_pay1]
  exact big_top

theorem pay3 (x : Vec Ideal S1024x32 .f32) (r : Fin 1024) (g : Fin 32) : mat (k2_pay3 x) r g = mat x r g := by
  unfold mat
  pointwise [k2_pay3]

/-- One genre's trip: at the genre, the minimum with the least score of its movies; elsewhere nothing. -/
theorem pay4 (hu hm : Vec Ideal S1024x16 .f32) (lo hi : BitVec 32) (k : Fin (k2_t1_loop lo hi).trips) (acc : FVec Ideal S1024x32 .f32)
    (oh : Vec Ideal S1x1024 .f32) (r : Fin 1024) (g : Fin 32) :
    mat (k2_pay4 hu hm lo hi k acc oh) r g
      = min (mat acc r g) (if BitVec.ofNat 32 g.val = Scf.iv lo 1#32 k then
          Finset.univ.inf fun q : Fin 1024 => score (mat hu r) (mat hm q) + (1 - mat oh 0 q) * ⊤ else ⊤) := by
  unfold mat
  pointwise [k2_pay4]
  rw [big_top, Lanes.inf_top]
  refine congrArg (min _) ?_
  by_cases h : BitVec.ofNat 32 g.val = Scf.iv lo 1#32 k
  · rw [if_pos h]
    have e : IntOp.cmpi .eq (BitVec.ofNat 32 g.val) (Scf.iv lo 1#32 k) = 1#1 := by
      rw [h]; simp [IntOp.cmpi]
    rw [e]
    refine Eq.trans (b := Finset.fold min ⊤ (fun x => k2_pay2 hu hm (ix2 r x) + (1 - oh (ix2 0 x)) * ⊤) Finset.univ) rfl ?_
    exact congrArg (fun f => Finset.fold min ⊤ f Finset.univ) (funext fun q => congrArg (· + (1 - oh (ix2 0 q)) * ⊤) (pay2 hu hm r q))
  · rw [if_neg h]
    have e : IntOp.cmpi .eq (BitVec.ofNat 32 g.val) (Scf.iv lo 1#32 k) = 0#1 := by
      simp only [IntOp.cmpi]
      rw [beq_eq_false_iff_ne.mpr h]
      rfl
    rw [e]
    rfl

/-! ## The loop over the genres of a block -/

theorem trips_eq : ∀ a b : Fin 32, (k2_t1_loop (BitVec.ofNat 32 a.val) (BitVec.ofNat 32 b.val)).trips = b.val + 1 - a.val := by decide +kernel

theorem iv_eq (a k : ℕ) : Scf.iv (BitVec.ofNat 32 a) 1#32 k = BitVec.ofNat 32 (a + k) := by
  unfold Scf.iv
  rw [BitVec.mul_one, BitVec.ofNat_add]

theorem word_eq {g h : ℕ} (hg : g < 32) (hh : h < 32) : BitVec.ofNat 32 g = BitVec.ofNat 32 h ↔ g = h := by
  constructor
  · intro e
    have := congrArg BitVec.toNat e
    simp only [BitVec.toNat_ofNat] at this
    omega
  · rintro rfl; rfl

/-- The row of the one-hot block that a trip loads. -/
theorem row_at (a b : Fin 32) (hw) (k : Fin (k2_t1_loop (BitVec.ofNat 32 a.val) (BitVec.ofNat 32 b.val)).trips) (oh : Vec Ideal S32x1024 .f32)
    (q : Fin 1024) (g : Fin 32) (hg : g.val = a.val + k.val) :
    (View.ld oh (Mine.rRow _ _ hw k) : Vec Ideal S1x1024 .f32) (ix2 0 q) = oh (ix2 g q) := by
  show oh ((Mine.rRow _ _ hw k).idx (ix2 0 q)) = _
  refine congrArg oh (funext fun x => Fin.ext ?_)
  refine (Rect.idx_unit_val _ _ _ _ _).trans ?_
  have e : k2_off2 (BitVec.ofNat 32 a.val) (BitVec.ofNat 32 b.val) k = ![g.val, 0] := by
    unfold k2_off2
    simp only [iv_eq, ← hg]
    have : (Scalar.indexCast (BitVec.ofNat 32 g.val)).toNat = g.val := by
      have h : ∀ g : Fin 32, (Scalar.indexCast (BitVec.ofNat 32 g.val)).toNat = g.val := by decide +kernel
      exact h g
    rw [this]
  refine (congrArg (· + _) (congrFun e x)).trans ?_
  match x with
  | ⟨0, _⟩ => simp
  | ⟨1, _⟩ => simp

/-- The least score of a genre's movies in a block, as a trip computes it. -/
def least (hu hm : Vec Ideal S1024x16 .f32) (oh : Vec Ideal S32x1024 .f32) (r : Fin 1024) (g : Fin 32) : EReal :=
  Finset.univ.inf fun q : Fin 1024 => score (mat hu r) (mat hm q) + (1 - mat oh g q) * ⊤

theorem scan_at (hu hm : Vec Ideal S1024x16 .f32) (oh : Vec Ideal S32x1024 .f32) (a b : Fin 32) (hw) (init : Vec Ideal S1024x32 .f32)
    (r : Fin 1024) (g : Fin 32) (K : ℕ) (hK : K ≤ b.val + 1 - a.val) :
    mat (Mine.scan hu hm oh (BitVec.ofNat 32 a.val) (BitVec.ofNat 32 b.val) hw init K) r g
      = if a.val ≤ g.val ∧ g.val < a.val + K then min (mat init r g) (least hu hm oh r g) else mat init r g := by
  induction K with
  | zero =>
    rw [if_neg (by omega)]
    exact pay3 init r g
  | succ K ih =>
    have hlt : K < (k2_t1_loop (BitVec.ofNat 32 a.val) (BitVec.ofNat 32 b.val)).trips := by rw [trips_eq]; omega
    rw [Mine.scan, dif_pos hlt, pay4, ih (by omega), iv_eq]
    have hb := b.isLt
    by_cases hg : g.val = a.val + K
    · rw [if_neg (by omega), if_pos (by rw [hg]), if_pos (by omega)]
      refine congrArg (min _) ?_
      unfold least
      refine congrArg (Finset.univ.inf) (funext fun q => ?_)
      exact congrArg (fun z => score (mat hu r) (mat hm q) + (1 - z) * ⊤) (row_at a b hw ⟨K, hlt⟩ oh q g hg)
    · rw [if_neg (fun h => hg ((word_eq g.isLt (by omega)).mp h)), min_eq_left le_top]
      by_cases h : a.val ≤ g.val ∧ g.val < a.val + K
      · rw [if_pos h, if_pos (by omega)]
      · rw [if_neg h, if_neg (by omega)]

/-- The masked score is the score at a movie of the genre, `⊤` elsewhere. -/
theorem masked_score {s : EReal} (hs : s ≠ ⊥) (p : Prop) [Decidable p] : s + (1 - if p then 1 else 0) * ⊤ = if p then s else ⊤ := by
  by_cases h : p
  · rw [if_pos h, if_pos h]
    have : (1 - 1 : EReal) = 0 := by rw [← EReal.coe_one, ← EReal.coe_sub, sub_self, EReal.coe_zero]
    rw [this, zero_mul, add_zero]
  · rw [if_neg h, if_neg h, sub_zero, one_mul, EReal.add_top_of_ne_bot hs]

/-- What a point does to the minima, by its lower bounds: with labels between the two words, it takes in each movie of the
    block at its genre. -/
theorem mined_le (hu hm : Vec Ideal S1024x16 .f32) (oh : Vec Ideal S32x1024 .f32) (lo hi : BitVec 32) (hw) (init : Vec Ideal S1024x32 .f32)
    (a b : Fin 32) (hlo : lo = BitVec.ofNat 32 a.val) (hhi : hi = BitVec.ofNat 32 b.val) (l : Fin 1024 → Fin 32)
    (hoh : ∀ g q, mat oh g q = if l q = g then 1 else 0) (hab : ∀ q, a.val ≤ (l q).val ∧ (l q).val ≤ b.val)
    (hne : ∀ r q, score (mat hu r) (mat hm q) ≠ ⊥) (r : Fin 1024) (g : Fin 32) (x : EReal) :
    x ≤ mat (Mine.mined hu hm oh lo hi hw init) r g
      ↔ x ≤ mat init r g ∧ ∀ q, l q = g → x ≤ score (mat hu r) (mat hm q) := by
  subst hlo hhi
  unfold Mine.mined
  rw [scan_at hu hm oh a b hw init r g _ (trips_eq a b).le, trips_eq]
  by_cases h : a.val ≤ g.val ∧ g.val < a.val + (b.val + 1 - a.val)
  · rw [if_pos h, le_min_iff]
    refine and_congr Iff.rfl ?_
    unfold least
    rw [Finset.le_inf_iff]
    refine ⟨fun k q hq => ?_, fun k q _ => ?_⟩
    · have := k q (Finset.mem_univ _)
      rwa [hoh, masked_score (hne r q), if_pos hq] at this
    · rw [hoh, masked_score (hne r q)]
      split
      · exact k q (by assumption)
      · exact le_top
  · rw [if_neg h]
    refine ⟨fun k => ⟨k, fun q hq => absurd ?_ h⟩, fun k => k.1⟩
    have := hab q
    rw [hq] at this
    omega

/-! ## The blocks of a point -/

theorem tiles_2 : ∀ t : Fin cfg2.N, win2_2.index t = ![t.val / 16, 0] := by decide +kernel
theorem tiles_3 : ∀ t : Fin cfg2.N, win2_3.index t = ![t.val % 16, 0] := by decide +kernel
theorem tiles_4 : ∀ t : Fin cfg2.N, win2_4.index t = ![0, t.val % 16] := by decide +kernel
theorem tiles_5 : ∀ t : Fin cfg2.N, win2_5.index t = ![t.val / 16, 0] := by decide +kernel

theorem user_lt (t : Fin cfg2.N) (r : Fin 1024) : 1024 * (t.val / 16) + r.val < 4096 := by
  have h : t.val < 64 := lt_of_lt_of_eq t.isLt N_2
  omega
theorem movie_lt (t : Fin cfg2.N) (r : Fin 1024) : 1024 * (t.val % 16) + r.val < 16384 := by omega

variable (V : Conts Ideal) (c : Dev nD)

theorem blk_2 (t : Fin cfg2.N) (r : Fin 1024) (a : Fin 16) :
    mat (Mine.blk V c 2 t : Vec Ideal S1024x16 .f32) r a = mat (V c main_v46_0 : Vec Ideal S4096x16 .f32) ⟨1024 * (t.val / 16) + r.val, user_lt t r⟩ a := by
  unfold mat
  have e := tiles_2 t
  blk_ext [Mine.blk, e]
theorem blk_3 (t : Fin cfg2.N) (r : Fin 1024) (a : Fin 16) :
    mat (Mine.blk V c 3 t : Vec Ideal S1024x16 .f32) r a = mat (V c main_v45_0 : Vec Ideal S16384x16 .f32) ⟨1024 * (t.val % 16) + r.val, movie_lt t r⟩ a := by
  unfold mat
  have e := tiles_3 t
  blk_ext [Mine.blk, e]
theorem blk_4 (t : Fin cfg2.N) (g : Fin 32) (q : Fin 1024) :
    mat (Mine.blk V c 4 t : Vec Ideal S32x1024 .f32) g q = mat (V c main_v41 : Vec Ideal S32x16384 .f32) g ⟨1024 * (t.val % 16) + q.val, movie_lt t q⟩ := by
  unfold mat
  have e := tiles_4 t
  blk_ext [Mine.blk, e]

/-! ## The array -/

/-- The score of a user and of the movie at a place of the sorted order. -/
def at_place (u : Fin 4096) (k : Fin 16384) : EReal :=
  score (mat (V c main_v46_0 : Vec Ideal S4096x16 .f32) u) (mat (V c main_v45_0 : Vec Ideal S16384x16 .f32) k)

theorem first_lt (n : ℕ) : 1024 * (n % 16) < 16384 := by omega
theorem last_lt (n : ℕ) : 1024 * (n % 16) + 1023 < 16384 := by omega

variable (hV : Mine.WordsOk V) (l : Fin 16384 → Fin 32) (hmono : ∀ i j, i ≤ j → (l i).val ≤ (l j).val)
  (hoh : ∀ g k, mat (V c main_v41 : Vec Ideal S32x16384 .f32) g k = if l k = g then 1 else 0)
  (hlo : ∀ t : Fin cfg2.N, Mine.word (Mine.blk V c 0 t) (grid2.coords t) = BitVec.ofNat 32 (l ⟨1024 * (t.val % 16), first_lt t.val⟩).val)
  (hhi : ∀ t : Fin cfg2.N, Mine.word (Mine.blk V c 1 t) (grid2.coords t) = BitVec.ofNat 32 (l ⟨1024 * (t.val % 16) + 1023, last_lt t.val⟩).val)
  (hne : ∀ u k, at_place V c u k ≠ ⊥)

include hmono hoh hlo hhi hne

theorem step_le (t : Fin cfg2.N) (prev : Vec Ideal S1024x32 .f32) (r : Fin 1024) (g : Fin 32) (x : EReal) (u : Fin 4096)
    (hu : u.val = 1024 * (t.val / 16) + r.val) :
    x ≤ mat (Mine.step V hV c t prev) r g
      ↔ x ≤ mat (if (grid2.coords t 1).val = 0 then (k2_pay1 : FVec Ideal S1024x32 .f32) else prev : FVec Ideal S1024x32 .f32) r g
        ∧ ∀ k : Fin 16384, 1024 * (t.val % 16) ≤ k.val → k.val < 1024 * (t.val % 16) + 1024 → l k = g → x ≤ at_place V c u k := by
  have hs : ∀ (r q : Fin 1024), score (mat (Mine.blk V c 2 t : Vec Ideal S1024x16 .f32) r) (mat (Mine.blk V c 3 t : Vec Ideal S1024x16 .f32) q)
      = at_place V c ⟨1024 * (t.val / 16) + r.val, user_lt t r⟩ ⟨1024 * (t.val % 16) + q.val, movie_lt t q⟩ := fun r q =>
    congrArg₂ score (funext (blk_2 V c t r)) (funext (blk_3 V c t q))
  have eu : u = ⟨1024 * (t.val / 16) + r.val, user_lt t r⟩ := Fin.ext hu
  unfold Mine.step
  rw [mined_le _ _ _ _ _ (hV c t) _ _ _ (hlo t) (hhi t) (fun q => l ⟨1024 * (t.val % 16) + q.val, movie_lt t q⟩)
    (fun g q => (blk_4 V c t g q).trans (hoh g _))
    (fun q => ⟨hmono _ _ (Fin.mk_le_mk.mpr (by omega)), hmono _ _ (Fin.mk_le_mk.mpr (by have := q.isLt; omega))⟩)
    (fun r q => by rw [hs]; exact hne _ _) r g x]
  simp only [hs]
  rw [← eu]
  refine and_congr Iff.rfl ⟨fun h k h1 h2 hl => ?_, fun h q hq => h _ (Nat.le_add_right _ _) (Nat.add_lt_add_left q.isLt _) hq⟩
  have ek : k = ⟨1024 * (t.val % 16) + (⟨k.val - 1024 * (t.val % 16), by omega⟩ : Fin 1024).val, movie_lt t _⟩ := Fin.ext (Nat.add_sub_of_le h1).symm
  rw [ek]
  exact h _ (ek ▸ hl)

/-- After a point of column 0 the minima are those over the first block. -/
theorem first_le (t : Fin cfg2.N) (h0 : t.val % 16 = 0) (r : Fin 1024) (g : Fin 32) (x : EReal) (u : Fin 4096)
    (hu : u.val = 1024 * (t.val / 16) + r.val) :
    x ≤ mat (Mine.outAt V hV c t.val) r g ↔ ∀ k : Fin 16384, k.val < 1024 * (t.val % 16) + 1024 → l k = g → x ≤ at_place V c u k := by
  have hc : (grid2.coords t 1).val = 0 := (Mine.coord_col t).trans h0
  rw [Mine.outAt_first V hV c t hc (k2_pay1 : FVec Ideal S1024x32 .f32), step_le V c hV l hmono hoh hlo hhi hne t _ r g x u hu, if_pos hc, pay1]
  exact ⟨fun h k hk hl => h.2 k (by omega) hk hl, fun h => ⟨le_top, fun k _ hk hl => h k hk hl⟩⟩

/-- After a later point they take in that point's block. -/
theorem next_le (t : Fin cfg2.N) (h0 : t.val % 16 ≠ 0) (r : Fin 1024) (g : Fin 32) (x : EReal) (u : Fin 4096)
    (hu : u.val = 1024 * (t.val / 16) + r.val)
    (ih : x ≤ mat (Mine.outAt V hV c (t.val - 1)) r g ↔ ∀ k : Fin 16384, k.val < 1024 * (t.val % 16) → l k = g → x ≤ at_place V c u k) :
    x ≤ mat (Mine.outAt V hV c t.val) r g ↔ ∀ k : Fin 16384, k.val < 1024 * (t.val % 16) + 1024 → l k = g → x ≤ at_place V c u k := by
  have hc : ¬(grid2.coords t 1).val = 0 := fun h => h0 ((Mine.coord_col t).symm.trans h)
  rw [Mine.outAt_next V hV c t (fun h => h0 (by rw [h])), step_le V c hV l hmono hoh hlo hhi hne t _ r g x u hu, if_neg hc, ih]
  refine ⟨fun h k hk hl => ?_, fun h => ⟨fun k hk hl => h k (by omega) hl, fun k _ hk hl => h k hk hl⟩⟩
  by_cases hk' : k.val < 1024 * (t.val % 16)
  · exact h.1 k hk' hl
  · exact h.2 k (by omega) hk hl

/-- After a point, the minima are those over the movies of the row's blocks up to it. -/
theorem outAt_le (r : Fin 1024) (g : Fin 32) (x : EReal) (u : Fin 4096) (n : ℕ) : ∀ (hn : n < cfg2.N) (hu : u.val = 1024 * (n / 16) + r.val),
    (x ≤ mat (Mine.outAt V hV c n) r g
      ↔ ∀ k : Fin 16384, k.val < 1024 * (n % 16) + 1024 → l k = g → x ≤ at_place V c u k) := by
  induction n with
  | zero => exact fun hn hu => first_le V c hV l hmono hoh hlo hhi hne ⟨0, hn⟩ rfl r g x u hu
  | succ n ih =>
    intro hn hu
    by_cases h0 : (n + 1) % 16 = 0
    · exact first_le V c hV l hmono hoh hlo hhi hne ⟨n + 1, hn⟩ h0 r g x u hu
    · refine next_le V c hV l hmono hoh hlo hhi hne ⟨n + 1, hn⟩ h0 r g x u hu ?_
      have e2 : (n + 1) % 16 = n % 16 + 1 := by omega
      have := ih (Nat.lt_of_succ_lt hn) (by omega)
      rw [show 1024 * (n % 16) + 1024 = 1024 * ((n + 1) % 16) by omega] at this
      exact this

/-- The mining region's array: at a user and a genre, the least score of the genre's movies. -/
theorem mined_array (u : Fin 4096) (g : Fin 32) :
    mat ((Mine.dat V hV c).arrAt 5 cfg2.N : Vec Ideal S4096x32 .f32) u g
      = Finset.univ.inf fun k => if l k = g then at_place V c u k else ⊤ := by
  have key : ((Mine.dat V hV c).arrAt 5 cfg2.N : Vec Ideal S4096x32 .f32)
      = fun i => Finset.univ.inf fun k => if l k = i 1 then at_place V c (i 0) k else ⊤ := by
    refine Dat.arrAt_eq_of_covers (Mine.dat V hV c) 5 _ (by decide +kernel) fun t hf y => ?_
    have ht : t.val % 16 = 15 := (flush2_5 t).mp hf
    blk_simp
    rw [Mine.after_5]
    obtain ⟨r, s, rfl⟩ : ∃ (r : Fin 1024) (s : Fin 32), y = ix2 r s := ⟨y 0, y 1, by funext a; match a with | ⟨0, _⟩ => rfl | ⟨1, _⟩ => rfl⟩
    have e := tiles_5 t
    refine Eq.trans (b := Finset.univ.inf fun k => if l k = s then at_place V c ⟨1024 * (t.val / 16) + r.val, user_lt t r⟩ k else ⊤) ?_ ?_
    · refine eq_of_forall_le_iff fun x => (outAt_le V c hV l hmono hoh hlo hhi hne r s x ⟨1024 * (t.val / 16) + r.val, user_lt t r⟩ t.val t.isLt rfl).trans ?_
      rw [Finset.le_inf_iff, ht]
      refine ⟨fun h k _ => ?_, fun h k _ hl => ?_⟩
      · split
        · exact h k (by have := k.isLt; omega) (by assumption)
        · exact le_top
      · have := h k (Finset.mem_univ _)
        rwa [if_pos hl] at this
    · refine congrArg₂ (fun (a : Fin 4096) (b : Fin 32) => Finset.univ.inf fun k => if l k = b then at_place V c a k else ⊤) (Fin.ext ?_) (Fin.ext ?_)
      · show 1024 * (t.val / 16) + r.val = _
        blk_simp [e]
        omega
      · blk_simp [e]
  exact congrFun key (ix2 u g)

end Cert.KernelIdeal.Mining
-- ==== Proof.Answers.lean ====
/-
  The three results as functions of the thirteen arguments, and the identities between the kernel's way and the
  reference's way of writing them.
-/
module

public import proofs.«01_k».proof.Proof.Spec
public import proofs.«01_k».proof.Proof.Lanes
public import proofs.«01_k».proof.Proof.Gen.ReferenceIdeal

@[expose] public section

noncomputable section

namespace Cert.Spec

open Idealize.ShloMosaic
open scoped BigOperators

/-! ## The reals among the extended reals -/

/-- The extended real is a real. -/
def Finite (x : EReal) : Prop := ∃ r : ℝ, x = (r : EReal)

namespace Finite
variable {x y : EReal}

theorem zero : Finite 0 := ⟨0, rfl⟩
theorem one : Finite 1 := ⟨1, rfl⟩
theorem add (hx : Finite x) (hy : Finite y) : Finite (x + y) := by
  obtain ⟨a, rfl⟩ := hx; obtain ⟨b, rfl⟩ := hy; exact ⟨a + b, (EReal.coe_add a b).symm⟩
theorem mul (hx : Finite x) (hy : Finite y) : Finite (x * y) := by
  obtain ⟨a, rfl⟩ := hx; obtain ⟨b, rfl⟩ := hy; exact ⟨a * b, (EReal.coe_mul a b).symm⟩
theorem sub (hx : Finite x) (hy : Finite y) : Finite (x - y) := by
  obtain ⟨a, rfl⟩ := hx; obtain ⟨b, rfl⟩ := hy; exact ⟨a - b, (EReal.coe_sub a b).symm⟩
theorem max (hx : Finite x) (hy : Finite y) : Finite (max x y) := by
  rcases max_choice x y with h | h <;> rw [h] <;> assumption
theorem ite {p : Prop} [Decidable p] (hx : Finite x) (hy : Finite y) : Finite (if p then x else y) := by
  split <;> assumption
theorem sum {ι : Type} (s : Finset ι) (f : ι → EReal) (h : ∀ i, Finite (f i)) : Finite (∑ i ∈ s, f i) := by
  classical
  induction s using Finset.induction_on with
  | empty => exact zero
  | insert a s ha ih => rw [Finset.sum_insert ha]; exact (h a).add ih
theorem ne_bot (hx : Finite x) : x ≠ ⊥ := by obtain ⟨a, rfl⟩ := hx; exact EReal.coe_ne_bot a
theorem ne_top (hx : Finite x) : x ≠ ⊤ := by obtain ⟨a, rfl⟩ := hx; exact EReal.coe_ne_top a

/-- A quotient by a real that is at least one. -/
theorem div (hx : Finite x) (hy : Finite y) (h : 1 ≤ y) : Finite (Ideal.div x y) := by
  obtain ⟨b, rfl⟩ := hy
  have hb : b ≠ 0 := by
    rintro rfl
    exact absurd h (by norm_num)
  rw [Ideal.div_coe hb]
  exact hx.mul ⟨_, rfl⟩
end Finite

theorem finite_two : Finite (Ideal.ofBits .f32 0x40000000#32) :=
  ⟨2, by simp [Ideal.ofBits, Ideal.ieee, -EReal.coe_mul]; norm_num⟩

theorem finite_eps : Finite (Ideal.ofBits .f32 0x2B8CBCCC#32) :=
  ⟨_, by simp [Ideal.ofBits, Ideal.ieee, -EReal.coe_mul]; rfl⟩

theorem finite_mean {n B : ℕ} (w : Fin n → ℤ) (r : Fin n → Fin B → EReal) (hr : ∀ p e, Finite (r p e)) (a : ℕ) (e : Fin B) :
    Finite (mean w r a e) :=
  (Finite.sum _ _ fun p => (hr p e).ite .zero).div ((Finite.sum _ _ fun p => Finite.one.ite .zero).max .one) (le_max_right _ _)

theorem finite_layers {x n : Fin 32 → EReal} {Ws Wn : Fin 32 → Fin 16 → EReal} {W2 : Fin 16 → Fin 16 → EReal}
    (hx : ∀ a, Finite (x a)) (hn : ∀ a, Finite (n a)) (hs : ∀ a k, Finite (Ws a k)) (hw : ∀ a k, Finite (Wn a k))
    (h2 : ∀ a k, Finite (W2 a k)) (j : Fin 16) : Finite (layers x n Ws Wn W2 j) :=
  (Finite.sum _ _ fun k => ((((Finite.sum _ _ fun a => (hx a).mul (hs a k)).add
    (Finite.sum _ _ fun a => (hn a).mul (hw a k))).max .zero).mul (h2 k j))).max .zero

theorem finite_squares {x : Fin 16 → EReal} (hx : ∀ j, Finite (x j)) : Finite (squares x) :=
  Finite.sum _ _ fun j => (hx j).mul (hx j)

theorem finite_product {x y : Fin 16 → EReal} (hx : ∀ j, Finite (x j)) (hy : ∀ j, Finite (y j)) : Finite (∑ j, x j * y j) :=
  Finite.sum _ _ fun j => (hx j).mul (hy j)

/-! ## The square root -/

theorem sqrt_mono : Monotone Ideal.sqrt := by
  intro x y h
  induction x using EReal.rec with
  | bot => exact bot_le
  | top => rw [top_le_iff.1 h]
  | coe a =>
    induction y using EReal.rec with
    | bot => exact absurd (le_bot_iff.1 h) (EReal.coe_ne_bot a)
    | top => exact le_top
    | coe b =>
      have hab : a ≤ b := EReal.coe_le_coe_iff.1 h
      rw [Ideal.sqrt_coe, Ideal.sqrt_coe]
      split
      · exact bot_le
      · rename_i ha
        rw [if_neg (by linarith)]
        exact EReal.coe_le_coe_iff.2 (Real.sqrt_le_sqrt hab)

/-- A monotone distance of a least score is the least distance. -/
theorem least_root {n : ℕ} (eps q : EReal) (heps : Finite eps) (hq : Finite q) (P : Fin n → Prop) [DecidablePred P] (f : Fin n → EReal) :
    Ideal.sqrt (max 0 (q + Finset.univ.inf fun k => if P k then f k else ⊤) + eps)
      = Finset.univ.inf fun k => if P k then Ideal.sqrt (max 0 (q + f k) + eps) else ⊤ := by
  have htop : Ideal.sqrt (max 0 (q + ⊤) + eps) = ⊤ := by
    rw [EReal.add_top_of_ne_bot hq.ne_bot, max_eq_right le_top, EReal.top_add_of_ne_bot heps.ne_bot, Ideal.sqrt_top]
  have hm : Monotone fun t : EReal => Ideal.sqrt (max 0 (q + t) + eps) := fun s t h =>
    sqrt_mono (add_le_add_left (max_le_max le_rfl (add_le_add_right h q)) eps)
  refine (Finset.apply_inf_eq_inf_comp_of_linearOrder (g := fun t : EReal => Ideal.sqrt (max 0 (q + t) + eps)) (s := Finset.univ)
    (f := fun k => if P k then f k else ⊤) hm htop).trans ?_
  refine Finset.inf_congr rfl fun k _ => ?_
  show Ideal.sqrt (max 0 (q + if P k then f k else ⊤) + eps) = _
  split
  · rfl
  · exact htop

/-- A least value does not depend on the order in which the entries stand. -/
theorem inf_place {n : ℕ} (f : Fin n → Fin n) (hf : Function.Bijective f) (h : Fin n → EReal) :
    (Finset.univ.inf fun k => h (f k)) = Finset.univ.inf h := by
  refine le_antisymm (Finset.le_inf fun p _ => ?_) (Finset.le_inf fun k _ => Finset.inf_le (Finset.mem_univ _))
  obtain ⟨k, rfl⟩ := hf.2 p
  exact Finset.inf_le (f := fun k => h (f k)) (Finset.mem_univ k)

/-- A one-hot row times a table is the table's row. -/
theorem one_hot {n : ℕ} (a : Fin n) (T : Fin n → EReal) : (∑ g, (if a = g then (1 : EReal) else 0) * T g) = T a := by
  rw [Finset.sum_eq_single a (fun g _ h => by rw [if_neg h.symm, zero_mul]) fun h => absurd (Finset.mem_univ a) h, if_pos rfl, one_mul]

/-! ## The results -/

/-- The thirteen arguments as functions of row and column numbers, the edges and the labels as numbers. -/
structure Inputs where
  xu : Fin 4096 → Fin 32 → EReal
  xm : Fin 16384 → Fin 32 → EReal
  s : Fin 16384 → Fin 4096
  d : Fin 16384 → Fin 16384
  l : Fin 16384 → Fin 32
  gt : Fin 32 → Fin 32 → EReal
  u1s : Fin 32 → Fin 16 → EReal
  u1n : Fin 32 → Fin 16 → EReal
  m1s : Fin 32 → Fin 16 → EReal
  m1n : Fin 32 → Fin 16 → EReal
  u2 : Fin 16 → Fin 16 → EReal
  m2 : Fin 16 → Fin 16 → EReal
  fc : Fin 16 → EReal
  b : EReal

/-- The arrays that the mined distances read hold reals only. -/
structure Inputs.Real (I : Inputs) : Prop where
  xu : ∀ a e, Finite (I.xu a e)
  xm : ∀ a e, Finite (I.xm a e)
  gt : ∀ a e, Finite (I.gt a e)
  u1s : ∀ a e, Finite (I.u1s a e)
  u1n : ∀ a e, Finite (I.u1n a e)
  m1s : ∀ a e, Finite (I.m1s a e)
  m1n : ∀ a e, Finite (I.m1n a e)
  u2 : ∀ a e, Finite (I.u2 a e)
  m2 : ∀ a e, Finite (I.m2 a e)

namespace Inputs
variable (I : Inputs)

/-- The row of user `u` after the two layers; its neighbours' row is the mean of the movies that it has edges to. -/
def user (u : Fin 4096) : Fin 16 → EReal :=
  layers (I.xu u) (mean (fun p => ((I.s p).val : ℤ)) (fun p => I.xm (I.d p)) u.val) I.u1s I.u1n I.u2

/-- The row of movie `p` after the two layers; its neighbour is its genre. -/
def movie (p : Fin 16384) : Fin 16 → EReal := layers (I.xm p) (I.gt (I.l p)) I.m1s I.m1n I.m2

/-- The distance of user `u` and movie `p`. -/
def dist (u : Fin 4096) (p : Fin 16384) : EReal :=
  root (Ideal.ofBits .f32 0x40000000#32) (Ideal.ofBits .f32 0x2B8CBCCC#32) (squares (I.user u) + squares (I.movie p)) (I.user u) (I.movie p)

/-- The least distance of user `u` to a movie of genre `g`. -/
def genre (u : Fin 4096) (g : Fin 32) : EReal := Finset.univ.inf fun p => if I.l p = g then I.dist u p else ⊤

/-- The hardest negative of edge `p`: the nearest genre, or the next one where the nearest genre `a` is the edge's own. -/
def negative (a : Fin 4096 → Fin 32) (p : Fin 16384) : EReal :=
  if a (I.s p) = I.l (I.d p) then Finset.univ.inf (fun g => if g = a (I.s p) then ⊤ else I.genre (I.s p) g)
  else Finset.univ.inf (I.genre (I.s p))

def userScore (u : Fin 4096) : EReal := (∑ e, I.user u e * I.fc e) + I.b
def movieScore (p : Fin 16384) : EReal := (∑ e, I.movie p e * I.fc e) + I.b

/-- The mean over the edges of the margin loss. -/
def loss (a : Fin 4096 → Fin 32) : EReal :=
  Ideal.div (∑ p, max (I.dist (I.s p) (I.d p) - I.negative a p + 1) 0) (Ideal.ofBits .f32 0x46800000#32)

/-- The least distances as an array. -/
def genres : (⟨2, ![4096, 32]⟩ : Shape).Idx → EReal := fun i => I.genre (i 0) (i 1)

variable {I} (h : I.Real)
include h

theorem Real.user (u : Fin 4096) (j : Fin 16) : Finite (I.user u j) :=
  finite_layers (h.xu u) (fun e => finite_mean _ _ (fun p e => h.xm _ e) _ e) h.u1s h.u1n h.u2 j

theorem Real.movie (p : Fin 16384) (j : Fin 16) : Finite (I.movie p j) :=
  finite_layers (h.xm p) (h.gt _) h.m1s h.m1n h.m2 j

/-- The kernel mines the part of the squared distance that depends on the movie, over the sorted movies, and adds the rest after. -/
theorem Real.genre_eq (f : Fin 16384 → Fin 16384) (hf : Function.Bijective f) (u : Fin 4096) (g : Fin 32) :
    Ideal.sqrt (max 0 (squares (I.user u) + Finset.univ.inf fun k => if I.l (f k) = g then
      squares (I.movie (f k)) - Ideal.ofBits .f32 0x40000000#32 * ∑ q, I.user u q * I.movie (f k) q else ⊤) + Ideal.ofBits .f32 0x2B8CBCCC#32)
      = I.genre u g := by
  rw [least_root _ _ finite_eps (finite_squares (h.user u))]
  refine (inf_place f hf fun p => if I.l p = g then Ideal.sqrt (max 0 (squares (I.user u) + (squares (I.movie p)
    - Ideal.ofBits .f32 0x40000000#32 * ∑ q, I.user u q * I.movie p q)) + Ideal.ofBits .f32 0x2B8CBCCC#32) else ⊤).trans ?_
  refine Finset.inf_congr rfl fun p _ => ?_
  congr 1
  unfold Inputs.dist root
  rw [sub_eq_add_neg, sub_eq_add_neg, add_assoc]

end Inputs

/-- The arguments of a program read as functions. -/
def inputs (x0 : (⟨2, ![4096, 32]⟩ : Shape).Idx → EReal) (x1 : (⟨2, ![16384, 32]⟩ : Shape).Idx → EReal)
    (x4 : (⟨2, ![32, 32]⟩ : Shape).Idx → EReal) (x5 x6 x7 x8 : (⟨2, ![32, 16]⟩ : Shape).Idx → EReal)
    (x9 x10 : (⟨2, ![16, 16]⟩ : Shape).Idx → EReal) (x11 : (⟨2, ![16, 1]⟩ : Shape).Idx → EReal) (x12 : (⟨1, ![1]⟩ : Shape).Idx → EReal)
    (s : Fin 16384 → Fin 4096) (d : Fin 16384 → Fin 16384) (l : Fin 16384 → Fin 32) : Inputs where
  xu := mat x0
  xm := mat x1
  s := s
  d := d
  l := l
  gt := mat x4
  u1s := mat x5
  u1n := mat x6
  m1s := mat x7
  m1n := mat x8
  u2 := mat x9
  m2 := mat x10
  fc := fun e => mat x11 e 0
  b := vec x12 0

/-- The word that the arg-min of a row of the array returns. -/
def nearestWord (x : (⟨2, ![4096, 32]⟩ : Shape).Idx → EReal) (j : (⟨1, ![4096]⟩ : Shape).Idx) : BitVec 32 :=
  (Host.argReduce (F := Ideal) (φ := .f32) ReferenceIdeal.reducer_argmin_f32_i32 x (iotaInDim ReferenceIdeal.S4096x32 32 1)
    (constant (F := Ideal) ReferenceIdeal.S_ .f32 0x7F800000#32) (constantI ReferenceIdeal.S_ 32 0#32)
    ReferenceIdeal.Gen.reducesTo_S4096x32_S4096_d1 ReferenceIdeal.Gen.h_S_ j).2

/-- The genre `a u` is the one that the arg-min names for user `u`, and it holds the least distance. -/
def Nearest (x : (⟨2, ![4096, 32]⟩ : Shape).Idx → EReal) (a : Fin 4096 → Fin 32) : Prop :=
  ∀ u, nearestWord x (ix1 u) = BitVec.ofNat 32 (a u).val ∧ mat x u (a u) = Finset.univ.inf (mat x u)

theorem exists_nearest (x : (⟨2, ![4096, 32]⟩ : Shape).Idx → EReal) : ∃ a, Nearest x a := by
  have h : ∀ u : Fin 4096, ∃ a : Fin 32, nearestWord x (ix1 u) = BitVec.ofNat 32 a.val ∧ mat x u a = Finset.univ.inf (mat x u) := fun u =>
    Lanes.nearest_lane x _ (fun _ => Lanes.inf_top) _ (by decide) _ u
  exact ⟨fun u => (h u).choose, fun u => (h u).choose_spec⟩

/-- Words of genres are equal where the genres are. -/
theorem genre_word {a b : Fin 32} : BitVec.ofNat 32 a.val = BitVec.ofNat 32 b.val ↔ a = b := by
  constructor
  · intro h
    have := congrArg BitVec.toNat h
    simp only [BitVec.toNat_ofNat] at this
    exact Fin.ext (by omega)
  · rintro rfl; rfl

theorem select_word {α : Type} (x y : BitVec 32) (a b : α) : Scalar.select (IntOp.cmpi .eq x y) a b = if x = y then a else b := by
  by_cases h : x = y
  · subst h
    rw [if_pos rfl]
    simp [IntOp.cmpi, Scalar.select]
  · rw [if_neg h]
    simp only [IntOp.cmpi]
    rw [beq_eq_false_iff_ne.mpr h]
    rfl

/-- The comparison of two words as floats is their comparison as words. -/
theorem select_float {α : Type} (x y : BitVec 32) (a b : α) :
    Scalar.select (FloatOps.cmpf (F := Ideal) (φ := .f32) .oeq (FloatOps.sitofp (F := Ideal) .f32 x) (FloatOps.sitofp (F := Ideal) .f32 y)) a b
      = if x = y then a else b := by
  have e : (FloatOps.sitofp (F := Ideal) .f32 x : EReal) = FloatOps.sitofp (F := Ideal) .f32 y ↔ x = y := by
    constructor
    · intro h
      have h' : ((x.toInt : ℝ) : EReal) = ((y.toInt : ℝ) : EReal) := h
      exact BitVec.toInt_inj.1 (by exact_mod_cast h')
    · rintro rfl; rfl
  rw [Lanes.equal_bit]
  by_cases h : x = y
  · subst h
    simp [Scalar.select]
  · rw [if_neg h, decide_eq_false (fun h' => h (e.1 h'))]
    rfl

end Cert.Spec

end
-- ==== Proof.KernelIdeal.Results.lean ====
/-
  The kernel's results as functions of its arguments: the host stretches' reads and the regions' arrays chained through the
  contents that they leave.
-/
module

public import proofs.«01_k».proof.Proof.KernelIdeal.Suffix
public import proofs.«01_k».proof.Proof.KernelIdeal.Hidden
public import proofs.«01_k».proof.Proof.KernelIdeal.Mining
public import proofs.«01_k».proof.Proof.Answers

@[expose] public section

set_option maxRecDepth 16384

noncomputable section

namespace Cert.KernelIdeal.Results

open Cert.KernelIdeal Cert.KernelIdeal.Gen Cert.KernelIdeal.Region Cert.KernelIdeal.Run
open Idealize.ShloMosaic Idealize.ShloMosaic.TcCoe
open Cert.Take Cert.Spec Cert.KernelIdeal.Prefix
open scoped BigOperators

variable (m : (ℓ : Loc nD τ sig) → Buf (Elt Ideal) ℓ)

/-! ## The contents after each stretch and each region -/

section Contents

def K0 (c : Dev nD) : Valuation τ sig (Elt Ideal) := V0 m c
def K1 (c : Dev nD) : Valuation τ sig (Elt Ideal) := V1 m c
def K2 (c : Dev nD) : Valuation τ sig (Elt Ideal) := V2 m c
def K3 (c : Dev nD) : Valuation τ sig (Elt Ideal) := V3 m c
def K4 (c : Dev nD) : Valuation τ sig (Elt Ideal) := V4 m c
def K5 (c : Dev nD) : Valuation τ sig (Elt Ideal) := V5 m c
def K6 (c : Dev nD) : Valuation τ sig (Elt Ideal) := V6 m c
def K7 (c : Dev nD) : Valuation τ sig (Elt Ideal) := V7 m c
def K8 (c : Dev nD) : Valuation τ sig (Elt Ideal) := V8 m c
def K9 (c : Dev nD) : Valuation τ sig (Elt Ideal) := W9 m c
def K10 (c : Dev nD) : Valuation τ sig (Elt Ideal) := W10 m c

variable (hw : Mine.WordsOk (conts (W10 m)))

def K11 (c : Dev nD) : Valuation τ sig (Elt Ideal) := W11 m hw c
def K12 (c : Dev nD) : Valuation τ sig (Elt Ideal) := V12 m (outs m hw) c
def K13 (c : Dev nD) : Valuation τ sig (Elt Ideal) := V13 m (outs m hw) c
def K14 (c : Dev nD) : Valuation τ sig (Elt Ideal) := V14 m (outs m hw) c
def K15 (c : Dev nD) : Valuation τ sig (Elt Ideal) := V15 m (outs m hw) c
def K16 (c : Dev nD) : Valuation τ sig (Elt Ideal) := V16 m (outs m hw) c
def K17 (c : Dev nD) : Valuation τ sig (Elt Ideal) := V17 m (outs m hw) c
def K18 (c : Dev nD) : Valuation τ sig (Elt Ideal) := V18 m (outs m hw) c
def K19 (c : Dev nD) : Valuation τ sig (Elt Ideal) := V19 m (outs m hw) c
def K20 (c : Dev nD) : Valuation τ sig (Elt Ideal) := V20 m (outs m hw) c
def K21 (c : Dev nD) : Valuation τ sig (Elt Ideal) := V21 m (outs m hw) c
def K22 (c : Dev nD) : Valuation τ sig (Elt Ideal) := V22 m (outs m hw) c
def K23 (c : Dev nD) : Valuation τ sig (Elt Ideal) := V23 m (outs m hw) c
def K24 (c : Dev nD) : Valuation τ sig (Elt Ideal) := V24 m (outs m hw) c
def K25 (c : Dev nD) : Valuation τ sig (Elt Ideal) := V25 m (outs m hw) c
def K26 (c : Dev nD) : Valuation τ sig (Elt Ideal) := V26 m (outs m hw) c
def K27 (c : Dev nD) : Valuation τ sig (Elt Ideal) := V27 m (outs m hw) c
def K28 (c : Dev nD) : Valuation τ sig (Elt Ideal) := V28 m (outs m hw) c
def K29 (c : Dev nD) : Valuation τ sig (Elt Ideal) := V29 m (outs m hw) c
def K30 (c : Dev nD) : Valuation τ sig (Elt Ideal) := V30 m (outs m hw) c
def K31 (c : Dev nD) : Valuation τ sig (Elt Ideal) := V31 m (outs m hw) c
def K32 (c : Dev nD) : Valuation τ sig (Elt Ideal) := V32 m (outs m hw) c

/-! ## What the stretches in between leave as it was -/

theorem kept_arg0_9 (c : Dev nD) : K9 m c main_arg0 = K0 m c main_arg0 :=
  (W9_of m c main_arg0 (by decide) (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| V1_of m c main_arg0 (by decide)
theorem kept_arg1_1 (c : Dev nD) : K1 m c main_arg1 = K0 m c main_arg1 :=
  V1_of m c main_arg1 (by decide)
theorem kept_arg10_8 (c : Dev nD) : K8 m c main_arg10 = K0 m c main_arg10 :=
  (V8_of m c main_arg10 (by decide)).trans <| (V7_of m c main_arg10 (by decide)).trans <| (V6_of m c main_arg10 (by decide)).trans <| (V5_of m c main_arg10 (by decide)).trans <| (V4_of m c main_arg10 (by decide)).trans <| (V3_of m c main_arg10 (by decide)).trans <| (V2_of m c main_arg10 (by decide)).trans <| V1_of m c main_arg10 (by decide)
theorem kept_arg11_7 (c : Dev nD) : K7 m c main_arg11 = K0 m c main_arg11 :=
  (V7_of m c main_arg11 (by decide)).trans <| (V6_of m c main_arg11 (by decide)).trans <| (V5_of m c main_arg11 (by decide)).trans <| (V4_of m c main_arg11 (by decide)).trans <| (V3_of m c main_arg11 (by decide)).trans <| (V2_of m c main_arg11 (by decide)).trans <| V1_of m c main_arg11 (by decide)
theorem kept_arg12_31 (c : Dev nD) : K31 m hw c main_arg12 = K0 m c main_arg12 :=
  (V31_of m (outs m hw) c main_arg12 (by decide)).trans <| (V30_of m (outs m hw) c main_arg12 (by decide)).trans <| (V29_of m (outs m hw) c main_arg12 (by decide)).trans <| (V28_of m (outs m hw) c main_arg12 (by decide)).trans <| (V27_of m (outs m hw) c main_arg12 (by decide)).trans <| (V26_of m (outs m hw) c main_arg12 (by decide)).trans <| (V25_of m (outs m hw) c main_arg12 (by decide)).trans <| (V24_of m (outs m hw) c main_arg12 (by decide)).trans <| (V23_of m (outs m hw) c main_arg12 (by decide)).trans <| (V22_of m (outs m hw) c main_arg12 (by decide)).trans <| (V21_of m (outs m hw) c main_arg12 (by decide)).trans <| (V20_of m (outs m hw) c main_arg12 (by decide)).trans <| (V19_of m (outs m hw) c main_arg12 (by decide)).trans <| (V18_of m (outs m hw) c main_arg12 (by decide)).trans <| (V17_of m (outs m hw) c main_arg12 (by decide)).trans <| (V16_of m (outs m hw) c main_arg12 (by decide)).trans <| (V15_of m (outs m hw) c main_arg12 (by decide)).trans <| (V14_of m (outs m hw) c main_arg12 (by decide)).trans <| (V13_of m (outs m hw) c main_arg12 (by decide)).trans <| ((V12_of m (outs m hw) c main_arg12 (by decide)).trans (congrFun (V11_eq m hw c) _)).trans <| (W11_of m hw c main_arg12 (by decide)).trans <| (W10_of m c main_arg12 (by decide) (by decide)).trans <| (W9_of m c main_arg12 (by decide) (by decide)).trans <| (V8_of m c main_arg12 (by decide)).trans <| (V7_of m c main_arg12 (by decide)).trans <| (V6_of m c main_arg12 (by decide)).trans <| (V5_of m c main_arg12 (by decide)).trans <| (V4_of m c main_arg12 (by decide)).trans <| (V3_of m c main_arg12 (by decide)).trans <| (V2_of m c main_arg12 (by decide)).trans <| V1_of m c main_arg12 (by decide)
theorem kept_arg3_2 (c : Dev nD) : K2 m c main_arg3 = K0 m c main_arg3 :=
  (V2_of m c main_arg3 (by decide)).trans <| V1_of m c main_arg3 (by decide)
theorem kept_arg4_8 (c : Dev nD) : K8 m c main_arg4 = K0 m c main_arg4 :=
  (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| V1_of m c main_arg4 (by decide)
theorem kept_arg5_9 (c : Dev nD) : K9 m c main_arg5 = K0 m c main_arg5 :=
  (W9_of m c main_arg5 (by decide) (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| V1_of m c main_arg5 (by decide)
theorem kept_arg6_9 (c : Dev nD) : K9 m c main_arg6 = K0 m c main_arg6 :=
  (W9_of m c main_arg6 (by decide) (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| V1_of m c main_arg6 (by decide)
theorem kept_arg7_8 (c : Dev nD) : K8 m c main_arg7 = K0 m c main_arg7 :=
  (V8_of m c main_arg7 (by decide)).trans <| (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| V1_of m c main_arg7 (by decide)
theorem kept_arg8_8 (c : Dev nD) : K8 m c main_arg8 = K0 m c main_arg8 :=
  (V8_of m c main_arg8 (by decide)).trans <| (V7_of m c main_arg8 (by decide)).trans <| (V6_of m c main_arg8 (by decide)).trans <| (V5_of m c main_arg8 (by decide)).trans <| (V4_of m c main_arg8 (by decide)).trans <| (V3_of m c main_arg8 (by decide)).trans <| (V2_of m c main_arg8 (by decide)).trans <| V1_of m c main_arg8 (by decide)
theorem kept_arg9_9 (c : Dev nD) : K9 m c main_arg9 = K0 m c main_arg9 :=
  (W9_of m c main_arg9 (by decide) (by decide)).trans <| (V8_of m c main_arg9 (by decide)).trans <| (V7_of m c main_arg9 (by decide)).trans <| (V6_of m c main_arg9 (by decide)).trans <| (V5_of m c main_arg9 (by decide)).trans <| (V4_of m c main_arg9 (by decide)).trans <| (V3_of m c main_arg9 (by decide)).trans <| (V2_of m c main_arg9 (by decide)).trans <| V1_of m c main_arg9 (by decide)
theorem kept_v1_2 (c : Dev nD) : K2 m c main_v1 = K1 m c main_v1 :=
  V2_of m c main_v1 (by decide)
theorem kept_v1_16 (c : Dev nD) : K16 m hw c main_v1 = K1 m c main_v1 :=
  (V16_of m (outs m hw) c main_v1 (by decide)).trans <| (V15_of m (outs m hw) c main_v1 (by decide)).trans <| (V14_of m (outs m hw) c main_v1 (by decide)).trans <| (V13_of m (outs m hw) c main_v1 (by decide)).trans <| ((V12_of m (outs m hw) c main_v1 (by decide)).trans (congrFun (V11_eq m hw c) _)).trans <| (W11_of m hw c main_v1 (by decide)).trans <| (W10_of m c main_v1 (by decide) (by decide)).trans <| (W9_of m c main_v1 (by decide) (by decide)).trans <| (V8_of m c main_v1 (by decide)).trans <| (V7_of m c main_v1 (by decide)).trans <| (V6_of m c main_v1 (by decide)).trans <| (V5_of m c main_v1 (by decide)).trans <| (V4_of m c main_v1 (by decide)).trans <| (V3_of m c main_v1 (by decide)).trans <| V2_of m c main_v1 (by decide)
theorem kept_v1_24 (c : Dev nD) : K24 m hw c main_v1 = K1 m c main_v1 :=
  (V24_of m (outs m hw) c main_v1 (by decide)).trans <| (V23_of m (outs m hw) c main_v1 (by decide)).trans <| (V22_of m (outs m hw) c main_v1 (by decide)).trans <| (V21_of m (outs m hw) c main_v1 (by decide)).trans <| (V20_of m (outs m hw) c main_v1 (by decide)).trans <| (V19_of m (outs m hw) c main_v1 (by decide)).trans <| (V18_of m (outs m hw) c main_v1 (by decide)).trans <| (V17_of m (outs m hw) c main_v1 (by decide)).trans <| (V16_of m (outs m hw) c main_v1 (by decide)).trans <| (V15_of m (outs m hw) c main_v1 (by decide)).trans <| (V14_of m (outs m hw) c main_v1 (by decide)).trans <| (V13_of m (outs m hw) c main_v1 (by decide)).trans <| ((V12_of m (outs m hw) c main_v1 (by decide)).trans (congrFun (V11_eq m hw c) _)).trans <| (W11_of m hw c main_v1 (by decide)).trans <| (W10_of m c main_v1 (by decide) (by decide)).trans <| (W9_of m c main_v1 (by decide) (by decide)).trans <| (V8_of m c main_v1 (by decide)).trans <| (V7_of m c main_v1 (by decide)).trans <| (V6_of m c main_v1 (by decide)).trans <| (V5_of m c main_v1 (by decide)).trans <| (V4_of m c main_v1 (by decide)).trans <| (V3_of m c main_v1 (by decide)).trans <| V2_of m c main_v1 (by decide)
theorem kept_v101_29 (c : Dev nD) : K29 m hw c main_v101 = K28 m hw c main_v101 :=
  V29_of m (outs m hw) c main_v101 (by decide)
theorem kept_v15_9 (c : Dev nD) : K9 m c main_v15 = K3 m c main_v15 :=
  (W9_of m c main_v15 (by decide) (by decide)).trans <| (V8_of m c main_v15 (by decide)).trans <| (V7_of m c main_v15 (by decide)).trans <| (V6_of m c main_v15 (by decide)).trans <| (V5_of m c main_v15 (by decide)).trans <| V4_of m c main_v15 (by decide)
theorem kept_v16_13 (c : Dev nD) : K13 m hw c main_v16 = K3 m c main_v16 :=
  (V13_of m (outs m hw) c main_v16 (by decide)).trans <| ((V12_of m (outs m hw) c main_v16 (by decide)).trans (congrFun (V11_eq m hw c) _)).trans <| (W11_of m hw c main_v16 (by decide)).trans <| (W10_of m c main_v16 (by decide) (by decide)).trans <| (W9_of m c main_v16 (by decide) (by decide)).trans <| (V8_of m c main_v16 (by decide)).trans <| (V7_of m c main_v16 (by decide)).trans <| (V6_of m c main_v16 (by decide)).trans <| (V5_of m c main_v16 (by decide)).trans <| V4_of m c main_v16 (by decide)
theorem kept_v26_12 (c : Dev nD) : K12 m hw c main_v26 = K5 m c main_v26 :=
  ((V12_of m (outs m hw) c main_v26 (by decide)).trans (congrFun (V11_eq m hw c) _)).trans <| (W11_of m hw c main_v26 (by decide)).trans <| (W10_of m c main_v26 (by decide) (by decide)).trans <| (W9_of m c main_v26 (by decide) (by decide)).trans <| (V8_of m c main_v26 (by decide)).trans <| (V7_of m c main_v26 (by decide)).trans <| V6_of m c main_v26 (by decide)
theorem kept_v3_14 (c : Dev nD) : K14 m hw c main_v3 = K1 m c main_v3 :=
  (V14_of m (outs m hw) c main_v3 (by decide)).trans <| (V13_of m (outs m hw) c main_v3 (by decide)).trans <| ((V12_of m (outs m hw) c main_v3 (by decide)).trans (congrFun (V11_eq m hw c) _)).trans <| (W11_of m hw c main_v3 (by decide)).trans <| (W10_of m c main_v3 (by decide) (by decide)).trans <| (W9_of m c main_v3 (by decide) (by decide)).trans <| (V8_of m c main_v3 (by decide)).trans <| (V7_of m c main_v3 (by decide)).trans <| (V6_of m c main_v3 (by decide)).trans <| (V5_of m c main_v3 (by decide)).trans <| (V4_of m c main_v3 (by decide)).trans <| (V3_of m c main_v3 (by decide)).trans <| V2_of m c main_v3 (by decide)
theorem kept_v30_8 (c : Dev nD) : K8 m c main_v30 = K7 m c main_v30 :=
  V8_of m c main_v30 (by decide)
theorem kept_v40_8 (c : Dev nD) : K8 m c main_v40 = K7 m c main_v40 :=
  V8_of m c main_v40 (by decide)
theorem kept_v41_10 (c : Dev nD) : K10 m c main_v41 = K7 m c main_v41 :=
  (W10_of m c main_v41 (by decide) (by decide)).trans <| (W9_of m c main_v41 (by decide) (by decide)).trans <| V8_of m c main_v41 (by decide)
theorem kept_v44_9 (c : Dev nD) : K9 m c main_v44 = K8 m c main_v44 :=
  W9_of m c main_v44 (by decide) (by decide)
theorem kept_v45_0_10 (c : Dev nD) : K10 m c main_v45_0 = K9 m c main_v45_0 :=
  W10_of m c main_v45_0 (by decide) (by decide)
theorem kept_v45_0_11 (c : Dev nD) : K11 m hw c main_v45_0 = K9 m c main_v45_0 :=
  (W11_of m hw c main_v45_0 (by decide)).trans <| W10_of m c main_v45_0 (by decide) (by decide)
theorem kept_v45_1_11 (c : Dev nD) : K11 m hw c main_v45_1 = K9 m c main_v45_1 :=
  (W11_of m hw c main_v45_1 (by decide)).trans <| W10_of m c main_v45_1 (by decide) (by decide)
theorem kept_v46_0_11 (c : Dev nD) : K11 m hw c main_v46_0 = K10 m c main_v46_0 :=
  W11_of m hw c main_v46_0 (by decide)
theorem kept_v46_0_15 (c : Dev nD) : K15 m hw c main_v46_0 = K10 m c main_v46_0 :=
  (V15_of m (outs m hw) c main_v46_0 (by decide)).trans <| (V14_of m (outs m hw) c main_v46_0 (by decide)).trans <| (V13_of m (outs m hw) c main_v46_0 (by decide)).trans <| ((V12_of m (outs m hw) c main_v46_0 (by decide)).trans (congrFun (V11_eq m hw c) _)).trans <| W11_of m hw c main_v46_0 (by decide)
theorem kept_v46_1_31 (c : Dev nD) : K31 m hw c main_v46_1 = K10 m c main_v46_1 :=
  (V31_of m (outs m hw) c main_v46_1 (by decide)).trans <| (V30_of m (outs m hw) c main_v46_1 (by decide)).trans <| (V29_of m (outs m hw) c main_v46_1 (by decide)).trans <| (V28_of m (outs m hw) c main_v46_1 (by decide)).trans <| (V27_of m (outs m hw) c main_v46_1 (by decide)).trans <| (V26_of m (outs m hw) c main_v46_1 (by decide)).trans <| (V25_of m (outs m hw) c main_v46_1 (by decide)).trans <| (V24_of m (outs m hw) c main_v46_1 (by decide)).trans <| (V23_of m (outs m hw) c main_v46_1 (by decide)).trans <| (V22_of m (outs m hw) c main_v46_1 (by decide)).trans <| (V21_of m (outs m hw) c main_v46_1 (by decide)).trans <| (V20_of m (outs m hw) c main_v46_1 (by decide)).trans <| (V19_of m (outs m hw) c main_v46_1 (by decide)).trans <| (V18_of m (outs m hw) c main_v46_1 (by decide)).trans <| (V17_of m (outs m hw) c main_v46_1 (by decide)).trans <| (V16_of m (outs m hw) c main_v46_1 (by decide)).trans <| (V15_of m (outs m hw) c main_v46_1 (by decide)).trans <| (V14_of m (outs m hw) c main_v46_1 (by decide)).trans <| (V13_of m (outs m hw) c main_v46_1 (by decide)).trans <| ((V12_of m (outs m hw) c main_v46_1 (by decide)).trans (congrFun (V11_eq m hw c) _)).trans <| W11_of m hw c main_v46_1 (by decide)
theorem kept_v47_17 (c : Dev nD) : K17 m hw c main_v47 = K11 m hw c main_v47 :=
  (V17_of m (outs m hw) c main_v47 (by decide)).trans <| (V16_of m (outs m hw) c main_v47 (by decide)).trans <| (V15_of m (outs m hw) c main_v47 (by decide)).trans <| (V14_of m (outs m hw) c main_v47 (by decide)).trans <| (V13_of m (outs m hw) c main_v47 (by decide)).trans <| (V12_of m (outs m hw) c main_v47 (by decide)).trans (congrFun (V11_eq m hw c) _)
theorem kept_v49_15 (c : Dev nD) : K15 m hw c main_v49 = K12 m hw c main_v49 :=
  (V15_of m (outs m hw) c main_v49 (by decide)).trans <| (V14_of m (outs m hw) c main_v49 (by decide)).trans <| V13_of m (outs m hw) c main_v49 (by decide)
theorem kept_v49_17 (c : Dev nD) : K17 m hw c main_v49 = K12 m hw c main_v49 :=
  (V17_of m (outs m hw) c main_v49 (by decide)).trans <| (V16_of m (outs m hw) c main_v49 (by decide)).trans <| (V15_of m (outs m hw) c main_v49 (by decide)).trans <| (V14_of m (outs m hw) c main_v49 (by decide)).trans <| V13_of m (outs m hw) c main_v49 (by decide)
theorem kept_v52_31 (c : Dev nD) : K31 m hw c main_v52 = K13 m hw c main_v52 :=
  (V31_of m (outs m hw) c main_v52 (by decide)).trans <| (V30_of m (outs m hw) c main_v52 (by decide)).trans <| (V29_of m (outs m hw) c main_v52 (by decide)).trans <| (V28_of m (outs m hw) c main_v52 (by decide)).trans <| (V27_of m (outs m hw) c main_v52 (by decide)).trans <| (V26_of m (outs m hw) c main_v52 (by decide)).trans <| (V25_of m (outs m hw) c main_v52 (by decide)).trans <| (V24_of m (outs m hw) c main_v52 (by decide)).trans <| (V23_of m (outs m hw) c main_v52 (by decide)).trans <| (V22_of m (outs m hw) c main_v52 (by decide)).trans <| (V21_of m (outs m hw) c main_v52 (by decide)).trans <| (V20_of m (outs m hw) c main_v52 (by decide)).trans <| (V19_of m (outs m hw) c main_v52 (by decide)).trans <| (V18_of m (outs m hw) c main_v52 (by decide)).trans <| (V17_of m (outs m hw) c main_v52 (by decide)).trans <| (V16_of m (outs m hw) c main_v52 (by decide)).trans <| (V15_of m (outs m hw) c main_v52 (by decide)).trans <| V14_of m (outs m hw) c main_v52 (by decide)
theorem kept_v59_25 (c : Dev nD) : K25 m hw c main_v59 = K15 m hw c main_v59 :=
  (V25_of m (outs m hw) c main_v59 (by decide)).trans <| (V24_of m (outs m hw) c main_v59 (by decide)).trans <| (V23_of m (outs m hw) c main_v59 (by decide)).trans <| (V22_of m (outs m hw) c main_v59 (by decide)).trans <| (V21_of m (outs m hw) c main_v59 (by decide)).trans <| (V20_of m (outs m hw) c main_v59 (by decide)).trans <| (V19_of m (outs m hw) c main_v59 (by decide)).trans <| (V18_of m (outs m hw) c main_v59 (by decide)).trans <| (V17_of m (outs m hw) c main_v59 (by decide)).trans <| V16_of m (outs m hw) c main_v59 (by decide)
theorem kept_v59_27 (c : Dev nD) : K27 m hw c main_v59 = K15 m hw c main_v59 :=
  (V27_of m (outs m hw) c main_v59 (by decide)).trans <| (V26_of m (outs m hw) c main_v59 (by decide)).trans <| (V25_of m (outs m hw) c main_v59 (by decide)).trans <| (V24_of m (outs m hw) c main_v59 (by decide)).trans <| (V23_of m (outs m hw) c main_v59 (by decide)).trans <| (V22_of m (outs m hw) c main_v59 (by decide)).trans <| (V21_of m (outs m hw) c main_v59 (by decide)).trans <| (V20_of m (outs m hw) c main_v59 (by decide)).trans <| (V19_of m (outs m hw) c main_v59 (by decide)).trans <| (V18_of m (outs m hw) c main_v59 (by decide)).trans <| (V17_of m (outs m hw) c main_v59 (by decide)).trans <| V16_of m (outs m hw) c main_v59 (by decide)
theorem kept_v62_25 (c : Dev nD) : K25 m hw c main_v62 = K17 m hw c main_v62 :=
  (V25_of m (outs m hw) c main_v62 (by decide)).trans <| (V24_of m (outs m hw) c main_v62 (by decide)).trans <| (V23_of m (outs m hw) c main_v62 (by decide)).trans <| (V22_of m (outs m hw) c main_v62 (by decide)).trans <| (V21_of m (outs m hw) c main_v62 (by decide)).trans <| (V20_of m (outs m hw) c main_v62 (by decide)).trans <| (V19_of m (outs m hw) c main_v62 (by decide)).trans <| V18_of m (outs m hw) c main_v62 (by decide)
theorem kept_v69_21 (c : Dev nD) : K21 m hw c main_v69 = K20 m hw c main_v69 :=
  V21_of m (outs m hw) c main_v69 (by decide)
theorem kept_v69_22 (c : Dev nD) : K22 m hw c main_v69 = K20 m hw c main_v69 :=
  (V22_of m (outs m hw) c main_v69 (by decide)).trans <| V21_of m (outs m hw) c main_v69 (by decide)
theorem kept_v70_23 (c : Dev nD) : K23 m hw c main_v70 = K21 m hw c main_v70 :=
  (V23_of m (outs m hw) c main_v70 (by decide)).trans <| V22_of m (outs m hw) c main_v70 (by decide)
theorem kept_v71_23 (c : Dev nD) : K23 m hw c main_v71 = K22 m hw c main_v71 :=
  V23_of m (outs m hw) c main_v71 (by decide)
theorem kept_v85_27 (c : Dev nD) : K27 m hw c main_v85 = K25 m hw c main_v85 :=
  (V27_of m (outs m hw) c main_v85 (by decide)).trans <| V26_of m (outs m hw) c main_v85 (by decide)

end Contents

/-- The bit of an equality of words, as a float. -/
theorem hot (x y : BitVec 32) : (FloatOps.uitofp (F := Ideal) .f32 (IntOp.cmpi .eq x y) : EReal) = if x = y then 1 else 0 := by
  show (((IntOp.cmpi .eq x y).toNat : ℝ) : EReal) = _
  by_cases h : x = y
  · subst h
    rw [if_pos rfl]
    simp [IntOp.cmpi]
  · rw [if_neg h]
    simp only [IntOp.cmpi]
    rw [beq_eq_false_iff_ne.mpr h]
    simp

variable (c : Dev nD)
variable (s : Fin 16384 → Fin 4096) (d : Fin 16384 → Fin 16384) (l : Fin 16384 → Fin 32)

/-- The kernel's arguments. -/
abbrev args : Inputs :=
  inputs (K0 m c main_arg0) (K0 m c main_arg1) (K0 m c main_arg4) (K0 m c main_arg5) (K0 m c main_arg6) (K0 m c main_arg7)
    (K0 m c main_arg8) (K0 m c main_arg9) (K0 m c main_arg10) (K0 m c main_arg11) (K0 m c main_arg12) s d l

/-- The place of a movie in the sorted order. -/
def rank (p : Fin 16384) : Fin 16384 := ((order_bijective (n := 16384) (lab m c)).2 p).choose

theorem place_rank (p : Fin 16384) : place m c (rank m c p) = p := ((order_bijective (n := 16384) (lab m c)).2 p).choose_spec

variable (hs : ∀ p, (K0 m c main_arg2 : IVec S16384x2 32) (ix2 p 0) = BitVec.ofNat 32 (s p).val)
variable (hd : ∀ p, (K0 m c main_arg2 : IVec S16384x2 32) (ix2 p 1) = BitVec.ofNat 32 (d p).val)
variable (hl : ∀ p, lab m c (ix1 p) = BitVec.ofNat 32 (l p).val)
variable (hF : Prefix.Returns Ideal) (hfin : (args m c s d l).Real)

/-! ## Before the regions -/

section Before

include hs in
theorem source (p : Fin 16384) : (K1 m c main_v1 : IVec S16384 32) (ix1 p) = BitVec.ofNat 32 (s p).val :=
  (Suffix.sources (K0 m c) p).trans (hs p)

include hd in
theorem target (p : Fin 16384) : (K1 m c main_v3 : IVec S16384 32) (ix1 p) = BitVec.ofNat 32 (d p).val :=
  (Suffix.targets (K0 m c) p).trans (hd p)

include hd in
theorem neighbour (p : Fin 16384) (y : Fin 32) :
    mat (K2 m c main_v4 : Vec Ideal S16384x32 .f32) p y = mat (K0 m c main_arg1 : Vec Ideal S16384x32 .f32) (d p) y :=
  (Suffix.rows_of_targets (K1 m c) d (target m c d hd) p y).trans (congrFun (kept_arg1_1 m c) _)

include hs hd in
/-- The neighbours' rows, averaged. -/
theorem average (u : Fin 4096) (e : Fin 32) : mat (K3 m c main_v15 : Vec Ideal S4096x32 .f32) u e
    = mean (fun p => ((s p).val : ℤ)) (fun p => mat (K0 m c main_arg1 : Vec Ideal S16384x32 .f32) (d p)) u.val e := by
  have e15 : mat (K3 m c main_v15 : Vec Ideal S4096x32 .f32) u e
      = mean (fun p : Fin 16384 => ((K2 m c main_v1 : IVec S16384 32) (ix1 p)).toInt) (mat (K2 m c main_v4 : Vec Ideal S16384x32 .f32)) u.val e :=
    Suffix.averaged (K2 m c) u e
  have w1 : (fun p : Fin 16384 => ((K2 m c main_v1 : IVec S16384 32) (ix1 p)).toInt) = fun p => ((s p).val : ℤ) := funext fun p => by
    rw [(kept_v1_2 m c), source m c s hs p, toInt_word (by omega)]
  have w4 : mat (K2 m c main_v4 : Vec Ideal S16384x32 .f32) = fun p => mat (K0 m c main_arg1 : Vec Ideal S16384x32 .f32) (d p) :=
    funext fun p => funext fun y => neighbour m c d hd p y
  rw [e15, w1, w4]

theorem sorted_row (k : Fin 16384) (y : Fin 32) :
    mat (K7 m c main_v30 : Vec Ideal S16384x32 .f32) k y = mat (K0 m c main_arg1 : Vec Ideal S16384x32 .f32) (place m c k) y :=
  (Prefix.sorted_rows (K6 m c) k y).trans (Prefix.taken_row m c k y)

include hF hl in
theorem hot_row (k : Fin 16384) (g : Fin 32) :
    mat (K7 m c main_v40 : Vec Ideal S16384x32 .f32) k g = if l (place m c k) = g then 1 else 0 := by
  refine (Prefix.onehot_rows (V6 m c) k g).trans ?_
  rw [Words.label_word m c hF l hl k, hot]
  simp only [genre_word]

include hF hl in
theorem hot_col (k : Fin 16384) (g : Fin 32) :
    mat (K7 m c main_v41 : Vec Ideal S32x16384 .f32) g k = if l (place m c k) = g then 1 else 0 := by
  refine (Prefix.onehot_cols (V6 m c) k g).trans ?_
  rw [Words.label_word m c hF l hl k, hot]
  simp only [genre_word]

theorem last_weights (q : Fin 16) : mat (K8 m c main_v44 : Vec Ideal S16x8 .f32) q 0 = mat (K0 m c main_arg11 : Vec Ideal S16x1 .f32) q 0 :=
  (Prefix.padded (K7 m c) q).trans (congrFun (kept_arg11_7 m c) _)

theorem rank_word (p : Fin 16384) : (K5 m c main_v26 : IVec S16384 32) (ix1 p) = BitVec.ofNat 32 (rank m c p).val := by
  have key : (K5 m c main_v26 : IVec S16384 32) (ix1 (place m c (rank m c p))) = BitVec.ofNat 32 (rank m c p).val :=
    Prefix.inverse (K4 m c) (place m c) (order_bijective _) (fun k => Prefix.place_words m c k) (rank m c p)
  rwa [place_rank] at key

theorem label (p : Fin 16384) (hl : ∀ p, lab m c (ix1 p) = BitVec.ofNat 32 (l p).val) :
    vec (K3 m c main_v16 : Vec Ideal S16384 .f32) p = FloatOps.sitofp (F := Ideal) .f32 (BitVec.ofNat 32 (l p).val) := by
  have e : vec (K3 m c main_v16 : Vec Ideal S16384 .f32) p = FloatOps.sitofp (F := Ideal) .f32 ((K2 m c main_arg3 : IVec S16384 32) (ix1 p)) :=
    Prefix.label_float (K2 m c) p
  rw [e, (kept_arg3_2 m c)]
  exact congrArg _ (hl p)

end Before

/-! ## The regions -/

section Regions

include hF hl in
/-- The movie region computes the rows of the movies in the sorted order. -/
theorem movie_row (k : Fin 16384) : Hidden.movieRow (conts (K8 m)) c k = (args m c s d l).movie (place m c k) := by
  have e30 : mat (K8 m c main_v30 : Vec Ideal S16384x32 .f32) k = mat (K0 m c main_arg1 : Vec Ideal S16384x32 .f32) (place m c k) := funext fun y => by
    rw [(kept_v30_8 m c)]; exact sorted_row m c k y
  have e40 : (fun e => ∑ g, mat (K8 m c main_v40 : Vec Ideal S16384x32 .f32) k g * mat (K8 m c main_arg4 : Vec Ideal S32x32 .f32) g e)
      = mat (K0 m c main_arg4 : Vec Ideal S32x32 .f32) (l (place m c k)) := funext fun e => by
    have h : ∀ g, mat (K8 m c main_v40 : Vec Ideal S16384x32 .f32) k g = if l (place m c k) = g then 1 else 0 := fun g => by
      rw [(kept_v40_8 m c)]; exact hot_row m c l hl hF k g
    simp only [h]
    rw [(kept_arg4_8 m c)]
    exact one_hot _ fun g => mat (K0 m c main_arg4 : Vec Ideal S32x32 .f32) g e
  show layers (mat (K8 m c main_v30 : Vec Ideal S16384x32 .f32) k)
    (fun e => ∑ g, mat (K8 m c main_v40 : Vec Ideal S16384x32 .f32) k g * mat (K8 m c main_arg4 : Vec Ideal S32x32 .f32) g e)
    (mat (K8 m c main_arg7 : Vec Ideal S32x16 .f32)) (mat (K8 m c main_arg8 : Vec Ideal S32x16 .f32)) (mat (K8 m c main_arg10 : Vec Ideal S16x16 .f32)) = _
  rw [e30, e40, (kept_arg7_8 m c), (kept_arg8_8 m c), (kept_arg10_8 m c)]
  rfl

include hF hl in
theorem movie_array (k : Fin 16384) (j : Fin 16) :
    mat (K9 m c main_v45_0 : Vec Ideal S16384x16 .f32) k j = (args m c s d l).movie (place m c k) j := by
  have e : (K9 m c main_v45_0 : Vec Ideal S16384x16 .f32) = _ := W9_movie0 m c
  rw [e]
  exact (Hidden.movie_hidden (conts (K8 m)) c k j).trans (congrFun (movie_row m c s d l hl hF k) j)

include hF hl in
theorem movie_score_array (k : Fin 16384) : mat (K9 m c main_v45_1 : Vec Ideal S16384x8 .f32) k 0
    = ∑ q, (args m c s d l).movie (place m c k) q * (args m c s d l).fc q := by
  have e : (K9 m c main_v45_1 : Vec Ideal S16384x8 .f32) = _ := W9_movie1 m c
  rw [e]
  refine (Hidden.movie_scores (conts (K8 m)) c k 0).trans ?_
  rw [movie_row m c s d l hl hF k]
  exact Finset.sum_congr rfl fun q _ => congrArg _ (last_weights m c q)

include hs hd in
/-- The user region computes the rows of the users. -/
theorem user_row (u : Fin 4096) : Hidden.userRow (conts (K9 m)) c u = (args m c s d l).user u := by
  have e15 : mat (K9 m c main_v15 : Vec Ideal S4096x32 .f32) u
      = mean (fun p => ((s p).val : ℤ)) (fun p => mat (K0 m c main_arg1 : Vec Ideal S16384x32 .f32) (d p)) u.val := funext fun e => by
    rw [(kept_v15_9 m c)]; exact average m c s d hs hd u e
  show layers (mat (K9 m c main_arg0 : Vec Ideal S4096x32 .f32) u) (mat (K9 m c main_v15 : Vec Ideal S4096x32 .f32) u)
    (mat (K9 m c main_arg5 : Vec Ideal S32x16 .f32)) (mat (K9 m c main_arg6 : Vec Ideal S32x16 .f32)) (mat (K9 m c main_arg9 : Vec Ideal S16x16 .f32)) = _
  rw [e15, (kept_arg0_9 m c), (kept_arg5_9 m c), (kept_arg6_9 m c), (kept_arg9_9 m c)]
  rfl

include hs hd in
theorem user_array (u : Fin 4096) (j : Fin 16) : mat (K10 m c main_v46_0 : Vec Ideal S4096x16 .f32) u j = (args m c s d l).user u j := by
  have e : (K10 m c main_v46_0 : Vec Ideal S4096x16 .f32) = _ := W10_user0 m c
  rw [e]
  exact (Hidden.user_hidden (conts (K9 m)) c u j).trans (congrFun (user_row m c s d l hs hd u) j)

include hs hd in
theorem user_score_array (u : Fin 4096) : mat (K10 m c main_v46_1 : Vec Ideal S4096x8 .f32) u 0
    = ∑ q, (args m c s d l).user u q * (args m c s d l).fc q := by
  have e : (K10 m c main_v46_1 : Vec Ideal S4096x8 .f32) = _ := W10_user1 m c
  rw [e]
  refine (Hidden.user_scores (conts (K9 m)) c u 0).trans ?_
  rw [user_row m c s d l hs hd u]
  refine Finset.sum_congr rfl fun q _ => congrArg _ ?_
  show mat (K9 m c main_v44 : Vec Ideal S16x8 .f32) q 0 = _
  rw [(kept_v44_9 m c)]
  exact last_weights m c q

include hs hd hl hF in
theorem at_place (u : Fin 4096) (k : Fin 16384) : Mining.at_place (conts (K10 m)) c u k
    = Mining.score ((args m c s d l).user u) ((args m c s d l).movie (place m c k)) := by
  refine congrArg₂ Mining.score (funext fun j => user_array m c s d l hs hd u j) (funext fun j => ?_)
  show mat (K10 m c main_v45_0 : Vec Ideal S16384x16 .f32) k j = _
  rw [(kept_v45_0_10 m c)]
  exact movie_array m c s d l hl hF k j

include hl in
/-- Along the sorted order the labels do not descend. -/
theorem labels_mono (i j : Fin 16384) (h : i ≤ j) : (l (place m c i)).val ≤ (l (place m c j)).val := by
  rcases h.eq_or_lt with rfl | h
  · exact le_rfl
  · have key := order_sorted (n := 16384) (lab m c) i j h
    rw [hl, hl, toInt_word (by omega), toInt_word (by omega)] at key
    exact_mod_cast key

variable (hw : Mine.WordsOk (conts (W10 m)))

include hs hd hl hF hfin in
/-- The mining region finds the least score of each user and genre. -/
theorem mined (u : Fin 4096) (g : Fin 32) : mat (K11 m hw c main_v47 : Vec Ideal S4096x32 .f32) u g
    = Finset.univ.inf fun k => if l (place m c k) = g then
        Mining.score ((args m c s d l).user u) ((args m c s d l).movie (place m c k)) else ⊤ := by
  have e : (K11 m hw c main_v47 : Vec Ideal S4096x32 .f32) = _ := W11_mine m hw c
  rw [e]
  refine (Mining.mined_array (conts (K10 m)) c hw (fun k => l (place m c k)) (labels_mono m c l hl) (fun g k => ?_)
    (fun t => Words.lo_word m c hF l hl t) (fun t => Words.hi_word m c hF l hl t) (fun u k => ?_) u g).trans ?_
  · show mat (K10 m c main_v41 : Vec Ideal S32x16384 .f32) g k = _
    rw [(kept_v41_10 m c)]
    exact hot_col m c l hl hF k g
  · rw [at_place m c s d l hs hd hl hF]
    exact ((finite_squares (hfin.movie _)).sub (finite_two.mul (finite_product (hfin.user u) (hfin.movie _)))).ne_bot
  · simp only [at_place m c s d l hs hd hl hF]

end Regions

/-! ## After the regions -/

section After

variable (hw : Mine.WordsOk (conts (W10 m)))

theorem K12_eq : K12 m hw c = StableHlo.after hostOps3 (K11 m hw c) := by
  show StableHlo.after hostOps3 (V11 m (outs m hw) c) = _
  rw [V11_eq]
  rfl

include hs hd in
theorem user_squares (u : Fin 4096) : vec (K12 m hw c main_v49 : Vec Ideal S4096 .f32) u = squares ((args m c s d l).user u) := by
  rw [K12_eq]
  refine (Suffix.user_squares (K11 m hw c) u).trans (congrArg squares (funext fun j => ?_))
  rw [(kept_v46_0_11 m hw c)]
  exact user_array m c s d l hs hd u j

include hl hF in
theorem movie_column (k : Fin 16384) (y : Fin 17) : mat (K12 m hw c main_v51 : Vec Ideal S16384x17 .f32) k y
    = if h : y.val < 16 then (args m c s d l).movie (place m c k) ⟨y.val, h⟩
      else ∑ q, (args m c s d l).movie (place m c k) q * (args m c s d l).fc q := by
  rw [K12_eq]
  refine (Suffix.movie_columns (K11 m hw c) k y).trans ?_
  rw [(kept_v45_0_11 m hw c), (kept_v45_1_11 m hw c)]
  split
  · exact movie_array m c s d l hl hF k _
  · exact movie_score_array m c s d l hl hF k

include hl hF in
/-- The movies back in their own order. -/
theorem movie_back (p : Fin 16384) (y : Fin 17) : mat (K13 m hw c main_v52 : Vec Ideal S16384x17 .f32) p y
    = if h : y.val < 16 then (args m c s d l).movie p ⟨y.val, h⟩
      else ∑ q, (args m c s d l).movie p q * (args m c s d l).fc q := by
  have e : mat (K13 m hw c main_v52 : Vec Ideal S16384x17 .f32) p y = mat (K12 m hw c main_v51 : Vec Ideal S16384x17 .f32) (rank m c p) y :=
    Suffix.back_in_place (K12 m hw c) (rank m c) (fun q => by rw [(kept_v26_12 m hw c)]; exact rank_word m c q) p y
  rw [e, movie_column m c s d l hl hF, place_rank]

include hl hF in
theorem packed_row (p : Fin 16384) (y : Fin 16) :
    mat (K14 m hw c main_v58 : Vec Ideal S16384x18 .f32) p ⟨y.val, by omega⟩ = (args m c s d l).movie p y := by
  refine (Suffix.movie_packed (K13 m hw c) p y).trans ((movie_back m c s d l hl hF hw p _).trans ?_)
  exact dif_pos y.isLt

include hl hF in
theorem packed_squares (p : Fin 16384) :
    mat (K14 m hw c main_v58 : Vec Ideal S16384x18 .f32) p 16 = squares ((args m c s d l).movie p) := by
  refine (Suffix.movie_packed_squares (K13 m hw c) p).trans (congrArg squares (funext fun y => ?_))
  exact (movie_back m c s d l hl hF hw p _).trans (dif_pos y.isLt)

include hl in
theorem packed_label (p : Fin 16384) :
    mat (K14 m hw c main_v58 : Vec Ideal S16384x18 .f32) p 17 = FloatOps.sitofp (F := Ideal) .f32 (BitVec.ofNat 32 (l p).val) := by
  refine (Suffix.movie_packed_label (K13 m hw c) p).trans ?_
  rw [(kept_v16_13 m hw c)]
  exact label m c l p hl

include hd in
theorem movie_of_edge (p : Fin 16384) (y : Fin 18) :
    mat (K15 m hw c main_v59 : Vec Ideal S16384x18 .f32) p y = mat (K14 m hw c main_v58 : Vec Ideal S16384x18 .f32) (d p) y :=
  Suffix.movie_of_target (K14 m hw c) d (fun q => by rw [(kept_v3_14 m hw c)]; exact target m c d hd q) p y

include hs hd in
theorem user_packed (u : Fin 4096) (y : Fin 17) : mat (K16 m hw c main_v61 : Vec Ideal S4096x17 .f32) u y
    = if h : y.val < 16 then (args m c s d l).user u ⟨y.val, h⟩ else squares ((args m c s d l).user u) := by
  refine (Suffix.user_packed (K15 m hw c) u y).trans ?_
  rw [(kept_v46_0_15 m hw c), (kept_v49_15 m hw c)]
  split
  · exact user_array m c s d l hs hd u _
  · exact user_squares m c s d l hs hd hw u

include hs hd in
theorem user_of_edge (p : Fin 16384) (y : Fin 17) : mat (K17 m hw c main_v62 : Vec Ideal S16384x17 .f32) p y
    = if h : y.val < 16 then (args m c s d l).user (s p) ⟨y.val, h⟩ else squares ((args m c s d l).user (s p)) :=
  (Suffix.user_of_source (K16 m hw c) s (fun q => by rw [(kept_v1_16 m hw c)]; exact source m c s hs q) p y).trans
    (user_packed m c s d l hs hd hw (s p) y)

include hs hd hl hF hfin in
/-- The least distances by genre. -/
theorem genres : (K20 m hw c main_v69 : Vec Ideal S4096x32 .f32) = (args m c s d l).genres := by
  have key : ∀ (u : Fin 4096) (g : Fin 32), mat (K20 m hw c main_v69 : Vec Ideal S4096x32 .f32) u g = (args m c s d l).genre u g := fun u g => by
    have e69 : mat (K20 m hw c main_v69 : Vec Ideal S4096x32 .f32) u g
        = Ideal.sqrt (mat (K19 m hw c main_v66 : Vec Ideal S4096x32 .f32) u g + Ideal.ofBits .f32 0x2B8CBCCC#32) := Suffix.distances (K19 m hw c) u g
    have e66 : mat (K19 m hw c main_v66 : Vec Ideal S4096x32 .f32) u g
        = max (sca (K18 m hw c main_cst_7 : Vec Ideal S_ .f32)) (mat (K18 m hw c main_v65 : Vec Ideal S4096x32 .f32) u g) := Suffix.clipped (K18 m hw c) u g
    have e7 : sca (K18 m hw c main_cst_7 : Vec Ideal S_ .f32) = 0 := Suffix.zero_bound (K17 m hw c)
    have e65 : mat (K18 m hw c main_v65 : Vec Ideal S4096x32 .f32) u g
        = vec (K17 m hw c main_v49 : Vec Ideal S4096 .f32) u + mat (K17 m hw c main_v47 : Vec Ideal S4096x32 .f32) u g := Suffix.gaps (K17 m hw c) u g
    rw [e69, e66, e7, e65, (kept_v49_17 m hw c), user_squares m c s d l hs hd hw u, (kept_v47_17 m hw c), mined m c s d l hs hd hl hF hfin hw u g]
    exact hfin.genre_eq (place m c) (order_bijective _) u g
  funext i
  have hi : i = ix2 (i 0) (i 1) := (ix2_eta i).symm
  rw [hi]
  exact key (i 0) (i 1)

variable (a : Fin 4096 → Fin 32) (ha : Nearest (args m c s d l).genres a)

include hs hd hl hF hfin ha in
theorem nearest_word (u : Fin 4096) : (K21 m hw c main_v70 : IVec S4096 32) (ix1 u) = BitVec.ofNat 32 (a u).val := by
  refine (congrFun (Suffix.nearest (K20 m hw c)) _).trans ?_
  rw [genres m c s d l hs hd hl hF hfin hw]
  exact (ha u).1

include hs hd hl hF hfin in
theorem least (u : Fin 4096) : vec (K22 m hw c main_v71 : Vec Ideal S4096 .f32) u = Finset.univ.inf ((args m c s d l).genre u) := by
  refine (Suffix.least (K21 m hw c) u).trans ?_
  rw [(kept_v69_21 m hw c), genres m c s d l hs hd hl hF hfin hw]
  rfl

include hs hd hl hF hfin ha in
theorem next_least (u : Fin 4096) : mat (K24 m hw c main_v84 : Vec Ideal S4096x3 .f32) u 2
    = Finset.univ.inf fun g => if g = a u then ⊤ else (args m c s d l).genre u g := by
  refine (Suffix.packed_next (K23 m hw c) u).trans (Finset.inf_congr rfl fun g _ => ?_)
  refine (Suffix.without_nearest (K22 m hw c) u g).trans ?_
  have e77 : (K22 m hw c main_v77 : IVec S4096x32 1) (ix2 u g) = IntOp.cmpi .eq (BitVec.ofNat 32 g.val) ((K21 m hw c main_v70 : IVec S4096 32) (ix1 u)) :=
    Suffix.at_nearest (K21 m hw c) u g
  have e10 : sca (K22 m hw c main_cst_10 : Vec Ideal S_ .f32) = ⊤ := Suffix.top_bound (K21 m hw c)
  rw [e77, e10, nearest_word m c s d l hs hd hl hF hfin hw a ha u, (kept_v69_22 m hw c), genres m c s d l hs hd hl hF hfin hw, select_word]
  simp only [genre_word]
  rfl

theorem mined_of_edge (hs : ∀ p, (K0 m c main_arg2 : IVec S16384x2 32) (ix2 p 0) = BitVec.ofNat 32 (s p).val) (p : Fin 16384) (y : Fin 3) :
    mat (K25 m hw c main_v85 : Vec Ideal S16384x3 .f32) p y = mat (K24 m hw c main_v84 : Vec Ideal S4096x3 .f32) (s p) y :=
  Suffix.mined_of_source (K24 m hw c) s (fun q => by rw [(kept_v1_24 m hw c)]; exact source m c s hs q) p y

include hs hd hl hF in
/-- The distance of an edge's two ends. -/
theorem edge_distance (p : Fin 16384) : vec (K28 m hw c main_v101 : Vec Ideal S16384 .f32) p = (args m c s d l).dist (s p) (d p) := by
  have e101 : vec (K28 m hw c main_v101 : Vec Ideal S16384 .f32) p
      = Ideal.sqrt (vec (K27 m hw c main_v98 : Vec Ideal S16384 .f32) p + Ideal.ofBits .f32 0x2B8CBCCC#32) := Suffix.pair_distance (K27 m hw c) p
  have e98 : vec (K27 m hw c main_v98 : Vec Ideal S16384 .f32) p
      = max (sca (K26 m hw c main_cst_14 : Vec Ideal S_ .f32)) (vec (K26 m hw c main_v97 : Vec Ideal S16384 .f32) p) := Suffix.pair_clipped (K26 m hw c) p
  have e14 : sca (K26 m hw c main_cst_14 : Vec Ideal S_ .f32) = 0 := Suffix.zero_bound' (K25 m hw c)
  have e97 : vec (K26 m hw c main_v97 : Vec Ideal S16384 .f32) p
      = (mat (K25 m hw c main_v62 : Vec Ideal S16384x17 .f32) p 16 + mat (K25 m hw c main_v59 : Vec Ideal S16384x18 .f32) p 16)
        - Ideal.ofBits .f32 0x40000000#32
          * ∑ y : Fin 16, mat (K25 m hw c main_v62 : Vec Ideal S16384x17 .f32) p ⟨y.val, by omega⟩ * mat (K25 m hw c main_v59 : Vec Ideal S16384x18 .f32) p ⟨y.val, by omega⟩ :=
    Suffix.pair_gap (K25 m hw c) p
  have u16 : mat (K17 m hw c main_v62 : Vec Ideal S16384x17 .f32) p 16 = squares ((args m c s d l).user (s p)) :=
    (user_of_edge m c s d l hs hd hw p 16).trans (dif_neg (by decide))
  have m16 : mat (K15 m hw c main_v59 : Vec Ideal S16384x18 .f32) p 16 = squares ((args m c s d l).movie (d p)) :=
    (movie_of_edge m c d hd hw p 16).trans (packed_squares m c s d l hl hF hw (d p))
  have uy : ∀ y : Fin 16, mat (K17 m hw c main_v62 : Vec Ideal S16384x17 .f32) p ⟨y.val, by omega⟩ = (args m c s d l).user (s p) y := fun y =>
    (user_of_edge m c s d l hs hd hw p _).trans (dif_pos y.isLt)
  have my : ∀ y : Fin 16, mat (K15 m hw c main_v59 : Vec Ideal S16384x18 .f32) p ⟨y.val, by omega⟩ = (args m c s d l).movie (d p) y := fun y =>
    (movie_of_edge m c d hd hw p _).trans (packed_row m c s d l hl hF hw (d p) y)
  rw [e101, e98, e14, e97, (kept_v62_25 m hw c), (kept_v59_25 m hw c), u16, m16]
  simp only [uy, my]
  rfl

include hs hd hl hF hfin ha in
/-- The hardest negative of an edge. -/
theorem negative (p : Fin 16384) : vec (K29 m hw c main_v111 : Vec Ideal S16384 .f32) p = (args m c s d l).negative a p := by
  have e111 : vec (K29 m hw c main_v111 : Vec Ideal S16384 .f32) p = Scalar.select ((K28 m hw c main_v106 : IVec S16384 1) (ix1 p))
      (vec (K28 m hw c main_v108 : Vec Ideal S16384 .f32) p) (vec (K28 m hw c main_v110 : Vec Ideal S16384 .f32) p) := Suffix.hardest (K28 m hw c) p
  have e106 : (K28 m hw c main_v106 : IVec S16384 1) (ix1 p) = FloatOps.cmpf (F := Ideal) (φ := .f32) .oeq
      (mat (K27 m hw c main_v85 : Vec Ideal S16384x3 .f32) p 0) (mat (K27 m hw c main_v59 : Vec Ideal S16384x18 .f32) p 17) := Suffix.same_genre (K27 m hw c) p
  have e108 : vec (K28 m hw c main_v108 : Vec Ideal S16384 .f32) p = mat (K27 m hw c main_v85 : Vec Ideal S16384x3 .f32) p 2 := Suffix.pair_next (K27 m hw c) p
  have e110 : vec (K28 m hw c main_v110 : Vec Ideal S16384 .f32) p = mat (K27 m hw c main_v85 : Vec Ideal S16384x3 .f32) p 1 := Suffix.pair_least (K27 m hw c) p
  have w0 : mat (K24 m hw c main_v84 : Vec Ideal S4096x3 .f32) (s p) 0 = FloatOps.sitofp (F := Ideal) .f32 (BitVec.ofNat 32 (a (s p)).val) := by
    have e : mat (K24 m hw c main_v84 : Vec Ideal S4096x3 .f32) (s p) 0 = FloatOps.sitofp (F := Ideal) .f32 ((K23 m hw c main_v70 : IVec S4096 32) (ix1 (s p))) :=
      Suffix.packed_word (K23 m hw c) (s p)
    rw [e, (kept_v70_23 m hw c), nearest_word m c s d l hs hd hl hF hfin hw a ha]
  have w1 : mat (K24 m hw c main_v84 : Vec Ideal S4096x3 .f32) (s p) 1 = Finset.univ.inf ((args m c s d l).genre (s p)) := by
    have e : mat (K24 m hw c main_v84 : Vec Ideal S4096x3 .f32) (s p) 1 = vec (K23 m hw c main_v71 : Vec Ideal S4096 .f32) (s p) :=
      Suffix.packed_least (K23 m hw c) (s p)
    rw [e, (kept_v71_23 m hw c), least m c s d l hs hd hl hF hfin hw]
  rw [e111, e106, e108, e110, (kept_v85_27 m hw c), mined_of_edge m c s hw hs, mined_of_edge m c s hw hs, mined_of_edge m c s hw hs, w0, w1,
    next_least m c s d l hs hd hl hF hfin hw a ha, (kept_v59_27 m hw c), movie_of_edge m c d hd hw, packed_label m c l hl hw, select_float]
  simp only [genre_word]
  rfl

include hs hd hl hF hfin ha in
/-- The loss. -/
theorem loss : sca (K32 m hw c main_v117 : Vec Ideal S_ .f32) = (args m c s d l).loss a := by
  refine (Suffix.loss (K31 m hw c)).trans ?_
  have e : ∀ p, vec (K31 m hw c main_v115 : Vec Ideal S16384 .f32) p
      = max ((args m c s d l).dist (s p) (d p) - (args m c s d l).negative a p + 1) 0 := fun p => by
    have e115 : vec (K31 m hw c main_v115 : Vec Ideal S16384 .f32) p = max (vec (K30 m hw c main_v114 : Vec Ideal S16384 .f32) p) 0 :=
      Suffix.relu_margin (K30 m hw c) p
    have e114 : vec (K30 m hw c main_v114 : Vec Ideal S16384 .f32) p
        = vec (K29 m hw c main_v101 : Vec Ideal S16384 .f32) p - vec (K29 m hw c main_v111 : Vec Ideal S16384 .f32) p + 1 := Suffix.margin (K29 m hw c) p
    rw [e115, e114, (kept_v101_29 m hw c), edge_distance m c s d l hs hd hl hF hw p, negative m c s d l hs hd hl hF hfin hw a ha p]
  simp only [e]
  rfl

include hs hd in
/-- The users' scores. -/
theorem user_scores (u : Fin 4096) : mat (K32 m hw c main_v121 : Vec Ideal S4096x1 .f32) u 0 = (args m c s d l).userScore u := by
  refine (Suffix.user_scores (K31 m hw c) u).trans ?_
  rw [(kept_v46_1_31 m hw c), user_score_array m c s d l hs hd u, (kept_arg12_31 m hw c)]
  rfl

include hl hF in
/-- The movies' scores. -/
theorem movie_scores (p : Fin 16384) : mat (K32 m hw c main_v125 : Vec Ideal S16384x1 .f32) p 0 = (args m c s d l).movieScore p := by
  refine (Suffix.movie_scores (K31 m hw c) p).trans ?_
  rw [(kept_v52_31 m hw c), movie_back m c s d l hl hF hw p 16, (kept_arg12_31 m hw c)]
  rfl

end After

end Cert.KernelIdeal.Results

end
-- ==== Proof.ReferenceIdeal.Ops.lean ====
/-
  The reference's operations in order, a list per stretch (its own lines up to a call, then the lines of the call), and its
  run: what every buffer holds at the end is the contents after the last stretch.
-/
module

public import proofs.«01_k».proof.Defs
public import proofs.«01_k».proof.Proof.Gen.ReferenceIdeal
public import Idealize.ShloMosaic.Lib.StableHlo.RunHlo
public import Idealize.ShloMosaic.Lib.Pipeline.Regions
public import Idealize.ShloMosaic.Lib.Claim

@[expose] public section

set_option maxRecDepth 16384

noncomputable section

namespace Cert.ReferenceIdeal.Ops

open Cert.ReferenceIdeal Cert.ReferenceIdeal.Gen
open Idealize.ShloMosaic Idealize.ShloMosaic.TcCoe Idealize.SL.Sem

variable {F : FTy → Type} [FloatOps F] [Named F]

/-- Lines of the reference. -/
abbrev ops0 : List (HloOp τ sig (Elt F)) :=
  [ StableHlo.unary main_arg2 main_v0 ((extractStridedSlice S16384x1 ![0, 0] · slices_S16384x2_S16384x1_0_0) : (⟨S16384x2, .i32⟩ : BufTy).Contents (Elt F) → (⟨S16384x1, .i32⟩ : BufTy).Contents (Elt F)),
    StableHlo.reshape main_v0 main_v1 (rfl : (.i32 : EltTy) = .i32) shapeCasts_S16384x1_S16384,
    StableHlo.unary main_arg2 main_v2 ((extractStridedSlice S16384x1 ![0, 1] · slices_S16384x2_S16384x1_0_1) : (⟨S16384x2, .i32⟩ : BufTy).Contents (Elt F) → (⟨S16384x1, .i32⟩ : BufTy).Contents (Elt F)),
    StableHlo.reshape main_v2 main_v3 (rfl : (.i32 : EltTy) = .i32) shapeCasts_S16384x1_S16384 ]
abbrev written0 : List (Ref sig .tc) := [main_v0, main_v1, main_v2, main_v3]
theorem writes0 : (ops0 : List (HloOp τ sig (Elt F))).Forall fun op => op.writes ⊆ (written0.map (Proc.devRef (τ := τ) .tc)).toFinset :=
  StableHlo.forall_writes_sub_of_map rfl
/-- The lines of a call of take. -/
abbrev ops1 : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S16384, .i32⟩) (broadcastInDim S16384 ![] bcast_S_S16384),
    StableHlo.TRef.binary (.of main_v3 : StableHlo.TRef sig ⟨S16384, .i32⟩) (.of main_call0_v0 : StableHlo.TRef sig ⟨S16384, .i32⟩) (.of main_call0_v1 : StableHlo.TRef sig ⟨S16384, .i1⟩) (cmpi .slt),
    StableHlo.TRef.nullary (.of main_call0_c_0 : StableHlo.TRef sig ⟨S_, .i32⟩) (constantI S_ 32 16384#32),
    StableHlo.TRef.unary (.of main_call0_c_0 : StableHlo.TRef sig ⟨S_, .i32⟩) (.of main_call0_v2 : StableHlo.TRef sig ⟨S16384, .i32⟩) (broadcastInDim S16384 ![] bcast_S_S16384),
    StableHlo.TRef.binary (.of main_v3 : StableHlo.TRef sig ⟨S16384, .i32⟩) (.of main_call0_v2 : StableHlo.TRef sig ⟨S16384, .i32⟩) (.of main_call0_v3 : StableHlo.TRef sig ⟨S16384, .i32⟩) addi,
    StableHlo.TRef.ternary (.of main_call0_v1 : StableHlo.TRef sig ⟨S16384, .i1⟩) (.of main_call0_v3 : StableHlo.TRef sig ⟨S16384, .i32⟩) (.of main_v3 : StableHlo.TRef sig ⟨S16384, .i32⟩) (.of main_call0_v4 : StableHlo.TRef sig ⟨S16384, .i32⟩) select,
    StableHlo.TRef.unary (.of main_call0_v4 : StableHlo.TRef sig ⟨S16384, .i32⟩) (.of main_call0_v5 : StableHlo.TRef sig ⟨S16384x1, .i32⟩) (broadcastInDim S16384x1 ![0] bcast_S16384_S16384x1_0),
    StableHlo.TRef.nullary (.of main_call0_c_1 : StableHlo.TRef sig ⟨S1, .i32⟩) (constantI S1 32 16383#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S16384x1, .i32⟩) (broadcastInDim S16384x1 ![] bcast_S_S16384x1),
    StableHlo.TRef.binary (.of main_call0_v5 : StableHlo.TRef sig ⟨S16384x1, .i32⟩) (.of main_call0_v6 : StableHlo.TRef sig ⟨S16384x1, .i32⟩) (.of main_call0_v7 : StableHlo.TRef sig ⟨S16384x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S16384x1, .i32⟩) (broadcastInDim S16384x1 ![0, 1] bcast_S1x1_S16384x1_0_1),
    StableHlo.TRef.binary (.of main_call0_v5 : StableHlo.TRef sig ⟨S16384x1, .i32⟩) (.of main_call0_v9 : StableHlo.TRef sig ⟨S16384x1, .i32⟩) (.of main_call0_v10 : StableHlo.TRef sig ⟨S16384x1, .i1⟩) (cmpi .sle),
    StableHlo.TRef.binary (.of main_call0_v7 : StableHlo.TRef sig ⟨S16384x1, .i1⟩) (.of main_call0_v10 : StableHlo.TRef sig ⟨S16384x1, .i1⟩) (.of main_call0_v11 : StableHlo.TRef sig ⟨S16384x1, .i1⟩) andi,
    StableHlo.TRef.nullary (.of main_call0_c_3 : StableHlo.TRef sig ⟨S_, .i1⟩) (constantI S_ 1 1#1),
    StableHlo.TRef.binary (.of main_call0_v11 : StableHlo.TRef sig ⟨S16384x1, .i1⟩) (.of main_call0_c_3 : StableHlo.TRef sig ⟨S_, .i1⟩) (.of main_call0_v12 : StableHlo.TRef sig ⟨S16384, .i1⟩) (fun x v => Host.reduce IntOp.andi x v reducesTo_S16384x1_S16384_d1 h_S_),
    StableHlo.TRef.binary (.of main_arg1 : StableHlo.TRef sig ⟨S16384x32, .f32⟩) (.of main_call0_v5 : StableHlo.TRef sig ⟨S16384x1, .i32⟩) (.of main_call0_v13 : StableHlo.TRef sig ⟨S16384x32, .f32⟩) (fun x i => Host.gather gather_S16384x32_S16384x1_S16384x32_1_0_n_n_0_1_132 x i),
    StableHlo.TRef.unary (.of main_call0_v12 : StableHlo.TRef sig ⟨S16384, .i1⟩) (.of main_call0_v14 : StableHlo.TRef sig ⟨S16384x32, .i1⟩) (broadcastInDim S16384x32 ![0] bcast_S16384_S16384x32_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S16384x32, .f32⟩) (broadcastInDim S16384x32 ![] bcast_S_S16384x32),
    StableHlo.TRef.ternary (.of main_call0_v14 : StableHlo.TRef sig ⟨S16384x32, .i1⟩) (.of main_call0_v13 : StableHlo.TRef sig ⟨S16384x32, .f32⟩) (.of main_call0_v15 : StableHlo.TRef sig ⟨S16384x32, .f32⟩) (.of main_v4 : StableHlo.TRef sig ⟨S16384x32, .f32⟩) select ]
abbrev written1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]
theorem writes1 : (ops1 : List (HloOp τ sig (Elt F))).Forall fun op => op.writes ⊆ (written1.map (Proc.devRef (τ := τ) .tc)).toFinset :=
  StableHlo.forall_writes_sub_of_map rfl
/-- Lines of the reference. -/
abbrev ops2 : List (HloOp τ sig (Elt F)) :=
  [ StableHlo.nullary main_cst (constant S_ .f32 0x00000000#32),
    StableHlo.unary main_cst main_v5 (broadcastInDim S4096x32 ![] bcast_S_S4096x32 : (⟨S_, .f32⟩ : BufTy).Contents (Elt F) → (⟨S4096x32, .f32⟩ : BufTy).Contents (Elt F)),
    StableHlo.unary main_v1 main_v6 (broadcastInDim S16384x1 ![0] bcast_S16384_S16384x1_0 : (⟨S16384, .i32⟩ : BufTy).Contents (Elt F) → (⟨S16384x1, .i32⟩ : BufTy).Contents (Elt F)),
    StableHlo.ternary main_v5 main_v6 main_v4 main_v7 ((fun x i u => Host.scatterAdd scatter_S4096x32_S16384x1_S16384x32_1_0_0_1 x i u) : (⟨S4096x32, .f32⟩ : BufTy).Contents (Elt F) → (⟨S16384x1, .i32⟩ : BufTy).Contents (Elt F) → (⟨S16384x32, .f32⟩ : BufTy).Contents (Elt F) → (⟨S4096x32, .f32⟩ : BufTy).Contents (Elt F)),
    StableHlo.nullary main_cst_0 (constant S_ .f32 0x3F800000#32),
    StableHlo.unary main_cst_0 main_v8 (broadcastInDim S16384x1 ![] bcast_S_S16384x1 : (⟨S_, .f32⟩ : BufTy).Contents (Elt F) → (⟨S16384x1, .f32⟩ : BufTy).Contents (Elt F)),
    StableHlo.nullary main_cst_1 (constant S_ .f32 0x00000000#32),
    StableHlo.unary main_cst_1 main_v9 (broadcastInDim S4096x1 ![] bcast_S_S4096x1 : (⟨S_, .f32⟩ : BufTy).Contents (Elt F) → (⟨S4096x1, .f32⟩ : BufTy).Contents (Elt F)),
    StableHlo.unary main_v1 main_v10 (broadcastInDim S16384x1 ![0] bcast_S16384_S16384x1_0 : (⟨S16384, .i32⟩ : BufTy).Contents (Elt F) → (⟨S16384x1, .i32⟩ : BufTy).Contents (Elt F)),
    StableHlo.ternary main_v9 main_v10 main_v8 main_v11 ((fun x i u => Host.scatterAdd scatter_S4096x1_S16384x1_S16384x1_1_0_0_1 x i u) : (⟨S4096x1, .f32⟩ : BufTy).Contents (Elt F) → (⟨S16384x1, .i32⟩ : BufTy).Contents (Elt F) → (⟨S16384x1, .f32⟩ : BufTy).Contents (Elt F) → (⟨S4096x1, .f32⟩ : BufTy).Contents (Elt F)),
    StableHlo.nullary main_cst_2 (constant S_ .f32 0x3F800000#32),
    StableHlo.unary main_cst_2 main_v12 (broadcastInDim S4096x1 ![] bcast_S_S4096x1 : (⟨S_, .f32⟩ : BufTy).Contents (Elt F) → (⟨S4096x1, .f32⟩ : BufTy).Contents (Elt F)),
    StableHlo.binary main_v11 main_v12 main_v13 (maximumf : (⟨S4096x1, .f32⟩ : BufTy).Contents (Elt F) → (⟨S4096x1, .f32⟩ : BufTy).Contents (Elt F) → (⟨S4096x1, .f32⟩ : BufTy).Contents (Elt F)),
    StableHlo.unary main_v13 main_v14 (broadcastInDim S4096x32 ![0, 1] bcast_S4096x1_S4096x32_0_1 : (⟨S4096x1, .f32⟩ : BufTy).Contents (Elt F) → (⟨S4096x32, .f32⟩ : BufTy).Contents (Elt F)),
    StableHlo.binary main_v7 main_v14 main_v15 (Host.divf : (⟨S4096x32, .f32⟩ : BufTy).Contents (Elt F) → (⟨S4096x32, .f32⟩ : BufTy).Contents (Elt F) → (⟨S4096x32, .f32⟩ : BufTy).Contents (Elt F)),
    StableHlo.binary main_arg0 main_arg5 main_v16 ((fun l r => Host.dotGeneral dot_S4096x32_S32x16_S4096x16_1_0_0_1_n_n none l r) : (⟨S4096x32, .f32⟩ : BufTy).Contents (Elt F) → (⟨S32x16, .f32⟩ : BufTy).Contents (Elt F) → (⟨S4096x16, .f32⟩ : BufTy).Contents (Elt F)),
    StableHlo.binary main_v15 main_arg6 main_v17 ((fun l r => Host.dotGeneral dot_S4096x32_S32x16_S4096x16_1_0_0_1_n_n none l r) : (⟨S4096x32, .f32⟩ : BufTy).Contents (Elt F) → (⟨S32x16, .f32⟩ : BufTy).Contents (Elt F) → (⟨S4096x16, .f32⟩ : BufTy).Contents (Elt F)),
    StableHlo.binary main_v16 main_v17 main_v18 (addf : (⟨S4096x16, .f32⟩ : BufTy).Contents (Elt F) → (⟨S4096x16, .f32⟩ : BufTy).Contents (Elt F) → (⟨S4096x16, .f32⟩ : BufTy).Contents (Elt F)) ]
abbrev written2 : List (Ref sig .tc) := [main_cst, main_v5, main_v6, main_v7, main_cst_0, main_v8, main_cst_1, main_v9, main_v10, main_v11, main_cst_2, main_v12, main_v13, main_v14, main_v15, main_v16, main_v17, main_v18]
theorem writes2 : (ops2 : List (HloOp τ sig (Elt F))).Forall fun op => op.writes ⊆ (written2.map (Proc.devRef (τ := τ) .tc)).toFinset :=
  StableHlo.forall_writes_sub_of_map rfl
/-- The lines of a call of relu. -/
abbrev ops3 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S4096x16, .f32⟩) (broadcastInDim S4096x16 ![] bcast_S_S4096x16),
    StableHlo.TRef.binary (.of main_v18 : StableHlo.TRef sig ⟨S4096x16, .f32⟩) (.of main_call1_v0 : StableHlo.TRef sig ⟨S4096x16, .f32⟩) (.of main_v19 : StableHlo.TRef sig ⟨S4096x16, .f32⟩) maximumf ]
abbrev written3 : List (Ref sig .tc) := [main_call1_cst, main_call1_v0, main_v19]
theorem writes3 : (ops3 : List (HloOp τ sig (Elt F))).Forall fun op => op.writes ⊆ (written3.map (Proc.devRef (τ := τ) .tc)).toFinset :=
  StableHlo.forall_writes_sub_of_map rfl
/-- Lines of the reference. -/
abbrev ops4 : List (HloOp τ sig (Elt F)) :=
  [ StableHlo.binary main_v19 main_arg9 main_v20 ((fun l r => Host.dotGeneral dot_S4096x16_S16x16_S4096x16_1_0_0_1_n_n none l r) : (⟨S4096x16, .f32⟩ : BufTy).Contents (Elt F) → (⟨S16x16, .f32⟩ : BufTy).Contents (Elt F) → (⟨S4096x16, .f32⟩ : BufTy).Contents (Elt F)) ]
abbrev written4 : List (Ref sig .tc) := [main_v20]
theorem writes4 : (ops4 : List (HloOp τ sig (Elt F))).Forall fun op => op.writes ⊆ (written4.map (Proc.devRef (τ := τ) .tc)).toFinset :=
  StableHlo.forall_writes_sub_of_map rfl
/-- The lines of a call of relu. -/
abbrev ops5 : List (HloOp τ sig (Elt F)) :=
  [ StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S4096x16, .f32⟩) (broadcastInDim S4096x16 ![] bcast_S_S4096x16),
    StableHlo.TRef.binary (.of main_v20 : StableHlo.TRef sig ⟨S4096x16, .f32⟩) (.of main_call2_v0 : StableHlo.TRef sig ⟨S4096x16, .f32⟩) (.of main_v21 : StableHlo.TRef sig ⟨S4096x16, .f32⟩) maximumf ]
abbrev written5 : List (Ref sig .tc) := [main_call2_cst, main_call2_v0, main_v21]
theorem writes5 : (ops5 : List (HloOp τ sig (Elt F))).Forall fun op => op.writes ⊆ (written5.map (Proc.devRef (τ := τ) .tc)).toFinset :=
  StableHlo.forall_writes_sub_of_map rfl
/-- The lines of a call of take_0. -/
abbrev ops6 : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S16384, .i32⟩) (broadcastInDim S16384 ![] bcast_S_S16384),
    StableHlo.TRef.binary (.of main_arg3 : StableHlo.TRef sig ⟨S16384, .i32⟩) (.of main_call3_v0 : StableHlo.TRef sig ⟨S16384, .i32⟩) (.of main_call3_v1 : StableHlo.TRef sig ⟨S16384, .i1⟩) (cmpi .slt),
    StableHlo.TRef.nullary (.of main_call3_c_0 : StableHlo.TRef sig ⟨S_, .i32⟩) (constantI S_ 32 32#32),
    StableHlo.TRef.unary (.of main_call3_c_0 : StableHlo.TRef sig ⟨S_, .i32⟩) (.of main_call3_v2 : StableHlo.TRef sig ⟨S16384, .i32⟩) (broadcastInDim S16384 ![] bcast_S_S16384),
    StableHlo.TRef.binary (.of main_arg3 : StableHlo.TRef sig ⟨S16384, .i32⟩) (.of main_call3_v2 : StableHlo.TRef sig ⟨S16384, .i32⟩) (.of main_call3_v3 : StableHlo.TRef sig ⟨S16384, .i32⟩) addi,
    StableHlo.TRef.ternary (.of main_call3_v1 : StableHlo.TRef sig ⟨S16384, .i1⟩) (.of main_call3_v3 : StableHlo.TRef sig ⟨S16384, .i32⟩) (.of main_arg3 : StableHlo.TRef sig ⟨S16384, .i32⟩) (.of main_call3_v4 : StableHlo.TRef sig ⟨S16384, .i32⟩) select,
    StableHlo.TRef.unary (.of main_call3_v4 : StableHlo.TRef sig ⟨S16384, .i32⟩) (.of main_call3_v5 : StableHlo.TRef sig ⟨S16384x1, .i32⟩) (broadcastInDim S16384x1 ![0] bcast_S16384_S16384x1_0),
    StableHlo.TRef.nullary (.of main_call3_c_1 : StableHlo.TRef sig ⟨S1, .i32⟩) (constantI S1 32 31#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S16384x1, .i32⟩) (broadcastInDim S16384x1 ![] bcast_S_S16384x1),
    StableHlo.TRef.binary (.of main_call3_v5 : StableHlo.TRef sig ⟨S16384x1, .i32⟩) (.of main_call3_v6 : StableHlo.TRef sig ⟨S16384x1, .i32⟩) (.of main_call3_v7 : StableHlo.TRef sig ⟨S16384x1, .i1⟩) (cmpi .sge),
    StableHlo.TRef.unary (.of main_call3_c_1 : StableHlo.TRef sig ⟨S1, .i32⟩) (.of main_call3_v8 : StableHlo.TRef sig ⟨S1x1, .i32⟩) (broadcastInDim S1x1 ![1] bcast_S1_S1x1_1),
    StableHlo.TRef.unary (.of main_call3_v8 : StableHlo.TRef sig ⟨S1x1, .i32⟩) (.of main_call3_v9 : StableHlo.TRef sig ⟨S16384x1, .i32⟩) (broadcastInDim S16384x1 ![0, 1] bcast_S1x1_S16384x1_0_1),
    StableHlo.TRef.binary (.of main_call3_v5 : StableHlo.TRef sig ⟨S16384x1, .i32⟩) (.of main_call3_v9 : StableHlo.TRef sig ⟨S16384x1, .i32⟩) (.of main_call3_v10 : StableHlo.TRef sig ⟨S16384x1, .i1⟩) (cmpi .sle),
    StableHlo.TRef.binary (.of main_call3_v7 : StableHlo.TRef sig ⟨S16384x1, .i1⟩) (.of main_call3_v10 : StableHlo.TRef sig ⟨S16384x1, .i1⟩) (.of main_call3_v11 : StableHlo.TRef sig ⟨S16384x1, .i1⟩) andi,
    StableHlo.TRef.nullary (.of main_call3_c_3 : StableHlo.TRef sig ⟨S_, .i1⟩) (constantI S_ 1 1#1),
    StableHlo.TRef.binary (.of main_call3_v11 : StableHlo.TRef sig ⟨S16384x1, .i1⟩) (.of main_call3_c_3 : StableHlo.TRef sig ⟨S_, .i1⟩) (.of main_call3_v12 : StableHlo.TRef sig ⟨S16384, .i1⟩) (fun x v => Host.reduce IntOp.andi x v reducesTo_S16384x1_S16384_d1 h_S_),
    StableHlo.TRef.binary (.of main_arg4 : StableHlo.TRef sig ⟨S32x32, .f32⟩) (.of main_call3_v5 : StableHlo.TRef sig ⟨S16384x1, .i32⟩) (.of main_call3_v13 : StableHlo.TRef sig ⟨S16384x32, .f32⟩) (fun x i => Host.gather gather_S32x32_S16384x1_S16384x32_1_0_n_n_0_1_132 x i),
    StableHlo.TRef.unary (.of main_call3_v12 : StableHlo.TRef sig ⟨S16384, .i1⟩) (.of main_call3_v14 : StableHlo.TRef sig ⟨S16384x32, .i1⟩) (broadcastInDim S16384x32 ![0] bcast_S16384_S16384x32_0),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v15 : StableHlo.TRef sig ⟨S16384x32, .f32⟩) (broadcastInDim S16384x32 ![] bcast_S_S16384x32),
    StableHlo.TRef.ternary (.of main_call3_v14 : StableHlo.TRef sig ⟨S16384x32, .i1⟩) (.of main_call3_v13 : StableHlo.TRef sig ⟨S16384x32, .f32⟩) (.of main_call3_v15 : StableHlo.TRef sig ⟨S16384x32, .f32⟩) (.of main_v22 : StableHlo.TRef sig ⟨S16384x32, .f32⟩) select ]
abbrev written6 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v22]
theorem writes6 : (ops6 : List (HloOp τ sig (Elt F))).Forall fun op => op.writes ⊆ (written6.map (Proc.devRef (τ := τ) .tc)).toFinset :=
  StableHlo.forall_writes_sub_of_map rfl
/-- Lines of the reference. -/
abbrev ops7 : List (HloOp τ sig (Elt F)) :=
  [ StableHlo.binary main_arg1 main_arg7 main_v23 ((fun l r => Host.dotGeneral dot_S16384x32_S32x16_S16384x16_1_0_0_1_n_n none l r) : (⟨S16384x32, .f32⟩ : BufTy).Contents (Elt F) → (⟨S32x16, .f32⟩ : BufTy).Contents (Elt F) → (⟨S16384x16, .f32⟩ : BufTy).Contents (Elt F)),
    StableHlo.binary main_v22 main_arg8 main_v24 ((fun l r => Host.dotGeneral dot_S16384x32_S32x16_S16384x16_1_0_0_1_n_n none l r) : (⟨S16384x32, .f32⟩ : BufTy).Contents (Elt F) → (⟨S32x16, .f32⟩ : BufTy).Contents (Elt F) → (⟨S16384x16, .f32⟩ : BufTy).Contents (Elt F)),
    StableHlo.binary main_v23 main_v24 main_v25 (addf : (⟨S16384x16, .f32⟩ : BufTy).Contents (Elt F) → (⟨S16384x16, .f32⟩ : BufTy).Contents (Elt F) → (⟨S16384x16, .f32⟩ : BufTy).Contents (Elt F)) ]
abbrev written7 : List (Ref sig .tc) := [main_v23, main_v24, main_v25]
theorem writes7 : (ops7 : List (HloOp τ sig (Elt F))).Forall fun op => op.writes ⊆ (written7.map (Proc.devRef (τ := τ) .tc)).toFinset :=
  StableHlo.forall_writes_sub_of_map rfl
/-- The lines of a call of relu_2. -/
abbrev ops8 : List (HloOp τ sig (Elt F)) :=
  [ StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S16384x16, .f32⟩) (broadcastInDim S16384x16 ![] bcast_S_S16384x16),
    StableHlo.TRef.binary (.of main_v25 : StableHlo.TRef sig ⟨S16384x16, .f32⟩) (.of main_call4_v0 : StableHlo.TRef sig ⟨S16384x16, .f32⟩) (.of main_v26 : StableHlo.TRef sig ⟨S16384x16, .f32⟩) maximumf ]
abbrev written8 : List (Ref sig .tc) := [main_call4_cst, main_call4_v0, main_v26]
theorem writes8 : (ops8 : List (HloOp τ sig (Elt F))).Forall fun op => op.writes ⊆ (written8.map (Proc.devRef (τ := τ) .tc)).toFinset :=
  StableHlo.forall_writes_sub_of_map rfl
/-- Lines of the reference. -/
abbrev ops9 : List (HloOp τ sig (Elt F)) :=
  [ StableHlo.binary main_v26 main_arg10 main_v27 ((fun l r => Host.dotGeneral dot_S16384x16_S16x16_S16384x16_1_0_0_1_n_n none l r) : (⟨S16384x16, .f32⟩ : BufTy).Contents (Elt F) → (⟨S16x16, .f32⟩ : BufTy).Contents (Elt F) → (⟨S16384x16, .f32⟩ : BufTy).Contents (Elt F)) ]
abbrev written9 : List (Ref sig .tc) := [main_v27]
theorem writes9 : (ops9 : List (HloOp τ sig (Elt F))).Forall fun op => op.writes ⊆ (written9.map (Proc.devRef (τ := τ) .tc)).toFinset :=
  StableHlo.forall_writes_sub_of_map rfl
/-- The lines of a call of relu_2. -/
abbrev ops10 : List (HloOp τ sig (Elt F)) :=
  [ StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S16384x16, .f32⟩) (broadcastInDim S16384x16 ![] bcast_S_S16384x16),
    StableHlo.TRef.binary (.of main_v27 : StableHlo.TRef sig ⟨S16384x16, .f32⟩) (.of main_call5_v0 : StableHlo.TRef sig ⟨S16384x16, .f32⟩) (.of main_v28 : StableHlo.TRef sig ⟨S16384x16, .f32⟩) maximumf ]
abbrev written10 : List (Ref sig .tc) := [main_call5_cst, main_call5_v0, main_v28]
theorem writes10 : (ops10 : List (HloOp τ sig (Elt F))).Forall fun op => op.writes ⊆ (written10.map (Proc.devRef (τ := τ) .tc)).toFinset :=
  StableHlo.forall_writes_sub_of_map rfl
/-- Lines of the reference. -/
abbrev ops11 : List (HloOp τ sig (Elt F)) :=
  [ StableHlo.binary main_v21 main_v21 main_v29 (mulf : (⟨S4096x16, .f32⟩ : BufTy).Contents (Elt F) → (⟨S4096x16, .f32⟩ : BufTy).Contents (Elt F) → (⟨S4096x16, .f32⟩ : BufTy).Contents (Elt F)),
    StableHlo.nullary main_cst_3 (constant S_ .f32 0x00000000#32),
    StableHlo.binary main_v29 main_cst_3 main_v30 ((fun x v => Host.reduceAdd x v reducesTo_S4096x16_S4096_d1 h_S_) : (⟨S4096x16, .f32⟩ : BufTy).Contents (Elt F) → (⟨S_, .f32⟩ : BufTy).Contents (Elt F) → (⟨S4096, .f32⟩ : BufTy).Contents (Elt F)),
    StableHlo.unary main_v30 main_v31 (broadcastInDim S4096x1 ![0] bcast_S4096_S4096x1_0 : (⟨S4096, .f32⟩ : BufTy).Contents (Elt F) → (⟨S4096x1, .f32⟩ : BufTy).Contents (Elt F)),
    StableHlo.binary main_v28 main_v28 main_v32 (mulf : (⟨S16384x16, .f32⟩ : BufTy).Contents (Elt F) → (⟨S16384x16, .f32⟩ : BufTy).Contents (Elt F) → (⟨S16384x16, .f32⟩ : BufTy).Contents (Elt F)),
    StableHlo.nullary main_cst_4 (constant S_ .f32 0x00000000#32),
    StableHlo.binary main_v32 main_cst_4 main_v33 ((fun x v => Host.reduceAdd x v reducesTo_S16384x16_S16384_d1 h_S_) : (⟨S16384x16, .f32⟩ : BufTy).Contents (Elt F) → (⟨S_, .f32⟩ : BufTy).Contents (Elt F) → (⟨S16384, .f32⟩ : BufTy).Contents (Elt F)),
    StableHlo.unary main_v33 main_v34 (broadcastInDim S1x16384 ![1] bcast_S16384_S1x16384_1 : (⟨S16384, .f32⟩ : BufTy).Contents (Elt F) → (⟨S1x16384, .f32⟩ : BufTy).Contents (Elt F)),
    StableHlo.unary main_v31 main_v35 (broadcastInDim S4096x16384 ![0, 1] bcast_S4096x1_S4096x16384_0_1 : (⟨S4096x1, .f32⟩ : BufTy).Contents (Elt F) → (⟨S4096x16384, .f32⟩ : BufTy).Contents (Elt F)),
    StableHlo.unary main_v34 main_v36 (broadcastInDim S4096x16384 ![0, 1] bcast_S1x16384_S4096x16384_0_1 : (⟨S1x16384, .f32⟩ : BufTy).Contents (Elt F) → (⟨S4096x16384, .f32⟩ : BufTy).Contents (Elt F)),
    StableHlo.binary main_v35 main_v36 main_v37 (addf : (⟨S4096x16384, .f32⟩ : BufTy).Contents (Elt F) → (⟨S4096x16384, .f32⟩ : BufTy).Contents (Elt F) → (⟨S4096x16384, .f32⟩ : BufTy).Contents (Elt F)),
    StableHlo.unary main_v28 main_v38 ((transpose S16x16384 [1, 0] · transposes_S16384x16_S16x16384_1_0) : (⟨S16384x16, .f32⟩ : BufTy).Contents (Elt F) → (⟨S16x16384, .f32⟩ : BufTy).Contents (Elt F)),
    StableHlo.binary main_v21 main_v38 main_v39 ((fun l r => Host.dotGeneral dot_S4096x16_S16x16384_S4096x16384_1_0_0_1_n_n none l r) : (⟨S4096x16, .f32⟩ : BufTy).Contents (Elt F) → (⟨S16x16384, .f32⟩ : BufTy).Contents (Elt F) → (⟨S4096x16384, .f32⟩ : BufTy).Contents (Elt F)),
    StableHlo.nullary main_cst_5 (constant S_ .f32 0x40000000#32),
    StableHlo.unary main_cst_5 main_v40 (broadcastInDim S4096x16384 ![] bcast_S_S4096x16384 : (⟨S_, .f32⟩ : BufTy).Contents (Elt F) → (⟨S4096x16384, .f32⟩ : BufTy).Contents (Elt F)),
    StableHlo.binary main_v40 main_v39 main_v41 (mulf : (⟨S4096x16384, .f32⟩ : BufTy).Contents (Elt F) → (⟨S4096x16384, .f32⟩ : BufTy).Contents (Elt F) → (⟨S4096x16384, .f32⟩ : BufTy).Contents (Elt F)),
    StableHlo.binary main_v37 main_v41 main_v42 (subf : (⟨S4096x16384, .f32⟩ : BufTy).Contents (Elt F) → (⟨S4096x16384, .f32⟩ : BufTy).Contents (Elt F) → (⟨S4096x16384, .f32⟩ : BufTy).Contents (Elt F)),
    StableHlo.nullary main_cst_6 (constant S_ .f32 0x00000000#32) ]
abbrev written11 : List (Ref sig .tc) := [main_v29, main_cst_3, main_v30, main_v31, main_v32, main_cst_4, main_v33, main_v34, main_v35, main_v36, main_v37, main_v38, main_v39, main_cst_5, main_v40, main_v41, main_v42, main_cst_6]
theorem writes11 : (ops11 : List (HloOp τ sig (Elt F))).Forall fun op => op.writes ⊆ (written11.map (Proc.devRef (τ := τ) .tc)).toFinset :=
  StableHlo.forall_writes_sub_of_map rfl
/-- The lines of a call of clip. -/
abbrev ops12 : List (HloOp τ sig (Elt F)) :=
  [ StableHlo.TRef.unary (.of main_cst_6 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S4096x16384, .f32⟩) (broadcastInDim S4096x16384 ![] bcast_S_S4096x16384),
    StableHlo.TRef.binary (.of main_call6_v1 : StableHlo.TRef sig ⟨S4096x16384, .f32⟩) (.of main_v42 : StableHlo.TRef sig ⟨S4096x16384, .f32⟩) (.of main_v43 : StableHlo.TRef sig ⟨S4096x16384, .f32⟩) maximumf ]
abbrev written12 : List (Ref sig .tc) := [main_call6_v0, main_call6_v1, main_v43]
theorem writes12 : (ops12 : List (HloOp τ sig (Elt F))).Forall fun op => op.writes ⊆ (written12.map (Proc.devRef (τ := τ) .tc)).toFinset :=
  StableHlo.forall_writes_sub_of_map rfl
/-- Lines of the reference. -/
abbrev ops13 : List (HloOp τ sig (Elt F)) :=
  [ StableHlo.nullary main_cst_7 (constant S_ .f32 0x2B8CBCCC#32),
    StableHlo.unary main_cst_7 main_v44 (broadcastInDim S4096x16384 ![] bcast_S_S4096x16384 : (⟨S_, .f32⟩ : BufTy).Contents (Elt F) → (⟨S4096x16384, .f32⟩ : BufTy).Contents (Elt F)),
    StableHlo.binary main_v43 main_v44 main_v45 (addf : (⟨S4096x16384, .f32⟩ : BufTy).Contents (Elt F) → (⟨S4096x16384, .f32⟩ : BufTy).Contents (Elt F) → (⟨S4096x16384, .f32⟩ : BufTy).Contents (Elt F)),
    StableHlo.unary main_v45 main_v46 (Host.sqrt : (⟨S4096x16384, .f32⟩ : BufTy).Contents (Elt F) → (⟨S4096x16384, .f32⟩ : BufTy).Contents (Elt F)),
    StableHlo.unary main_arg3 main_v47 (broadcastInDim S16384x1 ![0] bcast_S16384_S16384x1_0 : (⟨S16384, .i32⟩ : BufTy).Contents (Elt F) → (⟨S16384x1, .i32⟩ : BufTy).Contents (Elt F)),
    StableHlo.nullary main_v48 (iotaInDim S32 32 0),
    StableHlo.unary main_v48 main_v49 (broadcastInDim S1x32 ![1] bcast_S32_S1x32_1 : (⟨S32, .i32⟩ : BufTy).Contents (Elt F) → (⟨S1x32, .i32⟩ : BufTy).Contents (Elt F)),
    StableHlo.unary main_v47 main_v50 (broadcastInDim S16384x32 ![0, 1] bcast_S16384x1_S16384x32_0_1 : (⟨S16384x1, .i32⟩ : BufTy).Contents (Elt F) → (⟨S16384x32, .i32⟩ : BufTy).Contents (Elt F)) ]
abbrev written13 : List (Ref sig .tc) := [main_cst_7, main_v44, main_v45, main_v46, main_v47, main_v48, main_v49, main_v50]
theorem writes13 : (ops13 : List (HloOp τ sig (Elt F))).Forall fun op => op.writes ⊆ (written13.map (Proc.devRef (τ := τ) .tc)).toFinset :=
  StableHlo.forall_writes_sub_of_map rfl
/-- Lines of the reference. -/
abbrev ops14 : List (HloOp τ sig (Elt F)) :=
  [ StableHlo.unary main_v49 main_v51 (broadcastInDim S16384x32 ![0, 1] bcast_S1x32_S16384x32_0_1 : (⟨S1x32, .i32⟩ : BufTy).Contents (Elt F) → (⟨S16384x32, .i32⟩ : BufTy).Contents (Elt F)),
    StableHlo.binary main_v50 main_v51 main_v52 (cmpi .eq : (⟨S16384x32, .i32⟩ : BufTy).Contents (Elt F) → (⟨S16384x32, .i32⟩ : BufTy).Contents (Elt F) → (⟨S16384x32, .i1⟩ : BufTy).Contents (Elt F)),
    StableHlo.unary main_v52 main_v53 (broadcastInDim S1x16384x32 ![1, 2] bcast_S16384x32_S1x16384x32_1_2 : (⟨S16384x32, .i1⟩ : BufTy).Contents (Elt F) → (⟨S1x16384x32, .i1⟩ : BufTy).Contents (Elt F)),
    StableHlo.unary main_v46 main_v54 (broadcastInDim S4096x16384x1 ![0, 1] bcast_S4096x16384_S4096x16384x1_0_1 : (⟨S4096x16384, .f32⟩ : BufTy).Contents (Elt F) → (⟨S4096x16384x1, .f32⟩ : BufTy).Contents (Elt F)),
    StableHlo.nullary main_cst_8 (constant S_ .f32 0x7F800000#32) ]
abbrev written14 : List (Ref sig .tc) := [main_v51, main_v52, main_v53, main_v54, main_cst_8]
theorem writes14 : (ops14 : List (HloOp τ sig (Elt F))).Forall fun op => op.writes ⊆ (written14.map (Proc.devRef (τ := τ) .tc)).toFinset :=
  StableHlo.forall_writes_sub_of_map rfl
/-- The lines of a call of where_3. -/
abbrev ops15 : List (HloOp τ sig (Elt F)) :=
  [ StableHlo.TRef.unary (.of main_cst_8 : StableHlo.TRef sig ⟨S_, .f32⟩) (.of main_call7_v0 : StableHlo.TRef sig ⟨S_, .f32⟩) id,
    StableHlo.TRef.unary (.of main_v53 : StableHlo.TRef sig ⟨S1x16384x32, .i1⟩) (.of main_call7_v1 : StableHlo.TRef sig ⟨S4096x16384x32, .i1⟩) (broadcastInDim S4096x16384x32 ![0, 1, 2] bcast_S1x16384x32_S4096x16384x32_0_1_2),
    StableHlo.TRef.unary (.of main_v54 : StableHlo.TRef sig ⟨S4096x16384x1, .f32⟩) (.of main_call7_v2 : StableHlo.TRef sig ⟨S4096x16384x32, .f32⟩) (broadcastInDim S4096x16384x32 ![0, 1, 2] bcast_S4096x16384x1_S4096x16384x32_0_1_2),
    StableHlo.TRef.unary (.of main_call7_v0 : StableHlo.TRef sig ⟨S_, .f32⟩) (.of main_call7_v3 : StableHlo.TRef sig ⟨S4096x16384x32, .f32⟩) (broadcastInDim S4096x16384x32 ![] bcast_S_S4096x16384x32),
    StableHlo.TRef.ternary (.of main_call7_v1 : StableHlo.TRef sig ⟨S4096x16384x32, .i1⟩) (.of main_call7_v2 : StableHlo.TRef sig ⟨S4096x16384x32, .f32⟩) (.of main_call7_v3 : StableHlo.TRef sig ⟨S4096x16384x32, .f32⟩) (.of main_v55 : StableHlo.TRef sig ⟨S4096x16384x32, .f32⟩) select ]
abbrev written15 : List (Ref sig .tc) := [main_call7_v0, main_call7_v1, main_call7_v2, main_call7_v3, main_v55]
theorem writes15 : (ops15 : List (HloOp τ sig (Elt F))).Forall fun op => op.writes ⊆ (written15.map (Proc.devRef (τ := τ) .tc)).toFinset :=
  StableHlo.forall_writes_sub_of_map rfl
/-- Lines of the reference. -/
abbrev ops16 : List (HloOp τ sig (Elt F)) :=
  [ StableHlo.nullary main_cst_9 (constant S_ .f32 0x7F800000#32),
    StableHlo.binary main_v55 main_cst_9 main_v56 ((fun x v => Host.reduce FloatOps.minimumf x v reducesTo_S4096x16384x32_S4096x32_d1 h_S_) : (⟨S4096x16384x32, .f32⟩ : BufTy).Contents (Elt F) → (⟨S_, .f32⟩ : BufTy).Contents (Elt F) → (⟨S4096x32, .f32⟩ : BufTy).Contents (Elt F)) ]
abbrev written16 : List (Ref sig .tc) := [main_cst_9, main_v56]
theorem writes16 : (ops16 : List (HloOp τ sig (Elt F))).Forall fun op => op.writes ⊆ (written16.map (Proc.devRef (τ := τ) .tc)).toFinset :=
  StableHlo.forall_writes_sub_of_map rfl
/-- The lines of a call of sort. -/
abbrev ops17 : List (HloOp τ sig (Elt F)) :=
  [ StableHlo.TRef.unary (.of main_v56 : StableHlo.TRef sig ⟨S4096x32, .f32⟩) (.of main_v57 : StableHlo.TRef sig ⟨S4096x32, .f32⟩) (fun x => Host.sort S4096x32 1 comparator_f32_d1 x) ]
abbrev written17 : List (Ref sig .tc) := [main_v57]
theorem writes17 : (ops17 : List (HloOp τ sig (Elt F))).Forall fun op => op.writes ⊆ (written17.map (Proc.devRef (τ := τ) .tc)).toFinset :=
  StableHlo.forall_writes_sub_of_map rfl
/-- The lines of a call of argmin. -/
abbrev ops18 : List (HloOp τ sig (Elt F)) :=
  [ StableHlo.TRef.nullary (.of main_call9_v0 : StableHlo.TRef sig ⟨S4096x32, .i32⟩) (iotaInDim S4096x32 32 1),
    StableHlo.TRef.nullary (.of main_call9_cst : StableHlo.TRef sig ⟨S_, .f32⟩) (constant S_ .f32 0x7F800000#32),
    StableHlo.TRef.nullary (.of main_call9_c : StableHlo.TRef sig ⟨S_, .i32⟩) (constantI S_ 32 0#32),
    StableHlo.TRef.quaternary (.of main_v56 : StableHlo.TRef sig ⟨S4096x32, .f32⟩) (.of main_call9_v0 : StableHlo.TRef sig ⟨S4096x32, .i32⟩) (.of main_call9_cst : StableHlo.TRef sig ⟨S_, .f32⟩) (.of main_call9_c : StableHlo.TRef sig ⟨S_, .i32⟩) (.of main_call9_v1_0 : StableHlo.TRef sig ⟨S4096, .f32⟩) (fun x y u v j => (Host.argReduce reducer_argmin_f32_i32 x y u v reducesTo_S4096x32_S4096_d1 h_S_ j).1),
    StableHlo.TRef.quaternary (.of main_v56 : StableHlo.TRef sig ⟨S4096x32, .f32⟩) (.of main_call9_v0 : StableHlo.TRef sig ⟨S4096x32, .i32⟩) (.of main_call9_cst : StableHlo.TRef sig ⟨S_, .f32⟩) (.of main_call9_c : StableHlo.TRef sig ⟨S_, .i32⟩) (.of main_v58 : StableHlo.TRef sig ⟨S4096, .i32⟩) (fun x y u v j => (Host.argReduce reducer_argmin_f32_i32 x y u v reducesTo_S4096x32_S4096_d1 h_S_ j).2) ]
abbrev written18 : List (Ref sig .tc) := [main_call9_v0, main_call9_cst, main_call9_c, main_call9_v1_0, main_v58]
theorem writes18 : (ops18 : List (HloOp τ sig (Elt F))).Forall fun op => op.writes ⊆ (written18.map (Proc.devRef (τ := τ) .tc)).toFinset :=
  StableHlo.forall_writes_sub_of_map rfl
/-- Lines of the reference. -/
abbrev ops19 : List (HloOp τ sig (Elt F)) :=
  [ StableHlo.unary main_v57 main_v59 ((extractStridedSlice S4096x1 ![0, 0] · slices_S4096x32_S4096x1_0_0) : (⟨S4096x32, .f32⟩ : BufTy).Contents (Elt F) → (⟨S4096x1, .f32⟩ : BufTy).Contents (Elt F)),
    StableHlo.reshape main_v59 main_v60 (rfl : (.f32 : EltTy) = .f32) shapeCasts_S4096x1_S4096,
    StableHlo.unary main_v57 main_v61 ((extractStridedSlice S4096x1 ![0, 1] · slices_S4096x32_S4096x1_0_1) : (⟨S4096x32, .f32⟩ : BufTy).Contents (Elt F) → (⟨S4096x1, .f32⟩ : BufTy).Contents (Elt F)),
    StableHlo.reshape main_v61 main_v62 (rfl : (.f32 : EltTy) = .f32) shapeCasts_S4096x1_S4096 ]
abbrev written19 : List (Ref sig .tc) := [main_v59, main_v60, main_v61, main_v62]
theorem writes19 : (ops19 : List (HloOp τ sig (Elt F))).Forall fun op => op.writes ⊆ (written19.map (Proc.devRef (τ := τ) .tc)).toFinset :=
  StableHlo.forall_writes_sub_of_map rfl
/-- The lines of a call of take_4. -/
abbrev ops20 : List (HloOp τ sig (Elt F)) :=
  [ StableHlo.TRef.nullary (.of main_call10_c : StableHlo.TRef sig ⟨S_, .i32⟩) (constantI S_ 32 0#32),
    StableHlo.TRef.unary (.of main_call10_c : StableHlo.TRef sig ⟨S_, .i32⟩) (.of main_call10_v0 : StableHlo.TRef sig ⟨S16384, .i32⟩) (broadcastInDim S16384 ![] bcast_S_S16384),
    StableHlo.TRef.binary (.of main_v3 : StableHlo.TRef sig ⟨S16384, .i32⟩) (.of main_call10_v0 : StableHlo.TRef sig ⟨S16384, .i32⟩) (.of main_call10_v1 : StableHlo.TRef sig ⟨S16384, .i1⟩) (cmpi .slt),
    StableHlo.TRef.nullary (.of main_call10_c_0 : StableHlo.TRef sig ⟨S_, .i32⟩) (constantI S_ 32 16384#32),
    StableHlo.TRef.unary (.of main_call10_c_0 : StableHlo.TRef sig ⟨S_, .i32⟩) (.of main_call10_v2 : StableHlo.TRef sig ⟨S16384, .i32⟩) (broadcastInDim S16384 ![] bcast_S_S16384),
    StableHlo.TRef.binary (.of main_v3 : StableHlo.TRef sig ⟨S16384, .i32⟩) (.of main_call10_v2 : StableHlo.TRef sig ⟨S16384, .i32⟩) (.of main_call10_v3 : StableHlo.TRef sig ⟨S16384, .i32⟩) addi,
    StableHlo.TRef.ternary (.of main_call10_v1 : StableHlo.TRef sig ⟨S16384, .i1⟩) (.of main_call10_v3 : StableHlo.TRef sig ⟨S16384, .i32⟩) (.of main_v3 : StableHlo.TRef sig ⟨S16384, .i32⟩) (.of main_call10_v4 : StableHlo.TRef sig ⟨S16384, .i32⟩) select,
    StableHlo.TRef.unary (.of main_call10_v4 : StableHlo.TRef sig ⟨S16384, .i32⟩) (.of main_call10_v5 : StableHlo.TRef sig ⟨S16384x1, .i32⟩) (broadcastInDim S16384x1 ![0] bcast_S16384_S16384x1_0),
    StableHlo.TRef.nullary (.of main_call10_c_1 : StableHlo.TRef sig ⟨S1, .i32⟩) (constantI S1 32 16383#32),
    StableHlo.TRef.nullary (.of main_call10_c_2 : StableHlo.TRef sig ⟨S_, .i32⟩) (constantI S_ 32 0#32),
    StableHlo.TRef.unary (.of main_call10_c_2 : StableHlo.TRef sig ⟨S_, .i32⟩) (.of main_call10_v6 : StableHlo.TRef sig ⟨S16384x1, .i32⟩) (broadcastInDim S16384x1 ![] bcast_S_S16384x1),
    StableHlo.TRef.binary (.of main_call10_v5 : StableHlo.TRef sig ⟨S16384x1, .i32⟩) (.of main_call10_v6 : StableHlo.TRef sig ⟨S16384x1, .i32⟩) (.of main_call10_v7 : StableHlo.TRef sig ⟨S16384x1, .i1⟩) (cmpi .sge),
    StableHlo.TRef.unary (.of main_call10_c_1 : StableHlo.TRef sig ⟨S1, .i32⟩) (.of main_call10_v8 : StableHlo.TRef sig ⟨S1x1, .i32⟩) (broadcastInDim S1x1 ![1] bcast_S1_S1x1_1),
    StableHlo.TRef.unary (.of main_call10_v8 : StableHlo.TRef sig ⟨S1x1, .i32⟩) (.of main_call10_v9 : StableHlo.TRef sig ⟨S16384x1, .i32⟩) (broadcastInDim S16384x1 ![0, 1] bcast_S1x1_S16384x1_0_1),
    StableHlo.TRef.binary (.of main_call10_v5 : StableHlo.TRef sig ⟨S16384x1, .i32⟩) (.of main_call10_v9 : StableHlo.TRef sig ⟨S16384x1, .i32⟩) (.of main_call10_v10 : StableHlo.TRef sig ⟨S16384x1, .i1⟩) (cmpi .sle),
    StableHlo.TRef.binary (.of main_call10_v7 : StableHlo.TRef sig ⟨S16384x1, .i1⟩) (.of main_call10_v10 : StableHlo.TRef sig ⟨S16384x1, .i1⟩) (.of main_call10_v11 : StableHlo.TRef sig ⟨S16384x1, .i1⟩) andi,
    StableHlo.TRef.nullary (.of main_call10_c_3 : StableHlo.TRef sig ⟨S_, .i1⟩) (constantI S_ 1 1#1),
    StableHlo.TRef.binary (.of main_call10_v11 : StableHlo.TRef sig ⟨S16384x1, .i1⟩) (.of main_call10_c_3 : StableHlo.TRef sig ⟨S_, .i1⟩) (.of main_call10_v12 : StableHlo.TRef sig ⟨S16384, .i1⟩) (fun x v => Host.reduce IntOp.andi x v reducesTo_S16384x1_S16384_d1 h_S_),
    StableHlo.TRef.binary (.of main_arg3 : StableHlo.TRef sig ⟨S16384, .i32⟩) (.of main_call10_v5 : StableHlo.TRef sig ⟨S16384x1, .i32⟩) (.of main_call10_v13 : StableHlo.TRef sig ⟨S16384, .i32⟩) (fun x i => Host.gather gather_S16384_S16384x1_S16384_n_0_n_n_0_1_1 x i),
    StableHlo.TRef.nullary (.of main_call10_c_4 : StableHlo.TRef sig ⟨S_, .i32⟩) (constantI S_ 32 2147483648#32),
    StableHlo.TRef.unary (.of main_call10_c_4 : StableHlo.TRef sig ⟨S_, .i32⟩) (.of main_call10_v14 : StableHlo.TRef sig ⟨S16384, .i32⟩) (broadcastInDim S16384 ![] bcast_S_S16384),
    StableHlo.TRef.ternary (.of main_call10_v12 : StableHlo.TRef sig ⟨S16384, .i1⟩) (.of main_call10_v13 : StableHlo.TRef sig ⟨S16384, .i32⟩) (.of main_call10_v14 : StableHlo.TRef sig ⟨S16384, .i32⟩) (.of main_v63 : StableHlo.TRef sig ⟨S16384, .i32⟩) select ]
abbrev written20 : List (Ref sig .tc) := [main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_c_4, main_call10_v14, main_v63]
theorem writes20 : (ops20 : List (HloOp τ sig (Elt F))).Forall fun op => op.writes ⊆ (written20.map (Proc.devRef (τ := τ) .tc)).toFinset :=
  StableHlo.forall_writes_sub_of_map rfl
/-- The lines of a call of take_5. -/
abbrev ops21 : List (HloOp τ sig (Elt F)) :=
  [ StableHlo.TRef.nullary (.of main_call11_c : StableHlo.TRef sig ⟨S_, .i32⟩) (constantI S_ 32 0#32),
    StableHlo.TRef.unary (.of main_call11_c : StableHlo.TRef sig ⟨S_, .i32⟩) (.of main_call11_v0 : StableHlo.TRef sig ⟨S16384, .i32⟩) (broadcastInDim S16384 ![] bcast_S_S16384),
    StableHlo.TRef.binary (.of main_v1 : StableHlo.TRef sig ⟨S16384, .i32⟩) (.of main_call11_v0 : StableHlo.TRef sig ⟨S16384, .i32⟩) (.of main_call11_v1 : StableHlo.TRef sig ⟨S16384, .i1⟩) (cmpi .slt),
    StableHlo.TRef.nullary (.of main_call11_c_0 : StableHlo.TRef sig ⟨S_, .i32⟩) (constantI S_ 32 4096#32),
    StableHlo.TRef.unary (.of main_call11_c_0 : StableHlo.TRef sig ⟨S_, .i32⟩) (.of main_call11_v2 : StableHlo.TRef sig ⟨S16384, .i32⟩) (broadcastInDim S16384 ![] bcast_S_S16384),
    StableHlo.TRef.binary (.of main_v1 : StableHlo.TRef sig ⟨S16384, .i32⟩) (.of main_call11_v2 : StableHlo.TRef sig ⟨S16384, .i32⟩) (.of main_call11_v3 : StableHlo.TRef sig ⟨S16384, .i32⟩) addi,
    StableHlo.TRef.ternary (.of main_call11_v1 : StableHlo.TRef sig ⟨S16384, .i1⟩) (.of main_call11_v3 : StableHlo.TRef sig ⟨S16384, .i32⟩) (.of main_v1 : StableHlo.TRef sig ⟨S16384, .i32⟩) (.of main_call11_v4 : StableHlo.TRef sig ⟨S16384, .i32⟩) select,
    StableHlo.TRef.unary (.of main_call11_v4 : StableHlo.TRef sig ⟨S16384, .i32⟩) (.of main_call11_v5 : StableHlo.TRef sig ⟨S16384x1, .i32⟩) (broadcastInDim S16384x1 ![0] bcast_S16384_S16384x1_0),
    StableHlo.TRef.nullary (.of main_call11_c_1 : StableHlo.TRef sig ⟨S1, .i32⟩) (constantI S1 32 4095#32),
    StableHlo.TRef.nullary (.of main_call11_c_2 : StableHlo.TRef sig ⟨S_, .i32⟩) (constantI S_ 32 0#32),
    StableHlo.TRef.unary (.of main_call11_c_2 : StableHlo.TRef sig ⟨S_, .i32⟩) (.of main_call11_v6 : StableHlo.TRef sig ⟨S16384x1, .i32⟩) (broadcastInDim S16384x1 ![] bcast_S_S16384x1),
    StableHlo.TRef.binary (.of main_call11_v5 : StableHlo.TRef sig ⟨S16384x1, .i32⟩) (.of main_call11_v6 : StableHlo.TRef sig ⟨S16384x1, .i32⟩) (.of main_call11_v7 : StableHlo.TRef sig ⟨S16384x1, .i1⟩) (cmpi .sge),
    StableHlo.TRef.unary (.of main_call11_c_1 : StableHlo.TRef sig ⟨S1, .i32⟩) (.of main_call11_v8 : StableHlo.TRef sig ⟨S1x1, .i32⟩) (broadcastInDim S1x1 ![1] bcast_S1_S1x1_1),
    StableHlo.TRef.unary (.of main_call11_v8 : StableHlo.TRef sig ⟨S1x1, .i32⟩) (.of main_call11_v9 : StableHlo.TRef sig ⟨S16384x1, .i32⟩) (broadcastInDim S16384x1 ![0, 1] bcast_S1x1_S16384x1_0_1),
    StableHlo.TRef.binary (.of main_call11_v5 : StableHlo.TRef sig ⟨S16384x1, .i32⟩) (.of main_call11_v9 : StableHlo.TRef sig ⟨S16384x1, .i32⟩) (.of main_call11_v10 : StableHlo.TRef sig ⟨S16384x1, .i1⟩) (cmpi .sle),
    StableHlo.TRef.binary (.of main_call11_v7 : StableHlo.TRef sig ⟨S16384x1, .i1⟩) (.of main_call11_v10 : StableHlo.TRef sig ⟨S16384x1, .i1⟩) (.of main_call11_v11 : StableHlo.TRef sig ⟨S16384x1, .i1⟩) andi,
    StableHlo.TRef.nullary (.of main_call11_c_3 : StableHlo.TRef sig ⟨S_, .i1⟩) (constantI S_ 1 1#1),
    StableHlo.TRef.binary (.of main_call11_v11 : StableHlo.TRef sig ⟨S16384x1, .i1⟩) (.of main_call11_c_3 : StableHlo.TRef sig ⟨S_, .i1⟩) (.of main_call11_v12 : StableHlo.TRef sig ⟨S16384, .i1⟩) (fun x v => Host.reduce IntOp.andi x v reducesTo_S16384x1_S16384_d1 h_S_),
    StableHlo.TRef.binary (.of main_v58 : StableHlo.TRef sig ⟨S4096, .i32⟩) (.of main_call11_v5 : StableHlo.TRef sig ⟨S16384x1, .i32⟩) (.of main_call11_v13 : StableHlo.TRef sig ⟨S16384, .i32⟩) (fun x i => Host.gather gather_S4096_S16384x1_S16384_n_0_n_n_0_1_1 x i),
    StableHlo.TRef.nullary (.of main_call11_c_4 : StableHlo.TRef sig ⟨S_, .i32⟩) (constantI S_ 32 2147483648#32),
    StableHlo.TRef.unary (.of main_call11_c_4 : StableHlo.TRef sig ⟨S_, .i32⟩) (.of main_call11_v14 : StableHlo.TRef sig ⟨S16384, .i32⟩) (broadcastInDim S16384 ![] bcast_S_S16384),
    StableHlo.TRef.ternary (.of main_call11_v12 : StableHlo.TRef sig ⟨S16384, .i1⟩) (.of main_call11_v13 : StableHlo.TRef sig ⟨S16384, .i32⟩) (.of main_call11_v14 : StableHlo.TRef sig ⟨S16384, .i32⟩) (.of main_v64 : StableHlo.TRef sig ⟨S16384, .i32⟩) select ]
abbrev written21 : List (Ref sig .tc) := [main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_c_4, main_call11_v14, main_v64]
theorem writes21 : (ops21 : List (HloOp τ sig (Elt F))).Forall fun op => op.writes ⊆ (written21.map (Proc.devRef (τ := τ) .tc)).toFinset :=
  StableHlo.forall_writes_sub_of_map rfl
/-- Lines of the reference. -/
abbrev ops22 : List (HloOp τ sig (Elt F)) :=
  [ StableHlo.binary main_v64 main_v63 main_v65 (cmpi .eq : (⟨S16384, .i32⟩ : BufTy).Contents (Elt F) → (⟨S16384, .i32⟩ : BufTy).Contents (Elt F) → (⟨S16384, .i1⟩ : BufTy).Contents (Elt F)) ]
abbrev written22 : List (Ref sig .tc) := [main_v65]
theorem writes22 : (ops22 : List (HloOp τ sig (Elt F))).Forall fun op => op.writes ⊆ (written22.map (Proc.devRef (τ := τ) .tc)).toFinset :=
  StableHlo.forall_writes_sub_of_map rfl
/-- The lines of a call of take_6. -/
abbrev ops23 : List (HloOp τ sig (Elt F)) :=
  [ StableHlo.TRef.nullary (.of main_call12_c : StableHlo.TRef sig ⟨S_, .i32⟩) (constantI S_ 32 0#32),
    StableHlo.TRef.unary (.of main_call12_c : StableHlo.TRef sig ⟨S_, .i32⟩) (.of main_call12_v0 : StableHlo.TRef sig ⟨S16384, .i32⟩) (broadcastInDim S16384 ![] bcast_S_S16384),
    StableHlo.TRef.binary (.of main_v1 : StableHlo.TRef sig ⟨S16384, .i32⟩) (.of main_call12_v0 : StableHlo.TRef sig ⟨S16384, .i32⟩) (.of main_call12_v1 : StableHlo.TRef sig ⟨S16384, .i1⟩) (cmpi .slt),
    StableHlo.TRef.nullary (.of main_call12_c_0 : StableHlo.TRef sig ⟨S_, .i32⟩) (constantI S_ 32 4096#32),
    StableHlo.TRef.unary (.of main_call12_c_0 : StableHlo.TRef sig ⟨S_, .i32⟩) (.of main_call12_v2 : StableHlo.TRef sig ⟨S16384, .i32⟩) (broadcastInDim S16384 ![] bcast_S_S16384),
    StableHlo.TRef.binary (.of main_v1 : StableHlo.TRef sig ⟨S16384, .i32⟩) (.of main_call12_v2 : StableHlo.TRef sig ⟨S16384, .i32⟩) (.of main_call12_v3 : StableHlo.TRef sig ⟨S16384, .i32⟩) addi,
    StableHlo.TRef.ternary (.of main_call12_v1 : StableHlo.TRef sig ⟨S16384, .i1⟩) (.of main_call12_v3 : StableHlo.TRef sig ⟨S16384, .i32⟩) (.of main_v1 : StableHlo.TRef sig ⟨S16384, .i32⟩) (.of main_call12_v4 : StableHlo.TRef sig ⟨S16384, .i32⟩) select,
    StableHlo.TRef.unary (.of main_call12_v4 : StableHlo.TRef sig ⟨S16384, .i32⟩) (.of main_call12_v5 : StableHlo.TRef sig ⟨S16384x1, .i32⟩) (broadcastInDim S16384x1 ![0] bcast_S16384_S16384x1_0),
    StableHlo.TRef.nullary (.of main_call12_c_1 : StableHlo.TRef sig ⟨S1, .i32⟩) (constantI S1 32 4095#32),
    StableHlo.TRef.nullary (.of main_call12_c_2 : StableHlo.TRef sig ⟨S_, .i32⟩) (constantI S_ 32 0#32),
    StableHlo.TRef.unary (.of main_call12_c_2 : StableHlo.TRef sig ⟨S_, .i32⟩) (.of main_call12_v6 : StableHlo.TRef sig ⟨S16384x1, .i32⟩) (broadcastInDim S16384x1 ![] bcast_S_S16384x1),
    StableHlo.TRef.binary (.of main_call12_v5 : StableHlo.TRef sig ⟨S16384x1, .i32⟩) (.of main_call12_v6 : StableHlo.TRef sig ⟨S16384x1, .i32⟩) (.of main_call12_v7 : StableHlo.TRef sig ⟨S16384x1, .i1⟩) (cmpi .sge),
    StableHlo.TRef.unary (.of main_call12_c_1 : StableHlo.TRef sig ⟨S1, .i32⟩) (.of main_call12_v8 : StableHlo.TRef sig ⟨S1x1, .i32⟩) (broadcastInDim S1x1 ![1] bcast_S1_S1x1_1),
    StableHlo.TRef.unary (.of main_call12_v8 : StableHlo.TRef sig ⟨S1x1, .i32⟩) (.of main_call12_v9 : StableHlo.TRef sig ⟨S16384x1, .i32⟩) (broadcastInDim S16384x1 ![0, 1] bcast_S1x1_S16384x1_0_1),
    StableHlo.TRef.binary (.of main_call12_v5 : StableHlo.TRef sig ⟨S16384x1, .i32⟩) (.of main_call12_v9 : StableHlo.TRef sig ⟨S16384x1, .i32⟩) (.of main_call12_v10 : StableHlo.TRef sig ⟨S16384x1, .i1⟩) (cmpi .sle),
    StableHlo.TRef.binary (.of main_call12_v7 : StableHlo.TRef sig ⟨S16384x1, .i1⟩) (.of main_call12_v10 : StableHlo.TRef sig ⟨S16384x1, .i1⟩) (.of main_call12_v11 : StableHlo.TRef sig ⟨S16384x1, .i1⟩) andi,
    StableHlo.TRef.nullary (.of main_call12_c_3 : StableHlo.TRef sig ⟨S_, .i1⟩) (constantI S_ 1 1#1),
    StableHlo.TRef.binary (.of main_call12_v11 : StableHlo.TRef sig ⟨S16384x1, .i1⟩) (.of main_call12_c_3 : StableHlo.TRef sig ⟨S_, .i1⟩) (.of main_call12_v12 : StableHlo.TRef sig ⟨S16384, .i1⟩) (fun x v => Host.reduce IntOp.andi x v reducesTo_S16384x1_S16384_d1 h_S_),
    StableHlo.TRef.binary (.of main_v62 : StableHlo.TRef sig ⟨S4096, .f32⟩) (.of main_call12_v5 : StableHlo.TRef sig ⟨S16384x1, .i32⟩) (.of main_call12_v13 : StableHlo.TRef sig ⟨S16384, .f32⟩) (fun x i => Host.gather gather_S4096_S16384x1_S16384_n_0_n_n_0_1_1 x i),
    StableHlo.TRef.nullary (.of main_call12_cst : StableHlo.TRef sig ⟨S_, .f32⟩) (constant S_ .f32 0x7FC00000#32),
    StableHlo.TRef.unary (.of main_call12_cst : StableHlo.TRef sig ⟨S_, .f32⟩) (.of main_call12_v14 : StableHlo.TRef sig ⟨S16384, .f32⟩) (broadcastInDim S16384 ![] bcast_S_S16384),
    StableHlo.TRef.ternary (.of main_call12_v12 : StableHlo.TRef sig ⟨S16384, .i1⟩) (.of main_call12_v13 : StableHlo.TRef sig ⟨S16384, .f32⟩) (.of main_call12_v14 : StableHlo.TRef sig ⟨S16384, .f32⟩) (.of main_v66 : StableHlo.TRef sig ⟨S16384, .f32⟩) select ]
abbrev written23 : List (Ref sig .tc) := [main_call12_c, main_call12_v0, main_call12_v1, main_call12_c_0, main_call12_v2, main_call12_v3, main_call12_v4, main_call12_v5, main_call12_c_1, main_call12_c_2, main_call12_v6, main_call12_v7, main_call12_v8, main_call12_v9, main_call12_v10, main_call12_v11, main_call12_c_3, main_call12_v12, main_call12_v13, main_call12_cst, main_call12_v14, main_v66]
theorem writes23 : (ops23 : List (HloOp τ sig (Elt F))).Forall fun op => op.writes ⊆ (written23.map (Proc.devRef (τ := τ) .tc)).toFinset :=
  StableHlo.forall_writes_sub_of_map rfl
/-- The lines of a call of take_6. -/
abbrev ops24 : List (HloOp τ sig (Elt F)) :=
  [ StableHlo.TRef.nullary (.of main_call13_c : StableHlo.TRef sig ⟨S_, .i32⟩) (constantI S_ 32 0#32),
    StableHlo.TRef.unary (.of main_call13_c : StableHlo.TRef sig ⟨S_, .i32⟩) (.of main_call13_v0 : StableHlo.TRef sig ⟨S16384, .i32⟩) (broadcastInDim S16384 ![] bcast_S_S16384),
    StableHlo.TRef.binary (.of main_v1 : StableHlo.TRef sig ⟨S16384, .i32⟩) (.of main_call13_v0 : StableHlo.TRef sig ⟨S16384, .i32⟩) (.of main_call13_v1 : StableHlo.TRef sig ⟨S16384, .i1⟩) (cmpi .slt),
    StableHlo.TRef.nullary (.of main_call13_c_0 : StableHlo.TRef sig ⟨S_, .i32⟩) (constantI S_ 32 4096#32),
    StableHlo.TRef.unary (.of main_call13_c_0 : StableHlo.TRef sig ⟨S_, .i32⟩) (.of main_call13_v2 : StableHlo.TRef sig ⟨S16384, .i32⟩) (broadcastInDim S16384 ![] bcast_S_S16384),
    StableHlo.TRef.binary (.of main_v1 : StableHlo.TRef sig ⟨S16384, .i32⟩) (.of main_call13_v2 : StableHlo.TRef sig ⟨S16384, .i32⟩) (.of main_call13_v3 : StableHlo.TRef sig ⟨S16384, .i32⟩) addi,
    StableHlo.TRef.ternary (.of main_call13_v1 : StableHlo.TRef sig ⟨S16384, .i1⟩) (.of main_call13_v3 : StableHlo.TRef sig ⟨S16384, .i32⟩) (.of main_v1 : StableHlo.TRef sig ⟨S16384, .i32⟩) (.of main_call13_v4 : StableHlo.TRef sig ⟨S16384, .i32⟩) select,
    StableHlo.TRef.unary (.of main_call13_v4 : StableHlo.TRef sig ⟨S16384, .i32⟩) (.of main_call13_v5 : StableHlo.TRef sig ⟨S16384x1, .i32⟩) (broadcastInDim S16384x1 ![0] bcast_S16384_S16384x1_0),
    StableHlo.TRef.nullary (.of main_call13_c_1 : StableHlo.TRef sig ⟨S1, .i32⟩) (constantI S1 32 4095#32),
    StableHlo.TRef.nullary (.of main_call13_c_2 : StableHlo.TRef sig ⟨S_, .i32⟩) (constantI S_ 32 0#32),
    StableHlo.TRef.unary (.of main_call13_c_2 : StableHlo.TRef sig ⟨S_, .i32⟩) (.of main_call13_v6 : StableHlo.TRef sig ⟨S16384x1, .i32⟩) (broadcastInDim S16384x1 ![] bcast_S_S16384x1),
    StableHlo.TRef.binary (.of main_call13_v5 : StableHlo.TRef sig ⟨S16384x1, .i32⟩) (.of main_call13_v6 : StableHlo.TRef sig ⟨S16384x1, .i32⟩) (.of main_call13_v7 : StableHlo.TRef sig ⟨S16384x1, .i1⟩) (cmpi .sge),
    StableHlo.TRef.unary (.of main_call13_c_1 : StableHlo.TRef sig ⟨S1, .i32⟩) (.of main_call13_v8 : StableHlo.TRef sig ⟨S1x1, .i32⟩) (broadcastInDim S1x1 ![1] bcast_S1_S1x1_1),
    StableHlo.TRef.unary (.of main_call13_v8 : StableHlo.TRef sig ⟨S1x1, .i32⟩) (.of main_call13_v9 : StableHlo.TRef sig ⟨S16384x1, .i32⟩) (broadcastInDim S16384x1 ![0, 1] bcast_S1x1_S16384x1_0_1),
    StableHlo.TRef.binary (.of main_call13_v5 : StableHlo.TRef sig ⟨S16384x1, .i32⟩) (.of main_call13_v9 : StableHlo.TRef sig ⟨S16384x1, .i32⟩) (.of main_call13_v10 : StableHlo.TRef sig ⟨S16384x1, .i1⟩) (cmpi .sle),
    StableHlo.TRef.binary (.of main_call13_v7 : StableHlo.TRef sig ⟨S16384x1, .i1⟩) (.of main_call13_v10 : StableHlo.TRef sig ⟨S16384x1, .i1⟩) (.of main_call13_v11 : StableHlo.TRef sig ⟨S16384x1, .i1⟩) andi,
    StableHlo.TRef.nullary (.of main_call13_c_3 : StableHlo.TRef sig ⟨S_, .i1⟩) (constantI S_ 1 1#1),
    StableHlo.TRef.binary (.of main_call13_v11 : StableHlo.TRef sig ⟨S16384x1, .i1⟩) (.of main_call13_c_3 : StableHlo.TRef sig ⟨S_, .i1⟩) (.of main_call13_v12 : StableHlo.TRef sig ⟨S16384, .i1⟩) (fun x v => Host.reduce IntOp.andi x v reducesTo_S16384x1_S16384_d1 h_S_),
    StableHlo.TRef.binary (.of main_v60 : StableHlo.TRef sig ⟨S4096, .f32⟩) (.of main_call13_v5 : StableHlo.TRef sig ⟨S16384x1, .i32⟩) (.of main_call13_v13 : StableHlo.TRef sig ⟨S16384, .f32⟩) (fun x i => Host.gather gather_S4096_S16384x1_S16384_n_0_n_n_0_1_1 x i),
    StableHlo.TRef.nullary (.of main_call13_cst : StableHlo.TRef sig ⟨S_, .f32⟩) (constant S_ .f32 0x7FC00000#32),
    StableHlo.TRef.unary (.of main_call13_cst : StableHlo.TRef sig ⟨S_, .f32⟩) (.of main_call13_v14 : StableHlo.TRef sig ⟨S16384, .f32⟩) (broadcastInDim S16384 ![] bcast_S_S16384),
    StableHlo.TRef.ternary (.of main_call13_v12 : StableHlo.TRef sig ⟨S16384, .i1⟩) (.of main_call13_v13 : StableHlo.TRef sig ⟨S16384, .f32⟩) (.of main_call13_v14 : StableHlo.TRef sig ⟨S16384, .f32⟩) (.of main_v67 : StableHlo.TRef sig ⟨S16384, .f32⟩) select ]
abbrev written24 : List (Ref sig .tc) := [main_call13_c, main_call13_v0, main_call13_v1, main_call13_c_0, main_call13_v2, main_call13_v3, main_call13_v4, main_call13_v5, main_call13_c_1, main_call13_c_2, main_call13_v6, main_call13_v7, main_call13_v8, main_call13_v9, main_call13_v10, main_call13_v11, main_call13_c_3, main_call13_v12, main_call13_v13, main_call13_cst, main_call13_v14, main_v67]
theorem writes24 : (ops24 : List (HloOp τ sig (Elt F))).Forall fun op => op.writes ⊆ (written24.map (Proc.devRef (τ := τ) .tc)).toFinset :=
  StableHlo.forall_writes_sub_of_map rfl
/-- The lines of a call of where_7. -/
abbrev ops25 : List (HloOp τ sig (Elt F)) :=
  [ StableHlo.TRef.ternary (.of main_v65 : StableHlo.TRef sig ⟨S16384, .i1⟩) (.of main_v66 : StableHlo.TRef sig ⟨S16384, .f32⟩) (.of main_v67 : StableHlo.TRef sig ⟨S16384, .f32⟩) (.of main_v68 : StableHlo.TRef sig ⟨S16384, .f32⟩) select ]
abbrev written25 : List (Ref sig .tc) := [main_v68]
theorem writes25 : (ops25 : List (HloOp τ sig (Elt F))).Forall fun op => op.writes ⊆ (written25.map (Proc.devRef (τ := τ) .tc)).toFinset :=
  StableHlo.forall_writes_sub_of_map rfl
/-- Lines of the reference. -/
abbrev ops26 : List (HloOp τ sig (Elt F)) :=
  [ StableHlo.nullary main_c (constantI S_ 32 0#32),
    StableHlo.unary main_c main_v69 (broadcastInDim S16384 ![] bcast_S_S16384 : (⟨S_, .i32⟩ : BufTy).Contents (Elt F) → (⟨S16384, .i32⟩ : BufTy).Contents (Elt F)),
    StableHlo.binary main_v1 main_v69 main_v70 (cmpi .slt : (⟨S16384, .i32⟩ : BufTy).Contents (Elt F) → (⟨S16384, .i32⟩ : BufTy).Contents (Elt F) → (⟨S16384, .i1⟩ : BufTy).Contents (Elt F)),
    StableHlo.nullary main_c_10 (constantI S_ 32 4096#32),
    StableHlo.unary main_c_10 main_v71 (broadcastInDim S16384 ![] bcast_S_S16384 : (⟨S_, .i32⟩ : BufTy).Contents (Elt F) → (⟨S16384, .i32⟩ : BufTy).Contents (Elt F)),
    StableHlo.binary main_v1 main_v71 main_v72 (addi : (⟨S16384, .i32⟩ : BufTy).Contents (Elt F) → (⟨S16384, .i32⟩ : BufTy).Contents (Elt F) → (⟨S16384, .i32⟩ : BufTy).Contents (Elt F)),
    StableHlo.ternary main_v70 main_v72 main_v1 main_v73 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.nullary main_c_11 (constantI S_ 32 0#32),
    StableHlo.unary main_c_11 main_v74 (broadcastInDim S16384 ![] bcast_S_S16384 : (⟨S_, .i32⟩ : BufTy).Contents (Elt F) → (⟨S16384, .i32⟩ : BufTy).Contents (Elt F)),
    StableHlo.binary main_v3 main_v74 main_v75 (cmpi .slt : (⟨S16384, .i32⟩ : BufTy).Contents (Elt F) → (⟨S16384, .i32⟩ : BufTy).Contents (Elt F) → (⟨S16384, .i1⟩ : BufTy).Contents (Elt F)),
    StableHlo.nullary main_c_12 (constantI S_ 32 16384#32),
    StableHlo.unary main_c_12 main_v76 (broadcastInDim S16384 ![] bcast_S_S16384 : (⟨S_, .i32⟩ : BufTy).Contents (Elt F) → (⟨S16384, .i32⟩ : BufTy).Contents (Elt F)),
    StableHlo.binary main_v3 main_v76 main_v77 (addi : (⟨S16384, .i32⟩ : BufTy).Contents (Elt F) → (⟨S16384, .i32⟩ : BufTy).Contents (Elt F) → (⟨S16384, .i32⟩ : BufTy).Contents (Elt F)),
    StableHlo.ternary main_v75 main_v77 main_v3 main_v78 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v73 main_v79 (broadcastInDim S16384x1 ![0] bcast_S16384_S16384x1_0 : (⟨S16384, .i32⟩ : BufTy).Contents (Elt F) → (⟨S16384x1, .i32⟩ : BufTy).Contents (Elt F)),
    StableHlo.unary main_v78 main_v80 (broadcastInDim S16384x1 ![0] bcast_S16384_S16384x1_0 : (⟨S16384, .i32⟩ : BufTy).Contents (Elt F) → (⟨S16384x1, .i32⟩ : BufTy).Contents (Elt F)),
    StableHlo.binary main_v79 main_v80 main_v81 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    StableHlo.binary main_v46 main_v81 main_v82 ((fun x i => Host.gather gather_S4096x16384_S16384x2_S16384_n_01_n_n_01_1_11 x i) : (⟨S4096x16384, .f32⟩ : BufTy).Contents (Elt F) → (⟨S16384x2, .i32⟩ : BufTy).Contents (Elt F) → (⟨S16384, .f32⟩ : BufTy).Contents (Elt F)),
    StableHlo.binary main_v82 main_v68 main_v83 (subf : (⟨S16384, .f32⟩ : BufTy).Contents (Elt F) → (⟨S16384, .f32⟩ : BufTy).Contents (Elt F) → (⟨S16384, .f32⟩ : BufTy).Contents (Elt F)),
    StableHlo.nullary main_cst_13 (constant S_ .f32 0x3F800000#32),
    StableHlo.unary main_cst_13 main_v84 (broadcastInDim S16384 ![] bcast_S_S16384 : (⟨S_, .f32⟩ : BufTy).Contents (Elt F) → (⟨S16384, .f32⟩ : BufTy).Contents (Elt F)),
    StableHlo.binary main_v83 main_v84 main_v85 (addf : (⟨S16384, .f32⟩ : BufTy).Contents (Elt F) → (⟨S16384, .f32⟩ : BufTy).Contents (Elt F) → (⟨S16384, .f32⟩ : BufTy).Contents (Elt F)) ]
abbrev written26 : List (Ref sig .tc) := [main_c, main_v69, main_v70, main_c_10, main_v71, main_v72, main_v73, main_c_11, main_v74, main_v75, main_c_12, main_v76, main_v77, main_v78, main_v79, main_v80, main_v81, main_v82, main_v83, main_cst_13, main_v84, main_v85]
theorem writes26 : (ops26 : List (HloOp τ sig (Elt F))).Forall fun op => op.writes ⊆ (written26.map (Proc.devRef (τ := τ) .tc)).toFinset :=
  StableHlo.forall_writes_sub_of_map rfl
/-- The lines of a call of relu_8. -/
abbrev ops27 : List (HloOp τ sig (Elt F)) :=
  [ StableHlo.TRef.nullary (.of main_call15_cst : StableHlo.TRef sig ⟨S_, .f32⟩) (constant S_ .f32 0x00000000#32),
    StableHlo.TRef.unary (.of main_call15_cst : StableHlo.TRef sig ⟨S_, .f32⟩) (.of main_call15_v0 : StableHlo.TRef sig ⟨S16384, .f32⟩) (broadcastInDim S16384 ![] bcast_S_S16384),
    StableHlo.TRef.binary (.of main_v85 : StableHlo.TRef sig ⟨S16384, .f32⟩) (.of main_call15_v0 : StableHlo.TRef sig ⟨S16384, .f32⟩) (.of main_v86 : StableHlo.TRef sig ⟨S16384, .f32⟩) maximumf ]
abbrev written27 : List (Ref sig .tc) := [main_call15_cst, main_call15_v0, main_v86]
theorem writes27 : (ops27 : List (HloOp τ sig (Elt F))).Forall fun op => op.writes ⊆ (written27.map (Proc.devRef (τ := τ) .tc)).toFinset :=
  StableHlo.forall_writes_sub_of_map rfl
/-- Lines of the reference. -/
abbrev ops28 : List (HloOp τ sig (Elt F)) :=
  [ StableHlo.nullary main_cst_14 (constant S_ .f32 0x00000000#32),
    StableHlo.binary main_v86 main_cst_14 main_v87 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    StableHlo.nullary main_cst_15 (constant S_ .f32 0x46800000#32),
    StableHlo.binary main_v87 main_cst_15 main_v88 (Host.divf : (⟨S_, .f32⟩ : BufTy).Contents (Elt F) → (⟨S_, .f32⟩ : BufTy).Contents (Elt F) → (⟨S_, .f32⟩ : BufTy).Contents (Elt F)),
    StableHlo.binary main_v21 main_arg11 main_v89 ((fun l r => Host.dotGeneral dot_S4096x16_S16x1_S4096x1_1_0_0_1_n_n none l r) : (⟨S4096x16, .f32⟩ : BufTy).Contents (Elt F) → (⟨S16x1, .f32⟩ : BufTy).Contents (Elt F) → (⟨S4096x1, .f32⟩ : BufTy).Contents (Elt F)),
    StableHlo.unary main_arg12 main_v90 (broadcastInDim S1x1 ![1] bcast_S1_S1x1_1 : (⟨S1, .f32⟩ : BufTy).Contents (Elt F) → (⟨S1x1, .f32⟩ : BufTy).Contents (Elt F)),
    StableHlo.unary main_v90 main_v91 (broadcastInDim S4096x1 ![0, 1] bcast_S1x1_S4096x1_0_1 : (⟨S1x1, .f32⟩ : BufTy).Contents (Elt F) → (⟨S4096x1, .f32⟩ : BufTy).Contents (Elt F)),
    StableHlo.binary main_v89 main_v91 main_v92 (addf : (⟨S4096x1, .f32⟩ : BufTy).Contents (Elt F) → (⟨S4096x1, .f32⟩ : BufTy).Contents (Elt F) → (⟨S4096x1, .f32⟩ : BufTy).Contents (Elt F)),
    StableHlo.binary main_v28 main_arg11 main_v93 ((fun l r => Host.dotGeneral dot_S16384x16_S16x1_S16384x1_1_0_0_1_n_n none l r) : (⟨S16384x16, .f32⟩ : BufTy).Contents (Elt F) → (⟨S16x1, .f32⟩ : BufTy).Contents (Elt F) → (⟨S16384x1, .f32⟩ : BufTy).Contents (Elt F)),
    StableHlo.unary main_arg12 main_v94 (broadcastInDim S1x1 ![1] bcast_S1_S1x1_1 : (⟨S1, .f32⟩ : BufTy).Contents (Elt F) → (⟨S1x1, .f32⟩ : BufTy).Contents (Elt F)),
    StableHlo.unary main_v94 main_v95 (broadcastInDim S16384x1 ![0, 1] bcast_S1x1_S16384x1_0_1 : (⟨S1x1, .f32⟩ : BufTy).Contents (Elt F) → (⟨S16384x1, .f32⟩ : BufTy).Contents (Elt F)),
    StableHlo.binary main_v93 main_v95 main_v96 (addf : (⟨S16384x1, .f32⟩ : BufTy).Contents (Elt F) → (⟨S16384x1, .f32⟩ : BufTy).Contents (Elt F) → (⟨S16384x1, .f32⟩ : BufTy).Contents (Elt F)) ]
abbrev written28 : List (Ref sig .tc) := [main_cst_14, main_v87, main_cst_15, main_v88, main_v89, main_v90, main_v91, main_v92, main_v93, main_v94, main_v95, main_v96]
theorem writes28 : (ops28 : List (HloOp τ sig (Elt F))).Forall fun op => op.writes ⊆ (written28.map (Proc.devRef (τ := τ) .tc)).toFinset :=
  StableHlo.forall_writes_sub_of_map rfl
theorem part0_chain (d : Dev nD) : main_part0 (F := F) d = (Pipeline.chainK
  [ StableHlo.seq ops0,
    StableHlo.seq ops1,
    StableHlo.seq ops2,
    StableHlo.seq ops3,
    StableHlo.seq ops4,
    StableHlo.seq ops5,
    StableHlo.seq ops6,
    StableHlo.seq ops7,
    StableHlo.seq ops8,
    StableHlo.seq ops9,
    StableHlo.seq ops10,
    StableHlo.seq ops11,
    StableHlo.seq ops12 ]
  (StableHlo.seq ops13) : Prog (TpuEff nD τ sig (Elt F) (Pipeline.Sig Λ₀ (Fin 0) fun p => (pcfgs (F := F) p).Adm) .tc) PUnit) := by
  rewrite [StableHlo.chainK_seq_cons, Pipeline.chainK_cons, StableHlo.chainK_seq_cons, Pipeline.chainK_cons, StableHlo.chainK_seq_cons, Pipeline.chainK_cons, Pipeline.chainK_cons, StableHlo.chainK_seq_cons, Pipeline.chainK_cons, StableHlo.chainK_seq_cons, Pipeline.chainK_cons, StableHlo.chainK_seq_cons, Pipeline.chainK_cons]
  chain_rfl
theorem part1_chain (d : Dev nD) : main_part1 (F := F) d = (Pipeline.chain
  [ StableHlo.seq ops14,
    StableHlo.seq ops15,
    StableHlo.seq ops16,
    StableHlo.seq ops17,
    StableHlo.seq ops18,
    StableHlo.seq ops19,
    StableHlo.seq ops20,
    StableHlo.seq ops21,
    StableHlo.seq ops22,
    StableHlo.seq ops23,
    StableHlo.seq ops24,
    StableHlo.seq ops25,
    StableHlo.seq ops26,
    StableHlo.seq ops27,
    StableHlo.seq ops28 ] : Prog (TpuEff nD τ sig (Elt F) (Pipeline.Sig Λ₀ (Fin 0) fun p => (pcfgs (F := F) p).Adm) .tc) PUnit) := by
  rewrite [StableHlo.chain_seq_cons, Pipeline.chain_cons, StableHlo.chain_seq_cons, Pipeline.chain_cons, Pipeline.chain_cons, StableHlo.chain_seq_cons, Pipeline.chain_cons, Pipeline.chain_cons, StableHlo.chain_seq_cons, Pipeline.chain_cons, Pipeline.chain_cons, Pipeline.chain_cons, StableHlo.chain_seq_cons, Pipeline.chain_cons, StableHlo.chain_seq_cons]
  chain_rfl
theorem main_chain (d : Dev nD) : main (F := F) d = (Pipeline.chain
  [ StableHlo.seq ops0,
    StableHlo.seq ops1,
    StableHlo.seq ops2,
    StableHlo.seq ops3,
    StableHlo.seq ops4,
    StableHlo.seq ops5,
    StableHlo.seq ops6,
    StableHlo.seq ops7,
    StableHlo.seq ops8,
    StableHlo.seq ops9,
    StableHlo.seq ops10,
    StableHlo.seq ops11,
    StableHlo.seq ops12,
    StableHlo.seq ops13,
    StableHlo.seq ops14,
    StableHlo.seq ops15,
    StableHlo.seq ops16,
    StableHlo.seq ops17,
    StableHlo.seq ops18,
    StableHlo.seq ops19,
    StableHlo.seq ops20,
    StableHlo.seq ops21,
    StableHlo.seq ops22,
    StableHlo.seq ops23,
    StableHlo.seq ops24,
    StableHlo.seq ops25,
    StableHlo.seq ops26,
    StableHlo.seq ops27,
    StableHlo.seq ops28 ] : Prog (TpuEff nD τ sig (Elt F) (Pipeline.Sig Λ₀ (Fin 0) fun p => (pcfgs (F := F) p).Adm) .tc) PUnit) := by
  show (main_part0 (F := F) d >>= fun _ => main_part1 (F := F) d) = _
  rewrite [part1_chain, part0_chain, Pipeline.chainK_bind_chain]
  chain_rfl

/-- All the operations. -/
abbrev all : List (HloOp τ sig (Elt F)) :=
  ops0 ++ (ops1 ++ (ops2 ++ (ops3 ++ (ops4 ++ (ops5 ++ (ops6 ++ (ops7 ++ (ops8 ++ (ops9 ++ (ops10 ++ (ops11 ++ (ops12 ++ (ops13 ++ (ops14 ++ (ops15 ++ (ops16 ++ (ops17 ++ (ops18 ++ (ops19 ++ (ops20 ++ (ops21 ++ (ops22 ++ (ops23 ++ (ops24 ++ (ops25 ++ (ops26 ++ (ops27 ++ (ops28))))))))))))))))))))))))))))
theorem main_seq (d : Dev nD) : main (F := F) d = StableHlo.seq all := by
  rw [main_chain]
  simp only [all, StableHlo.seq_append]
  rfl

/-! ## The contents after each stretch -/

variable (m : (ℓ : Loc nD τ sig) → Buf (Elt F) ℓ) (d : Dev nD)

abbrev U0 : Valuation τ sig (Elt F) := StableHlo.launchContents m d
def U1 : Valuation τ sig (Elt F) := StableHlo.after ops0 (U0 m d)
def U2 : Valuation τ sig (Elt F) := StableHlo.after ops1 (U1 m d)
def U3 : Valuation τ sig (Elt F) := StableHlo.after ops2 (U2 m d)
def U4 : Valuation τ sig (Elt F) := StableHlo.after ops3 (U3 m d)
def U5 : Valuation τ sig (Elt F) := StableHlo.after ops4 (U4 m d)
def U6 : Valuation τ sig (Elt F) := StableHlo.after ops5 (U5 m d)
def U7 : Valuation τ sig (Elt F) := StableHlo.after ops6 (U6 m d)
def U8 : Valuation τ sig (Elt F) := StableHlo.after ops7 (U7 m d)
def U9 : Valuation τ sig (Elt F) := StableHlo.after ops8 (U8 m d)
def U10 : Valuation τ sig (Elt F) := StableHlo.after ops9 (U9 m d)
def U11 : Valuation τ sig (Elt F) := StableHlo.after ops10 (U10 m d)
def U12 : Valuation τ sig (Elt F) := StableHlo.after ops11 (U11 m d)
def U13 : Valuation τ sig (Elt F) := StableHlo.after ops12 (U12 m d)
def U14 : Valuation τ sig (Elt F) := StableHlo.after ops13 (U13 m d)
def U15 : Valuation τ sig (Elt F) := StableHlo.after ops14 (U14 m d)
def U16 : Valuation τ sig (Elt F) := StableHlo.after ops15 (U15 m d)
def U17 : Valuation τ sig (Elt F) := StableHlo.after ops16 (U16 m d)
def U18 : Valuation τ sig (Elt F) := StableHlo.after ops17 (U17 m d)
def U19 : Valuation τ sig (Elt F) := StableHlo.after ops18 (U18 m d)
def U20 : Valuation τ sig (Elt F) := StableHlo.after ops19 (U19 m d)
def U21 : Valuation τ sig (Elt F) := StableHlo.after ops20 (U20 m d)
def U22 : Valuation τ sig (Elt F) := StableHlo.after ops21 (U21 m d)
def U23 : Valuation τ sig (Elt F) := StableHlo.after ops22 (U22 m d)
def U24 : Valuation τ sig (Elt F) := StableHlo.after ops23 (U23 m d)
def U25 : Valuation τ sig (Elt F) := StableHlo.after ops24 (U24 m d)
def U26 : Valuation τ sig (Elt F) := StableHlo.after ops25 (U25 m d)
def U27 : Valuation τ sig (Elt F) := StableHlo.after ops26 (U26 m d)
def U28 : Valuation τ sig (Elt F) := StableHlo.after ops27 (U27 m d)
def U29 : Valuation τ sig (Elt F) := StableHlo.after ops28 (U28 m d)
theorem U1_of (r : Ref sig .tc) (h : r ∉ written0) : U1 m d r = U0 m d r :=
  StableHlo.after_of_writes_sub ops0 _ writes0 h
theorem U2_of (r : Ref sig .tc) (h : r ∉ written1) : U2 m d r = U1 m d r :=
  StableHlo.after_of_writes_sub ops1 _ writes1 h
theorem U3_of (r : Ref sig .tc) (h : r ∉ written2) : U3 m d r = U2 m d r :=
  StableHlo.after_of_writes_sub ops2 _ writes2 h
theorem U4_of (r : Ref sig .tc) (h : r ∉ written3) : U4 m d r = U3 m d r :=
  StableHlo.after_of_writes_sub ops3 _ writes3 h
theorem U5_of (r : Ref sig .tc) (h : r ∉ written4) : U5 m d r = U4 m d r :=
  StableHlo.after_of_writes_sub ops4 _ writes4 h
theorem U6_of (r : Ref sig .tc) (h : r ∉ written5) : U6 m d r = U5 m d r :=
  StableHlo.after_of_writes_sub ops5 _ writes5 h
theorem U7_of (r : Ref sig .tc) (h : r ∉ written6) : U7 m d r = U6 m d r :=
  StableHlo.after_of_writes_sub ops6 _ writes6 h
theorem U8_of (r : Ref sig .tc) (h : r ∉ written7) : U8 m d r = U7 m d r :=
  StableHlo.after_of_writes_sub ops7 _ writes7 h
theorem U9_of (r : Ref sig .tc) (h : r ∉ written8) : U9 m d r = U8 m d r :=
  StableHlo.after_of_writes_sub ops8 _ writes8 h
theorem U10_of (r : Ref sig .tc) (h : r ∉ written9) : U10 m d r = U9 m d r :=
  StableHlo.after_of_writes_sub ops9 _ writes9 h
theorem U11_of (r : Ref sig .tc) (h : r ∉ written10) : U11 m d r = U10 m d r :=
  StableHlo.after_of_writes_sub ops10 _ writes10 h
theorem U12_of (r : Ref sig .tc) (h : r ∉ written11) : U12 m d r = U11 m d r :=
  StableHlo.after_of_writes_sub ops11 _ writes11 h
theorem U13_of (r : Ref sig .tc) (h : r ∉ written12) : U13 m d r = U12 m d r :=
  StableHlo.after_of_writes_sub ops12 _ writes12 h
theorem U14_of (r : Ref sig .tc) (h : r ∉ written13) : U14 m d r = U13 m d r :=
  StableHlo.after_of_writes_sub ops13 _ writes13 h
theorem U15_of (r : Ref sig .tc) (h : r ∉ written14) : U15 m d r = U14 m d r :=
  StableHlo.after_of_writes_sub ops14 _ writes14 h
theorem U16_of (r : Ref sig .tc) (h : r ∉ written15) : U16 m d r = U15 m d r :=
  StableHlo.after_of_writes_sub ops15 _ writes15 h
theorem U17_of (r : Ref sig .tc) (h : r ∉ written16) : U17 m d r = U16 m d r :=
  StableHlo.after_of_writes_sub ops16 _ writes16 h
theorem U18_of (r : Ref sig .tc) (h : r ∉ written17) : U18 m d r = U17 m d r :=
  StableHlo.after_of_writes_sub ops17 _ writes17 h
theorem U19_of (r : Ref sig .tc) (h : r ∉ written18) : U19 m d r = U18 m d r :=
  StableHlo.after_of_writes_sub ops18 _ writes18 h
theorem U20_of (r : Ref sig .tc) (h : r ∉ written19) : U20 m d r = U19 m d r :=
  StableHlo.after_of_writes_sub ops19 _ writes19 h
theorem U21_of (r : Ref sig .tc) (h : r ∉ written20) : U21 m d r = U20 m d r :=
  StableHlo.after_of_writes_sub ops20 _ writes20 h
theorem U22_of (r : Ref sig .tc) (h : r ∉ written21) : U22 m d r = U21 m d r :=
  StableHlo.after_of_writes_sub ops21 _ writes21 h
theorem U23_of (r : Ref sig .tc) (h : r ∉ written22) : U23 m d r = U22 m d r :=
  StableHlo.after_of_writes_sub ops22 _ writes22 h
theorem U24_of (r : Ref sig .tc) (h : r ∉ written23) : U24 m d r = U23 m d r :=
  StableHlo.after_of_writes_sub ops23 _ writes23 h
theorem U25_of (r : Ref sig .tc) (h : r ∉ written24) : U25 m d r = U24 m d r :=
  StableHlo.after_of_writes_sub ops24 _ writes24 h
theorem U26_of (r : Ref sig .tc) (h : r ∉ written25) : U26 m d r = U25 m d r :=
  StableHlo.after_of_writes_sub ops25 _ writes25 h
theorem U27_of (r : Ref sig .tc) (h : r ∉ written26) : U27 m d r = U26 m d r :=
  StableHlo.after_of_writes_sub ops26 _ writes26 h
theorem U28_of (r : Ref sig .tc) (h : r ∉ written27) : U28 m d r = U27 m d r :=
  StableHlo.after_of_writes_sub ops27 _ writes27 h
theorem U29_of (r : Ref sig .tc) (h : r ∉ written28) : U29 m d r = U28 m d r :=
  StableHlo.after_of_writes_sub ops28 _ writes28 h
theorem after_all : StableHlo.after all (U0 m d) = U29 m d := by
  simp only [all, StableHlo.after_append]
  rfl

end Cert.ReferenceIdeal.Ops

end
-- ==== Proof.ReferenceIdeal.Reads.lean ====
/-
  The reference's stretches read at an index, at exact values.
-/
module

public import proofs.«01_k».proof.Proof.ReferenceIdeal.Ops
public import proofs.«01_k».proof.Proof.Take
public import proofs.«01_k».proof.Proof.Sums
public import proofs.«01_k».proof.Proof.Spec
public import proofs.«01_k».proof.Proof.Lanes
public import Idealize.ShloMosaic.Lib.StableHlo.ReadAt

@[expose] public section

set_option maxRecDepth 16384

noncomputable section

namespace Cert.ReferenceIdeal.Reads

open Cert.ReferenceIdeal Cert.ReferenceIdeal.Gen Cert.ReferenceIdeal.Ops
open Idealize.ShloMosaic Idealize.ShloMosaic.TcCoe Idealize.ShloMosaic.Tactic
open Cert.Take Cert.Spec
open scoped BigOperators

variable (W : Valuation τ sig (Elt Ideal))

theorem sources (p : Fin 16384) : (StableHlo.after ops0 W main_v1 : IVec S16384 32) (ix1 p) = (W main_arg2 : IVec S16384x2 32) (ix2 p 0) := by
  after_reads_at

theorem targets (p : Fin 16384) : (StableHlo.after ops0 W main_v3 : IVec S16384 32) (ix1 p) = (W main_arg2 : IVec S16384x2 32) (ix2 p 1) := by
  after_reads_at

/-- The movie rows of the edges' targets. -/
theorem rows_of_targets (f : Fin 16384 → Fin 16384)
    (hf : ∀ p, (W main_v3 : IVec S16384 32) (ix1 p) = BitVec.ofNat 32 (f p).val) (p : Fin 16384) (y : Fin 32) :
    mat (StableHlo.after ops1 W main_v4 : Vec Ideal S16384x32 .f32) p y = mat (W main_arg1 : Vec Ideal S16384x32 .f32) (f p) y := by
  unfold mat
  after_reads_simp
  simp -implicitDefEqProofs only [StableHlo.TRef.toBuf, StableHlo.TRef.ofBuf, cast_cast, cast_eq]
  clean_types
  exact rows_at _ _ _ _ _ _ _ _ _ _ rfl rfl rfl rfl rfl 16384#32 16383 (by norm_num) rfl _ _ _ f hf p y

/-- The genre rows of the movies' labels. -/
theorem rows_of_labels (f : Fin 16384 → Fin 32)
    (hf : ∀ p, (W main_arg3 : IVec S16384 32) (ix1 p) = BitVec.ofNat 32 (f p).val) (p : Fin 16384) (y : Fin 32) :
    mat (StableHlo.after ops6 W main_v22 : Vec Ideal S16384x32 .f32) p y = mat (W main_arg4 : Vec Ideal S32x32 .f32) (f p) y := by
  unfold mat
  after_reads_simp
  simp -implicitDefEqProofs only [StableHlo.TRef.toBuf, StableHlo.TRef.ofBuf, cast_cast, cast_eq]
  clean_types
  exact rows_at _ _ _ _ _ _ _ _ _ _ rfl rfl rfl rfl rfl 32#32 31 (by norm_num) rfl _ _ _ f hf p y

/-- The neighbours' rows averaged. -/
theorem averaged (a : Fin 4096) (e : Fin 32) :
    mat (StableHlo.after ops2 W main_v15 : Vec Ideal S4096x32 .f32) a e
      = mean (fun p : Fin 16384 => ((W main_v1 : IVec S16384 32) (ix1 p)).toInt) (mat (W main_v4 : Vec Ideal S16384x32 .f32)) a.val e := by
  unfold mat mean
  after_reads_at
  refine congrArg₂ Ideal.div ((Sums.rows_added _ rfl rfl rfl rfl _ _ _ a e).trans ?_)
    (congrArg (max · 1) ((Sums.rows_added _ rfl rfl rfl rfl _ _ _ a 0).trans ?_))
  · pointwise
  · pointwise

theorem first_user (a : Fin 4096) (k : Fin 16) :
    mat (StableHlo.after ops2 W main_v18 : Vec Ideal S4096x16 .f32) a k
      = (∑ e, mat (W main_arg0 : Vec Ideal S4096x32 .f32) a e * mat (W main_arg5 : Vec Ideal S32x16 .f32) e k)
        + ∑ e, mat (StableHlo.after ops2 W main_v15 : Vec Ideal S4096x32 .f32) a e * mat (W main_arg6 : Vec Ideal S32x16 .f32) e k := by
  unfold mat
  after_reads_simp
  clean_types
  pointwise

theorem relu_user1 (a : Fin 4096) (k : Fin 16) :
    mat (StableHlo.after ops3 W main_v19 : Vec Ideal S4096x16 .f32) a k = max (mat (W main_v18 : Vec Ideal S4096x16 .f32) a k) 0 := by
  unfold mat
  after_reads_at

theorem second_user (a : Fin 4096) (k : Fin 16) :
    mat (StableHlo.after ops4 W main_v20 : Vec Ideal S4096x16 .f32) a k
      = ∑ e, mat (W main_v19 : Vec Ideal S4096x16 .f32) a e * mat (W main_arg9 : Vec Ideal S16x16 .f32) e k := by
  unfold mat
  after_reads_at

theorem relu_user2 (a : Fin 4096) (k : Fin 16) :
    mat (StableHlo.after ops5 W main_v21 : Vec Ideal S4096x16 .f32) a k = max (mat (W main_v20 : Vec Ideal S4096x16 .f32) a k) 0 := by
  unfold mat
  after_reads_at

theorem first_movie (a : Fin 16384) (k : Fin 16) :
    mat (StableHlo.after ops7 W main_v25 : Vec Ideal S16384x16 .f32) a k
      = (∑ e, mat (W main_arg1 : Vec Ideal S16384x32 .f32) a e * mat (W main_arg7 : Vec Ideal S32x16 .f32) e k)
        + ∑ e, mat (W main_v22 : Vec Ideal S16384x32 .f32) a e * mat (W main_arg8 : Vec Ideal S32x16 .f32) e k := by
  unfold mat
  after_reads_at

theorem relu_movie1 (a : Fin 16384) (k : Fin 16) :
    mat (StableHlo.after ops8 W main_v26 : Vec Ideal S16384x16 .f32) a k = max (mat (W main_v25 : Vec Ideal S16384x16 .f32) a k) 0 := by
  unfold mat
  after_reads_at

theorem second_movie (a : Fin 16384) (k : Fin 16) :
    mat (StableHlo.after ops9 W main_v27 : Vec Ideal S16384x16 .f32) a k
      = ∑ e, mat (W main_v26 : Vec Ideal S16384x16 .f32) a e * mat (W main_arg10 : Vec Ideal S16x16 .f32) e k := by
  unfold mat
  after_reads_at

theorem relu_movie2 (a : Fin 16384) (k : Fin 16) :
    mat (StableHlo.after ops10 W main_v28 : Vec Ideal S16384x16 .f32) a k = max (mat (W main_v27 : Vec Ideal S16384x16 .f32) a k) 0 := by
  unfold mat
  after_reads_at

theorem clipped (u : Fin 4096) (p : Fin 16384) :
    mat (StableHlo.after ops12 W main_v43 : Vec Ideal S4096x16384 .f32) u p
      = max (sca (W main_cst_6 : Vec Ideal S_ .f32)) (mat (W main_v42 : Vec Ideal S4096x16384 .f32) u p) := by
  unfold mat sca
  after_reads_at
  rfl

theorem gaps (u : Fin 4096) (p : Fin 16384) :
    mat (StableHlo.after ops11 W main_v42 : Vec Ideal S4096x16384 .f32) u p
      = (squares (mat (W main_v21 : Vec Ideal S4096x16 .f32) u) + squares (mat (W main_v28 : Vec Ideal S16384x16 .f32) p))
        - Ideal.ofBits .f32 0x40000000#32 * ∑ j, mat (W main_v21 : Vec Ideal S4096x16 .f32) u j * mat (W main_v28 : Vec Ideal S16384x16 .f32) p j := by
  unfold mat squares
  after_reads_at

theorem user_scores (a : Fin 4096) :
    mat (StableHlo.after ops28 W main_v92 : Vec Ideal S4096x1 .f32) a 0
      = (∑ e, mat (W main_v21 : Vec Ideal S4096x16 .f32) a e * mat (W main_arg11 : Vec Ideal S16x1 .f32) e 0) + vec (W main_arg12 : Vec Ideal S1 .f32) 0 := by
  unfold mat vec
  after_reads_at

theorem movie_scores (a : Fin 16384) :
    mat (StableHlo.after ops28 W main_v96 : Vec Ideal S16384x1 .f32) a 0
      = (∑ e, mat (W main_v28 : Vec Ideal S16384x16 .f32) a e * mat (W main_arg11 : Vec Ideal S16x1 .f32) e 0) + vec (W main_arg12 : Vec Ideal S1 .f32) 0 := by
  unfold mat vec
  after_reads_at

theorem zero_bound : sca (StableHlo.after ops11 W main_cst_6 : Vec Ideal S_ .f32) = 0 := by
  unfold sca
  after_reads_at

theorem distances (u : Fin 4096) (p : Fin 16384) :
    mat (StableHlo.after ops13 W main_v46 : Vec Ideal S4096x16384 .f32) u p
      = Ideal.sqrt (mat (W main_v43 : Vec Ideal S4096x16384 .f32) u p + Ideal.ofBits .f32 0x2B8CBCCC#32) := by
  unfold mat
  after_reads_at

theorem label_rows (p : Fin 16384) (g : Fin 32) :
    (StableHlo.after ops13 W main_v50 : IVec S16384x32 32) (ix2 p g) = (W main_arg3 : IVec S16384 32) (ix1 p) := by
  after_reads_at

theorem genre_numbers (g : Fin 32) : (StableHlo.after ops13 W main_v49 : IVec S1x32 32) (ix2 0 g) = BitVec.ofNat 32 g.val := by
  after_reads_at

theorem genre_mask (p : Fin 16384) (g : Fin 32) :
    (StableHlo.after ops14 W main_v53 : IVec S1x16384x32 1) (ix3 0 p g)
      = IntOp.cmpi .eq ((W main_v50 : IVec S16384x32 32) (ix2 p g)) ((W main_v49 : IVec S1x32 32) (ix2 0 g)) := by
  after_reads_at

theorem distance_column (u : Fin 4096) (p : Fin 16384) :
    (StableHlo.after ops14 W main_v54 : Vec Ideal S4096x16384x1 .f32) (ix3 u p 0) = (W main_v46 : Vec Ideal S4096x16384 .f32) (ix2 u p) := by
  after_reads_at

theorem top_bound : sca (StableHlo.after ops14 W main_cst_8 : Vec Ideal S_ .f32) = ⊤ := by
  unfold sca
  after_reads_at
  exact Lanes.inf_top

theorem masked (u : Fin 4096) (p : Fin 16384) (g : Fin 32) :
    (StableHlo.after ops15 W main_v55 : Vec Ideal S4096x16384x32 .f32) (ix3 u p g)
      = Scalar.select ((W main_v53 : IVec S1x16384x32 1) (ix3 0 p g)) ((W main_v54 : Vec Ideal S4096x16384x1 .f32) (ix3 u p 0))
          ((W main_cst_8 : Vec Ideal S_ .f32) ix0) := by
  after_reads_at
  rfl

theorem by_genre (u : Fin 4096) (g : Fin 32) :
    mat (StableHlo.after ops16 W main_v56 : Vec Ideal S4096x32 .f32) u g
      = Finset.univ.inf fun p : Fin 16384 => cub (W main_v55 : Vec Ideal S4096x16384x32 .f32) u p g := by
  unfold mat cub
  after_reads_simp
  clean_types
  exact Lanes.middle_min _ _ (fun _ => Lanes.inf_top) _ (by decide) _ u g

theorem sorted : (StableHlo.after ops17 W main_v57 : Vec Ideal S4096x32 .f32) = Host.sort S4096x32 1 (comparator_f32_d1 (F := Ideal)) (W main_v56 : Vec Ideal S4096x32 .f32) := by
  after_reads_simp
  rfl

theorem nearest : (StableHlo.after ops18 W main_v58 : IVec S4096 32)
    = fun j => (Host.argReduce (F := Ideal) (φ := .f32) reducer_argmin_f32_i32 (W main_v56 : Vec Ideal S4096x32 .f32) (iotaInDim S4096x32 32 1) (constant (F := Ideal) S_ .f32 0x7F800000#32) (constantI S_ 32 0#32)
        reducesTo_S4096x32_S4096_d1 h_S_ j).2 := by
  after_reads_simp
  rfl

theorem least (u : Fin 4096) : (StableHlo.after ops19 W main_v60 : Vec Ideal S4096 .f32) (ix1 u) = (W main_v57 : Vec Ideal S4096x32 .f32) (ix2 u 0) := by
  after_reads_at

theorem next_least (u : Fin 4096) : (StableHlo.after ops19 W main_v62 : Vec Ideal S4096 .f32) (ix1 u) = (W main_v57 : Vec Ideal S4096x32 .f32) (ix2 u 1) := by
  after_reads_at

theorem label_of_target (f : Fin 16384 → Fin 16384)
    (hf : ∀ p, (W main_v3 : IVec S16384 32) (ix1 p) = BitVec.ofNat 32 (f p).val) (p : Fin 16384) :
    (StableHlo.after ops20 W main_v63 : IVec S16384 32) (ix1 p) = (W main_arg3 : IVec S16384 32) (ix1 (f p)) := by
  after_reads_simp
  simp -implicitDefEqProofs only [StableHlo.TRef.toBuf, StableHlo.TRef.ofBuf, cast_cast, cast_eq]
  clean_types
  exact entries_at _ _ _ _ _ _ _ _ _ rfl rfl rfl rfl 16384#32 16383 (by norm_num) rfl _ _ _ f hf p

theorem nearest_of_source (f : Fin 16384 → Fin 4096)
    (hf : ∀ p, (W main_v1 : IVec S16384 32) (ix1 p) = BitVec.ofNat 32 (f p).val) (p : Fin 16384) :
    (StableHlo.after ops21 W main_v64 : IVec S16384 32) (ix1 p) = (W main_v58 : IVec S4096 32) (ix1 (f p)) := by
  after_reads_simp
  simp -implicitDefEqProofs only [StableHlo.TRef.toBuf, StableHlo.TRef.ofBuf, cast_cast, cast_eq]
  clean_types
  exact entries_at _ _ _ _ _ _ _ _ _ rfl rfl rfl rfl 4096#32 4095 (by norm_num) rfl _ _ _ f hf p

theorem same_genre (p : Fin 16384) : (StableHlo.after ops22 W main_v65 : IVec S16384 1) (ix1 p)
    = IntOp.cmpi .eq ((W main_v64 : IVec S16384 32) (ix1 p)) ((W main_v63 : IVec S16384 32) (ix1 p)) := by
  after_reads_at

theorem next_of_source (f : Fin 16384 → Fin 4096)
    (hf : ∀ p, (W main_v1 : IVec S16384 32) (ix1 p) = BitVec.ofNat 32 (f p).val) (p : Fin 16384) :
    (StableHlo.after ops23 W main_v66 : Vec Ideal S16384 .f32) (ix1 p) = (W main_v62 : Vec Ideal S4096 .f32) (ix1 (f p)) := by
  after_reads_simp
  simp -implicitDefEqProofs only [StableHlo.TRef.toBuf, StableHlo.TRef.ofBuf, cast_cast, cast_eq]
  clean_types
  exact entries_at _ _ _ _ _ _ _ _ _ rfl rfl rfl rfl 4096#32 4095 (by norm_num) rfl _ _ _ f hf p

theorem least_of_source (f : Fin 16384 → Fin 4096)
    (hf : ∀ p, (W main_v1 : IVec S16384 32) (ix1 p) = BitVec.ofNat 32 (f p).val) (p : Fin 16384) :
    (StableHlo.after ops24 W main_v67 : Vec Ideal S16384 .f32) (ix1 p) = (W main_v60 : Vec Ideal S4096 .f32) (ix1 (f p)) := by
  after_reads_simp
  simp -implicitDefEqProofs only [StableHlo.TRef.toBuf, StableHlo.TRef.ofBuf, cast_cast, cast_eq]
  clean_types
  exact entries_at _ _ _ _ _ _ _ _ _ rfl rfl rfl rfl 4096#32 4095 (by norm_num) rfl _ _ _ f hf p

theorem hardest (p : Fin 16384) : (StableHlo.after ops25 W main_v68 : Vec Ideal S16384 .f32) (ix1 p)
    = Scalar.select ((W main_v65 : IVec S16384 1) (ix1 p)) ((W main_v66 : Vec Ideal S16384 .f32) (ix1 p)) ((W main_v67 : Vec Ideal S16384 .f32) (ix1 p)) := by
  after_reads_at

theorem margin (f : Fin 16384 → Fin 4096) (f' : Fin 16384 → Fin 16384)
    (hf : ∀ p, (W main_v1 : IVec S16384 32) (ix1 p) = BitVec.ofNat 32 (f p).val)
    (hf' : ∀ p, (W main_v3 : IVec S16384 32) (ix1 p) = BitVec.ofNat 32 (f' p).val) (p : Fin 16384) :
    vec (StableHlo.after ops26 W main_v85 : Vec Ideal S16384 .f32) p
      = mat (W main_v46 : Vec Ideal S4096x16384 .f32) (f p) (f' p) - vec (W main_v68 : Vec Ideal S16384 .f32) p + 1 := by
  unfold mat vec
  after_reads_simp
  clean_types
  pointwise
  refine congrArg (fun z : EReal => z - (W main_v68 : Vec Ideal S16384 .f32) (ix1 p) + 1)
    (Lanes.gather_cell _ rfl rfl rfl rfl _ _ p (f p) (f' p) ?_ ?_ (by norm_num) (by norm_num))
  · pointwise
    show (StableHlo.after (ops26.take 16) W main_v79 : IVec S16384x1 32) (ix2 p 0) = _
    simp only [List.take]
    after_reads_simp
    clean_types
    exact wrapped_at _ _ _ _ _ p _ (by have := (f p).isLt; omega) (hf p)
  · pointwise
    show (StableHlo.after (ops26.take 16) W main_v80 : IVec S16384x1 32) (ix2 p 0) = _
    simp only [List.take]
    after_reads_simp
    clean_types
    exact wrapped_at _ _ _ _ _ p _ (by have := (f' p).isLt; omega) (hf' p)

theorem relu_margin (p : Fin 16384) :
    vec (StableHlo.after ops27 W main_v86 : Vec Ideal S16384 .f32) p = max (vec (W main_v85 : Vec Ideal S16384 .f32) p) 0 := by
  unfold vec
  after_reads_at

theorem loss : sca (StableHlo.after ops28 W main_v88 : Vec Ideal S_ .f32)
    = Ideal.div (∑ p, vec (W main_v86 : Vec Ideal S16384 .f32) p) (Ideal.ofBits .f32 0x46800000#32) := by
  unfold vec sca
  after_reads_at

end Cert.ReferenceIdeal.Reads
-- ==== Proof.ReferenceIdeal.Results.lean ====
/-
  The reference's results as functions of its arguments: the stretches' reads chained through the contents that they leave.
-/
module

public import proofs.«01_k».proof.Proof.ReferenceIdeal.Reads
public import proofs.«01_k».proof.Proof.Answers

@[expose] public section

set_option maxRecDepth 16384

noncomputable section

namespace Cert.ReferenceIdeal.Results

open Cert.ReferenceIdeal Cert.ReferenceIdeal.Gen Cert.ReferenceIdeal.Ops
open Idealize.ShloMosaic Idealize.ShloMosaic.TcCoe
open Cert.Take Cert.Spec
open scoped BigOperators

variable (m : (ℓ : Loc nD τ sig) → Buf (Elt Ideal) ℓ) (c : Dev nD)

/-! ## What the stretches in between leave as it was -/

theorem kept_arg0_2 : U2 m c main_arg0 = U0 m c main_arg0 :=
  (U2_of m c main_arg0 (by decide)).trans <| U1_of m c main_arg0 (by decide)
theorem kept_arg1_1 : U1 m c main_arg1 = U0 m c main_arg1 :=
  U1_of m c main_arg1 (by decide)
theorem kept_arg1_7 : U7 m c main_arg1 = U0 m c main_arg1 :=
  (U7_of m c main_arg1 (by decide)).trans <| (U6_of m c main_arg1 (by decide)).trans <| (U5_of m c main_arg1 (by decide)).trans <| (U4_of m c main_arg1 (by decide)).trans <| (U3_of m c main_arg1 (by decide)).trans <| (U2_of m c main_arg1 (by decide)).trans <| U1_of m c main_arg1 (by decide)
theorem kept_arg10_9 : U9 m c main_arg10 = U0 m c main_arg10 :=
  (U9_of m c main_arg10 (by decide)).trans <| (U8_of m c main_arg10 (by decide)).trans <| (U7_of m c main_arg10 (by decide)).trans <| (U6_of m c main_arg10 (by decide)).trans <| (U5_of m c main_arg10 (by decide)).trans <| (U4_of m c main_arg10 (by decide)).trans <| (U3_of m c main_arg10 (by decide)).trans <| (U2_of m c main_arg10 (by decide)).trans <| U1_of m c main_arg10 (by decide)
theorem kept_arg11_28 : U28 m c main_arg11 = U0 m c main_arg11 :=
  (U28_of m c main_arg11 (by decide)).trans <| (U27_of m c main_arg11 (by decide)).trans <| (U26_of m c main_arg11 (by decide)).trans <| (U25_of m c main_arg11 (by decide)).trans <| (U24_of m c main_arg11 (by decide)).trans <| (U23_of m c main_arg11 (by decide)).trans <| (U22_of m c main_arg11 (by decide)).trans <| (U21_of m c main_arg11 (by decide)).trans <| (U20_of m c main_arg11 (by decide)).trans <| (U19_of m c main_arg11 (by decide)).trans <| (U18_of m c main_arg11 (by decide)).trans <| (U17_of m c main_arg11 (by decide)).trans <| (U16_of m c main_arg11 (by decide)).trans <| (U15_of m c main_arg11 (by decide)).trans <| (U14_of m c main_arg11 (by decide)).trans <| (U13_of m c main_arg11 (by decide)).trans <| (U12_of m c main_arg11 (by decide)).trans <| (U11_of m c main_arg11 (by decide)).trans <| (U10_of m c main_arg11 (by decide)).trans <| (U9_of m c main_arg11 (by decide)).trans <| (U8_of m c main_arg11 (by decide)).trans <| (U7_of m c main_arg11 (by decide)).trans <| (U6_of m c main_arg11 (by decide)).trans <| (U5_of m c main_arg11 (by decide)).trans <| (U4_of m c main_arg11 (by decide)).trans <| (U3_of m c main_arg11 (by decide)).trans <| (U2_of m c main_arg11 (by decide)).trans <| U1_of m c main_arg11 (by decide)
theorem kept_arg12_28 : U28 m c main_arg12 = U0 m c main_arg12 :=
  (U28_of m c main_arg12 (by decide)).trans <| (U27_of m c main_arg12 (by decide)).trans <| (U26_of m c main_arg12 (by decide)).trans <| (U25_of m c main_arg12 (by decide)).trans <| (U24_of m c main_arg12 (by decide)).trans <| (U23_of m c main_arg12 (by decide)).trans <| (U22_of m c main_arg12 (by decide)).trans <| (U21_of m c main_arg12 (by decide)).trans <| (U20_of m c main_arg12 (by decide)).trans <| (U19_of m c main_arg12 (by decide)).trans <| (U18_of m c main_arg12 (by decide)).trans <| (U17_of m c main_arg12 (by decide)).trans <| (U16_of m c main_arg12 (by decide)).trans <| (U15_of m c main_arg12 (by decide)).trans <| (U14_of m c main_arg12 (by decide)).trans <| (U13_of m c main_arg12 (by decide)).trans <| (U12_of m c main_arg12 (by decide)).trans <| (U11_of m c main_arg12 (by decide)).trans <| (U10_of m c main_arg12 (by decide)).trans <| (U9_of m c main_arg12 (by decide)).trans <| (U8_of m c main_arg12 (by decide)).trans <| (U7_of m c main_arg12 (by decide)).trans <| (U6_of m c main_arg12 (by decide)).trans <| (U5_of m c main_arg12 (by decide)).trans <| (U4_of m c main_arg12 (by decide)).trans <| (U3_of m c main_arg12 (by decide)).trans <| (U2_of m c main_arg12 (by decide)).trans <| U1_of m c main_arg12 (by decide)
theorem kept_arg3_6 : U6 m c main_arg3 = U0 m c main_arg3 :=
  (U6_of m c main_arg3 (by decide)).trans <| (U5_of m c main_arg3 (by decide)).trans <| (U4_of m c main_arg3 (by decide)).trans <| (U3_of m c main_arg3 (by decide)).trans <| (U2_of m c main_arg3 (by decide)).trans <| U1_of m c main_arg3 (by decide)
theorem kept_arg3_13 : U13 m c main_arg3 = U0 m c main_arg3 :=
  (U13_of m c main_arg3 (by decide)).trans <| (U12_of m c main_arg3 (by decide)).trans <| (U11_of m c main_arg3 (by decide)).trans <| (U10_of m c main_arg3 (by decide)).trans <| (U9_of m c main_arg3 (by decide)).trans <| (U8_of m c main_arg3 (by decide)).trans <| (U7_of m c main_arg3 (by decide)).trans <| (U6_of m c main_arg3 (by decide)).trans <| (U5_of m c main_arg3 (by decide)).trans <| (U4_of m c main_arg3 (by decide)).trans <| (U3_of m c main_arg3 (by decide)).trans <| (U2_of m c main_arg3 (by decide)).trans <| U1_of m c main_arg3 (by decide)
theorem kept_arg3_20 : U20 m c main_arg3 = U0 m c main_arg3 :=
  (U20_of m c main_arg3 (by decide)).trans <| (U19_of m c main_arg3 (by decide)).trans <| (U18_of m c main_arg3 (by decide)).trans <| (U17_of m c main_arg3 (by decide)).trans <| (U16_of m c main_arg3 (by decide)).trans <| (U15_of m c main_arg3 (by decide)).trans <| (U14_of m c main_arg3 (by decide)).trans <| (U13_of m c main_arg3 (by decide)).trans <| (U12_of m c main_arg3 (by decide)).trans <| (U11_of m c main_arg3 (by decide)).trans <| (U10_of m c main_arg3 (by decide)).trans <| (U9_of m c main_arg3 (by decide)).trans <| (U8_of m c main_arg3 (by decide)).trans <| (U7_of m c main_arg3 (by decide)).trans <| (U6_of m c main_arg3 (by decide)).trans <| (U5_of m c main_arg3 (by decide)).trans <| (U4_of m c main_arg3 (by decide)).trans <| (U3_of m c main_arg3 (by decide)).trans <| (U2_of m c main_arg3 (by decide)).trans <| U1_of m c main_arg3 (by decide)
theorem kept_arg4_6 : U6 m c main_arg4 = U0 m c main_arg4 :=
  (U6_of m c main_arg4 (by decide)).trans <| (U5_of m c main_arg4 (by decide)).trans <| (U4_of m c main_arg4 (by decide)).trans <| (U3_of m c main_arg4 (by decide)).trans <| (U2_of m c main_arg4 (by decide)).trans <| U1_of m c main_arg4 (by decide)
theorem kept_arg5_2 : U2 m c main_arg5 = U0 m c main_arg5 :=
  (U2_of m c main_arg5 (by decide)).trans <| U1_of m c main_arg5 (by decide)
theorem kept_arg6_2 : U2 m c main_arg6 = U0 m c main_arg6 :=
  (U2_of m c main_arg6 (by decide)).trans <| U1_of m c main_arg6 (by decide)
theorem kept_arg7_7 : U7 m c main_arg7 = U0 m c main_arg7 :=
  (U7_of m c main_arg7 (by decide)).trans <| (U6_of m c main_arg7 (by decide)).trans <| (U5_of m c main_arg7 (by decide)).trans <| (U4_of m c main_arg7 (by decide)).trans <| (U3_of m c main_arg7 (by decide)).trans <| (U2_of m c main_arg7 (by decide)).trans <| U1_of m c main_arg7 (by decide)
theorem kept_arg8_7 : U7 m c main_arg8 = U0 m c main_arg8 :=
  (U7_of m c main_arg8 (by decide)).trans <| (U6_of m c main_arg8 (by decide)).trans <| (U5_of m c main_arg8 (by decide)).trans <| (U4_of m c main_arg8 (by decide)).trans <| (U3_of m c main_arg8 (by decide)).trans <| (U2_of m c main_arg8 (by decide)).trans <| U1_of m c main_arg8 (by decide)
theorem kept_arg9_4 : U4 m c main_arg9 = U0 m c main_arg9 :=
  (U4_of m c main_arg9 (by decide)).trans <| (U3_of m c main_arg9 (by decide)).trans <| (U2_of m c main_arg9 (by decide)).trans <| U1_of m c main_arg9 (by decide)
theorem kept_v1_2 : U2 m c main_v1 = U1 m c main_v1 :=
  U2_of m c main_v1 (by decide)
theorem kept_v1_21 : U21 m c main_v1 = U1 m c main_v1 :=
  (U21_of m c main_v1 (by decide)).trans <| (U20_of m c main_v1 (by decide)).trans <| (U19_of m c main_v1 (by decide)).trans <| (U18_of m c main_v1 (by decide)).trans <| (U17_of m c main_v1 (by decide)).trans <| (U16_of m c main_v1 (by decide)).trans <| (U15_of m c main_v1 (by decide)).trans <| (U14_of m c main_v1 (by decide)).trans <| (U13_of m c main_v1 (by decide)).trans <| (U12_of m c main_v1 (by decide)).trans <| (U11_of m c main_v1 (by decide)).trans <| (U10_of m c main_v1 (by decide)).trans <| (U9_of m c main_v1 (by decide)).trans <| (U8_of m c main_v1 (by decide)).trans <| (U7_of m c main_v1 (by decide)).trans <| (U6_of m c main_v1 (by decide)).trans <| (U5_of m c main_v1 (by decide)).trans <| (U4_of m c main_v1 (by decide)).trans <| (U3_of m c main_v1 (by decide)).trans <| U2_of m c main_v1 (by decide)
theorem kept_v1_23 : U23 m c main_v1 = U1 m c main_v1 :=
  (U23_of m c main_v1 (by decide)).trans <| (U22_of m c main_v1 (by decide)).trans <| (U21_of m c main_v1 (by decide)).trans <| (U20_of m c main_v1 (by decide)).trans <| (U19_of m c main_v1 (by decide)).trans <| (U18_of m c main_v1 (by decide)).trans <| (U17_of m c main_v1 (by decide)).trans <| (U16_of m c main_v1 (by decide)).trans <| (U15_of m c main_v1 (by decide)).trans <| (U14_of m c main_v1 (by decide)).trans <| (U13_of m c main_v1 (by decide)).trans <| (U12_of m c main_v1 (by decide)).trans <| (U11_of m c main_v1 (by decide)).trans <| (U10_of m c main_v1 (by decide)).trans <| (U9_of m c main_v1 (by decide)).trans <| (U8_of m c main_v1 (by decide)).trans <| (U7_of m c main_v1 (by decide)).trans <| (U6_of m c main_v1 (by decide)).trans <| (U5_of m c main_v1 (by decide)).trans <| (U4_of m c main_v1 (by decide)).trans <| (U3_of m c main_v1 (by decide)).trans <| U2_of m c main_v1 (by decide)
theorem kept_v1_24 : U24 m c main_v1 = U1 m c main_v1 :=
  (U24_of m c main_v1 (by decide)).trans <| (U23_of m c main_v1 (by decide)).trans <| (U22_of m c main_v1 (by decide)).trans <| (U21_of m c main_v1 (by decide)).trans <| (U20_of m c main_v1 (by decide)).trans <| (U19_of m c main_v1 (by decide)).trans <| (U18_of m c main_v1 (by decide)).trans <| (U17_of m c main_v1 (by decide)).trans <| (U16_of m c main_v1 (by decide)).trans <| (U15_of m c main_v1 (by decide)).trans <| (U14_of m c main_v1 (by decide)).trans <| (U13_of m c main_v1 (by decide)).trans <| (U12_of m c main_v1 (by decide)).trans <| (U11_of m c main_v1 (by decide)).trans <| (U10_of m c main_v1 (by decide)).trans <| (U9_of m c main_v1 (by decide)).trans <| (U8_of m c main_v1 (by decide)).trans <| (U7_of m c main_v1 (by decide)).trans <| (U6_of m c main_v1 (by decide)).trans <| (U5_of m c main_v1 (by decide)).trans <| (U4_of m c main_v1 (by decide)).trans <| (U3_of m c main_v1 (by decide)).trans <| U2_of m c main_v1 (by decide)
theorem kept_v1_26 : U26 m c main_v1 = U1 m c main_v1 :=
  (U26_of m c main_v1 (by decide)).trans <| (U25_of m c main_v1 (by decide)).trans <| (U24_of m c main_v1 (by decide)).trans <| (U23_of m c main_v1 (by decide)).trans <| (U22_of m c main_v1 (by decide)).trans <| (U21_of m c main_v1 (by decide)).trans <| (U20_of m c main_v1 (by decide)).trans <| (U19_of m c main_v1 (by decide)).trans <| (U18_of m c main_v1 (by decide)).trans <| (U17_of m c main_v1 (by decide)).trans <| (U16_of m c main_v1 (by decide)).trans <| (U15_of m c main_v1 (by decide)).trans <| (U14_of m c main_v1 (by decide)).trans <| (U13_of m c main_v1 (by decide)).trans <| (U12_of m c main_v1 (by decide)).trans <| (U11_of m c main_v1 (by decide)).trans <| (U10_of m c main_v1 (by decide)).trans <| (U9_of m c main_v1 (by decide)).trans <| (U8_of m c main_v1 (by decide)).trans <| (U7_of m c main_v1 (by decide)).trans <| (U6_of m c main_v1 (by decide)).trans <| (U5_of m c main_v1 (by decide)).trans <| (U4_of m c main_v1 (by decide)).trans <| (U3_of m c main_v1 (by decide)).trans <| U2_of m c main_v1 (by decide)
theorem kept_v21_11 : U11 m c main_v21 = U6 m c main_v21 :=
  (U11_of m c main_v21 (by decide)).trans <| (U10_of m c main_v21 (by decide)).trans <| (U9_of m c main_v21 (by decide)).trans <| (U8_of m c main_v21 (by decide)).trans <| U7_of m c main_v21 (by decide)
theorem kept_v21_28 : U28 m c main_v21 = U6 m c main_v21 :=
  (U28_of m c main_v21 (by decide)).trans <| (U27_of m c main_v21 (by decide)).trans <| (U26_of m c main_v21 (by decide)).trans <| (U25_of m c main_v21 (by decide)).trans <| (U24_of m c main_v21 (by decide)).trans <| (U23_of m c main_v21 (by decide)).trans <| (U22_of m c main_v21 (by decide)).trans <| (U21_of m c main_v21 (by decide)).trans <| (U20_of m c main_v21 (by decide)).trans <| (U19_of m c main_v21 (by decide)).trans <| (U18_of m c main_v21 (by decide)).trans <| (U17_of m c main_v21 (by decide)).trans <| (U16_of m c main_v21 (by decide)).trans <| (U15_of m c main_v21 (by decide)).trans <| (U14_of m c main_v21 (by decide)).trans <| (U13_of m c main_v21 (by decide)).trans <| (U12_of m c main_v21 (by decide)).trans <| (U11_of m c main_v21 (by decide)).trans <| (U10_of m c main_v21 (by decide)).trans <| (U9_of m c main_v21 (by decide)).trans <| (U8_of m c main_v21 (by decide)).trans <| U7_of m c main_v21 (by decide)
theorem kept_v28_28 : U28 m c main_v28 = U11 m c main_v28 :=
  (U28_of m c main_v28 (by decide)).trans <| (U27_of m c main_v28 (by decide)).trans <| (U26_of m c main_v28 (by decide)).trans <| (U25_of m c main_v28 (by decide)).trans <| (U24_of m c main_v28 (by decide)).trans <| (U23_of m c main_v28 (by decide)).trans <| (U22_of m c main_v28 (by decide)).trans <| (U21_of m c main_v28 (by decide)).trans <| (U20_of m c main_v28 (by decide)).trans <| (U19_of m c main_v28 (by decide)).trans <| (U18_of m c main_v28 (by decide)).trans <| (U17_of m c main_v28 (by decide)).trans <| (U16_of m c main_v28 (by decide)).trans <| (U15_of m c main_v28 (by decide)).trans <| (U14_of m c main_v28 (by decide)).trans <| (U13_of m c main_v28 (by decide)).trans <| U12_of m c main_v28 (by decide)
theorem kept_v3_20 : U20 m c main_v3 = U1 m c main_v3 :=
  (U20_of m c main_v3 (by decide)).trans <| (U19_of m c main_v3 (by decide)).trans <| (U18_of m c main_v3 (by decide)).trans <| (U17_of m c main_v3 (by decide)).trans <| (U16_of m c main_v3 (by decide)).trans <| (U15_of m c main_v3 (by decide)).trans <| (U14_of m c main_v3 (by decide)).trans <| (U13_of m c main_v3 (by decide)).trans <| (U12_of m c main_v3 (by decide)).trans <| (U11_of m c main_v3 (by decide)).trans <| (U10_of m c main_v3 (by decide)).trans <| (U9_of m c main_v3 (by decide)).trans <| (U8_of m c main_v3 (by decide)).trans <| (U7_of m c main_v3 (by decide)).trans <| (U6_of m c main_v3 (by decide)).trans <| (U5_of m c main_v3 (by decide)).trans <| (U4_of m c main_v3 (by decide)).trans <| (U3_of m c main_v3 (by decide)).trans <| U2_of m c main_v3 (by decide)
theorem kept_v3_26 : U26 m c main_v3 = U1 m c main_v3 :=
  (U26_of m c main_v3 (by decide)).trans <| (U25_of m c main_v3 (by decide)).trans <| (U24_of m c main_v3 (by decide)).trans <| (U23_of m c main_v3 (by decide)).trans <| (U22_of m c main_v3 (by decide)).trans <| (U21_of m c main_v3 (by decide)).trans <| (U20_of m c main_v3 (by decide)).trans <| (U19_of m c main_v3 (by decide)).trans <| (U18_of m c main_v3 (by decide)).trans <| (U17_of m c main_v3 (by decide)).trans <| (U16_of m c main_v3 (by decide)).trans <| (U15_of m c main_v3 (by decide)).trans <| (U14_of m c main_v3 (by decide)).trans <| (U13_of m c main_v3 (by decide)).trans <| (U12_of m c main_v3 (by decide)).trans <| (U11_of m c main_v3 (by decide)).trans <| (U10_of m c main_v3 (by decide)).trans <| (U9_of m c main_v3 (by decide)).trans <| (U8_of m c main_v3 (by decide)).trans <| (U7_of m c main_v3 (by decide)).trans <| (U6_of m c main_v3 (by decide)).trans <| (U5_of m c main_v3 (by decide)).trans <| (U4_of m c main_v3 (by decide)).trans <| (U3_of m c main_v3 (by decide)).trans <| U2_of m c main_v3 (by decide)
theorem kept_v46_26 : U26 m c main_v46 = U14 m c main_v46 :=
  (U26_of m c main_v46 (by decide)).trans <| (U25_of m c main_v46 (by decide)).trans <| (U24_of m c main_v46 (by decide)).trans <| (U23_of m c main_v46 (by decide)).trans <| (U22_of m c main_v46 (by decide)).trans <| (U21_of m c main_v46 (by decide)).trans <| (U20_of m c main_v46 (by decide)).trans <| (U19_of m c main_v46 (by decide)).trans <| (U18_of m c main_v46 (by decide)).trans <| (U17_of m c main_v46 (by decide)).trans <| (U16_of m c main_v46 (by decide)).trans <| U15_of m c main_v46 (by decide)
theorem kept_v56_18 : U18 m c main_v56 = U17 m c main_v56 :=
  U18_of m c main_v56 (by decide)
theorem kept_v57_19 : U19 m c main_v57 = U18 m c main_v57 :=
  U19_of m c main_v57 (by decide)
theorem kept_v58_21 : U21 m c main_v58 = U19 m c main_v58 :=
  (U21_of m c main_v58 (by decide)).trans <| U20_of m c main_v58 (by decide)
theorem kept_v60_24 : U24 m c main_v60 = U20 m c main_v60 :=
  (U24_of m c main_v60 (by decide)).trans <| (U23_of m c main_v60 (by decide)).trans <| (U22_of m c main_v60 (by decide)).trans <| U21_of m c main_v60 (by decide)
theorem kept_v62_23 : U23 m c main_v62 = U20 m c main_v62 :=
  (U23_of m c main_v62 (by decide)).trans <| (U22_of m c main_v62 (by decide)).trans <| U21_of m c main_v62 (by decide)
theorem kept_v63_22 : U22 m c main_v63 = U21 m c main_v63 :=
  U22_of m c main_v63 (by decide)
theorem kept_v65_25 : U25 m c main_v65 = U23 m c main_v65 :=
  (U25_of m c main_v65 (by decide)).trans <| U24_of m c main_v65 (by decide)
theorem kept_v66_25 : U25 m c main_v66 = U24 m c main_v66 :=
  U25_of m c main_v66 (by decide)

variable (s : Fin 16384 → Fin 4096) (d : Fin 16384 → Fin 16384) (l : Fin 16384 → Fin 32)

/-- The reference's arguments. -/
abbrev args : Inputs :=
  inputs (U0 m c main_arg0) (U0 m c main_arg1) (U0 m c main_arg4) (U0 m c main_arg5) (U0 m c main_arg6) (U0 m c main_arg7)
    (U0 m c main_arg8) (U0 m c main_arg9) (U0 m c main_arg10) (U0 m c main_arg11) (U0 m c main_arg12) s d l

section Edges

variable (hs : ∀ p, (U0 m c main_arg2 : IVec S16384x2 32) (ix2 p 0) = BitVec.ofNat 32 (s p).val)
variable (hd : ∀ p, (U0 m c main_arg2 : IVec S16384x2 32) (ix2 p 1) = BitVec.ofNat 32 (d p).val)
variable (hl : ∀ p, (U0 m c main_arg3 : IVec S16384 32) (ix1 p) = BitVec.ofNat 32 (l p).val)

include hs in
theorem source (p : Fin 16384) : (U1 m c main_v1 : IVec S16384 32) (ix1 p) = BitVec.ofNat 32 (s p).val :=
  (Reads.sources (U0 m c) p).trans (hs p)

include hd in
theorem target (p : Fin 16384) : (U1 m c main_v3 : IVec S16384 32) (ix1 p) = BitVec.ofNat 32 (d p).val :=
  (Reads.targets (U0 m c) p).trans (hd p)

include hd in
theorem neighbour (p : Fin 16384) (y : Fin 32) :
    mat (U2 m c main_v4 : Vec Ideal S16384x32 .f32) p y = mat (U0 m c main_arg1 : Vec Ideal S16384x32 .f32) (d p) y :=
  (Reads.rows_of_targets (U1 m c) d (target m c d hd) p y).trans (congrFun (kept_arg1_1 m c) _)

include hs hd in
/-- The users' rows. -/
theorem user (u : Fin 4096) (j : Fin 16) : mat (U6 m c main_v21 : Vec Ideal S4096x16 .f32) u j = (args m c s d l).user u j := by
  have e21 : mat (U6 m c main_v21 : Vec Ideal S4096x16 .f32) u j = max (mat (U5 m c main_v20 : Vec Ideal S4096x16 .f32) u j) 0 :=
    Reads.relu_user2 (U5 m c) u j
  have e20 : mat (U5 m c main_v20 : Vec Ideal S4096x16 .f32) u j
      = ∑ e, mat (U4 m c main_v19 : Vec Ideal S4096x16 .f32) u e * mat (U4 m c main_arg9 : Vec Ideal S16x16 .f32) e j :=
    Reads.second_user (U4 m c) u j
  have e19 : ∀ e, mat (U4 m c main_v19 : Vec Ideal S4096x16 .f32) u e = max (mat (U3 m c main_v18 : Vec Ideal S4096x16 .f32) u e) 0 :=
    fun e => Reads.relu_user1 (U3 m c) u e
  have e18 : ∀ k, mat (U3 m c main_v18 : Vec Ideal S4096x16 .f32) u k
      = (∑ e, mat (U2 m c main_arg0 : Vec Ideal S4096x32 .f32) u e * mat (U2 m c main_arg5 : Vec Ideal S32x16 .f32) e k)
        + ∑ e, mat (U3 m c main_v15 : Vec Ideal S4096x32 .f32) u e * mat (U2 m c main_arg6 : Vec Ideal S32x16 .f32) e k :=
    fun k => Reads.first_user (U2 m c) u k
  have e15 : ∀ e, mat (U3 m c main_v15 : Vec Ideal S4096x32 .f32) u e
      = mean (fun p : Fin 16384 => ((U2 m c main_v1 : IVec S16384 32) (ix1 p)).toInt) (mat (U2 m c main_v4 : Vec Ideal S16384x32 .f32)) u.val e :=
    fun e => Reads.averaged (U2 m c) u e
  have w1 : (fun p : Fin 16384 => ((U2 m c main_v1 : IVec S16384 32) (ix1 p)).toInt) = fun p => ((s p).val : ℤ) := funext fun p => by
    rw [(kept_v1_2 m c), source m c s hs p, toInt_word (by omega)]
  have w4 : mat (U2 m c main_v4 : Vec Ideal S16384x32 .f32) = fun p => mat (U0 m c main_arg1 : Vec Ideal S16384x32 .f32) (d p) :=
    funext fun p => funext fun y => neighbour m c d hd p y
  rw [e21, e20]
  simp only [e19, e18, e15, w1, w4]
  rw [(kept_arg9_4 m c), (kept_arg0_2 m c), (kept_arg5_2 m c), (kept_arg6_2 m c)]
  rfl

include hl in
/-- The movies' rows. -/
theorem movie (p : Fin 16384) (j : Fin 16) : mat (U11 m c main_v28 : Vec Ideal S16384x16 .f32) p j = (args m c s d l).movie p j := by
  have e28 : mat (U11 m c main_v28 : Vec Ideal S16384x16 .f32) p j = max (mat (U10 m c main_v27 : Vec Ideal S16384x16 .f32) p j) 0 :=
    Reads.relu_movie2 (U10 m c) p j
  have e27 : mat (U10 m c main_v27 : Vec Ideal S16384x16 .f32) p j
      = ∑ e, mat (U9 m c main_v26 : Vec Ideal S16384x16 .f32) p e * mat (U9 m c main_arg10 : Vec Ideal S16x16 .f32) e j :=
    Reads.second_movie (U9 m c) p j
  have e26 : ∀ e, mat (U9 m c main_v26 : Vec Ideal S16384x16 .f32) p e = max (mat (U8 m c main_v25 : Vec Ideal S16384x16 .f32) p e) 0 :=
    fun e => Reads.relu_movie1 (U8 m c) p e
  have e25 : ∀ k, mat (U8 m c main_v25 : Vec Ideal S16384x16 .f32) p k
      = (∑ e, mat (U7 m c main_arg1 : Vec Ideal S16384x32 .f32) p e * mat (U7 m c main_arg7 : Vec Ideal S32x16 .f32) e k)
        + ∑ e, mat (U7 m c main_v22 : Vec Ideal S16384x32 .f32) p e * mat (U7 m c main_arg8 : Vec Ideal S32x16 .f32) e k :=
    fun k => Reads.first_movie (U7 m c) p k
  have e22 : ∀ e, mat (U7 m c main_v22 : Vec Ideal S16384x32 .f32) p e = mat (U6 m c main_arg4 : Vec Ideal S32x32 .f32) (l p) e :=
    fun e => Reads.rows_of_labels (U6 m c) l (fun q => by rw [(kept_arg3_6 m c)]; exact hl q) p e
  rw [e28, e27]
  simp only [e26, e25, e22]
  rw [(kept_arg10_9 m c), (kept_arg1_7 m c), (kept_arg7_7 m c), (kept_arg8_7 m c), (kept_arg4_6 m c)]
  rfl

include hs hd hl in
/-- The distances. -/
theorem dist (u : Fin 4096) (p : Fin 16384) : mat (U14 m c main_v46 : Vec Ideal S4096x16384 .f32) u p = (args m c s d l).dist u p := by
  have e46 : mat (U14 m c main_v46 : Vec Ideal S4096x16384 .f32) u p
      = Ideal.sqrt (mat (U13 m c main_v43 : Vec Ideal S4096x16384 .f32) u p + Ideal.ofBits .f32 0x2B8CBCCC#32) := Reads.distances (U13 m c) u p
  have e43 : mat (U13 m c main_v43 : Vec Ideal S4096x16384 .f32) u p
      = max (sca (U12 m c main_cst_6 : Vec Ideal S_ .f32)) (mat (U12 m c main_v42 : Vec Ideal S4096x16384 .f32) u p) := Reads.clipped (U12 m c) u p
  have e0 : sca (U12 m c main_cst_6 : Vec Ideal S_ .f32) = 0 := Reads.zero_bound (U11 m c)
  have e42 : mat (U12 m c main_v42 : Vec Ideal S4096x16384 .f32) u p
      = (squares (mat (U11 m c main_v21 : Vec Ideal S4096x16 .f32) u) + squares (mat (U11 m c main_v28 : Vec Ideal S16384x16 .f32) p))
        - Ideal.ofBits .f32 0x40000000#32 * ∑ j, mat (U11 m c main_v21 : Vec Ideal S4096x16 .f32) u j * mat (U11 m c main_v28 : Vec Ideal S16384x16 .f32) p j :=
    Reads.gaps (U11 m c) u p
  have hu : mat (U11 m c main_v21 : Vec Ideal S4096x16 .f32) u = (args m c s d l).user u := funext fun j => by
    rw [(kept_v21_11 m c)]; exact user m c s d l hs hd u j
  have hm : mat (U11 m c main_v28 : Vec Ideal S16384x16 .f32) p = (args m c s d l).movie p := funext fun j => movie m c s d l hl p j
  rw [e46, e43, e0, e42, hu, hm]
  rfl

include hs hd hl in
/-- The least distances by genre. -/
theorem genres : (U17 m c main_v56 : Vec Ideal S4096x32 .f32) = (args m c s d l).genres := by
  have key : ∀ (u : Fin 4096) (g : Fin 32), mat (U17 m c main_v56 : Vec Ideal S4096x32 .f32) u g = (args m c s d l).genre u g := fun u g => by
    refine (Reads.by_genre (U16 m c) u g).trans (Finset.inf_congr rfl fun p _ => ?_)
    refine (Reads.masked (U15 m c) u p g).trans ?_
    have e53 : (U15 m c main_v53 : IVec S1x16384x32 1) (ix3 0 p g)
        = IntOp.cmpi .eq ((U14 m c main_v50 : IVec S16384x32 32) (ix2 p g)) ((U14 m c main_v49 : IVec S1x32 32) (ix2 0 g)) :=
      Reads.genre_mask (U14 m c) p g
    have e50 : (U14 m c main_v50 : IVec S16384x32 32) (ix2 p g) = (U13 m c main_arg3 : IVec S16384 32) (ix1 p) := Reads.label_rows (U13 m c) p g
    have e49 : (U14 m c main_v49 : IVec S1x32 32) (ix2 0 g) = BitVec.ofNat 32 g.val := Reads.genre_numbers (U13 m c) g
    have e54 : (U15 m c main_v54 : Vec Ideal S4096x16384x1 .f32) (ix3 u p 0) = (args m c s d l).dist u p :=
      (Reads.distance_column (U14 m c) u p).trans (dist m c s d l hs hd hl u p)
    have e8 : (U15 m c main_cst_8 : Vec Ideal S_ .f32) ix0 = (⊤ : EReal) := Reads.top_bound (U14 m c)
    have e3 : (U13 m c main_arg3 : IVec S16384 32) (ix1 p) = BitVec.ofNat 32 (l p).val := by rw [(kept_arg3_13 m c)]; exact hl p
    rw [e53, e50, e49, e54, e8, e3, select_word]
    simp only [genre_word]
    rfl
  funext i
  have hi : i = ix2 (i 0) (i 1) := (ix2_eta i).symm
  rw [hi]
  exact key (i 0) (i 1)

include hs hd hl in
/-- The hardest negative of an edge. -/
theorem negative (a : Fin 4096 → Fin 32) (ha : Nearest (args m c s d l).genres a) (p : Fin 16384) :
    vec (U26 m c main_v68 : Vec Ideal S16384 .f32) p = (args m c s d l).negative a p := by
  have e68 : vec (U26 m c main_v68 : Vec Ideal S16384 .f32) p = Scalar.select ((U25 m c main_v65 : IVec S16384 1) (ix1 p))
      (vec (U25 m c main_v66 : Vec Ideal S16384 .f32) p) (vec (U25 m c main_v67 : Vec Ideal S16384 .f32) p) := Reads.hardest (U25 m c) p
  have e65 : (U23 m c main_v65 : IVec S16384 1) (ix1 p)
      = IntOp.cmpi .eq ((U22 m c main_v64 : IVec S16384 32) (ix1 p)) ((U22 m c main_v63 : IVec S16384 32) (ix1 p)) := Reads.same_genre (U22 m c) p
  have e64 : (U22 m c main_v64 : IVec S16384 32) (ix1 p) = (U21 m c main_v58 : IVec S4096 32) (ix1 (s p)) :=
    Reads.nearest_of_source (U21 m c) s (fun q => by rw [(kept_v1_21 m c)]; exact source m c s hs q) p
  have e63 : (U21 m c main_v63 : IVec S16384 32) (ix1 p) = (U20 m c main_arg3 : IVec S16384 32) (ix1 (d p)) :=
    Reads.label_of_target (U20 m c) d (fun q => by rw [(kept_v3_20 m c)]; exact target m c d hd q) p
  have e58 : (U19 m c main_v58 : IVec S4096 32) (ix1 (s p)) = BitVec.ofNat 32 (a (s p)).val := by
    refine (congrFun (Reads.nearest (U18 m c)) _).trans ?_
    rw [(kept_v56_18 m c), genres m c s d l hs hd hl]
    exact (ha (s p)).1
  have e66 : vec (U24 m c main_v66 : Vec Ideal S16384 .f32) p = vec (U23 m c main_v62 : Vec Ideal S4096 .f32) (s p) :=
    Reads.next_of_source (U23 m c) s (fun q => by rw [(kept_v1_23 m c)]; exact source m c s hs q) p
  have e67 : vec (U25 m c main_v67 : Vec Ideal S16384 .f32) p = vec (U24 m c main_v60 : Vec Ideal S4096 .f32) (s p) :=
    Reads.least_of_source (U24 m c) s (fun q => by rw [(kept_v1_24 m c)]; exact source m c s hs q) p
  have e60 : vec (U20 m c main_v60 : Vec Ideal S4096 .f32) (s p) = mat (U19 m c main_v57 : Vec Ideal S4096x32 .f32) (s p) 0 :=
    Reads.least (U19 m c) (s p)
  have e62 : vec (U20 m c main_v62 : Vec Ideal S4096 .f32) (s p) = mat (U19 m c main_v57 : Vec Ideal S4096x32 .f32) (s p) 1 :=
    Reads.next_least (U19 m c) (s p)
  have e57 : (U18 m c main_v57 : Vec Ideal S4096x32 .f32) = Host.sort S4096x32 1 (comparator_f32_d1 (F := Ideal)) (args m c s d l).genres := by
    refine (Reads.sorted (U17 m c)).trans ?_
    rw [genres m c s d l hs hd hl]
  obtain ⟨σ, hσ, hv, hm⟩ := Lanes.sorted_row (n := 4096) (k := 32) (args m c s d l).genres (s p)
  obtain ⟨f0, f1⟩ := Lanes.first_two (k := 30) (fun g => mat (args m c s d l).genres (s p) g) σ hσ hm (a (s p)) (ha (s p)).2
  have v0 : mat (U18 m c main_v57 : Vec Ideal S4096x32 .f32) (s p) 0 = Finset.univ.inf ((args m c s d l).genre (s p)) := by
    rw [e57]; exact (hv 0).trans f0
  have v1 : mat (U18 m c main_v57 : Vec Ideal S4096x32 .f32) (s p) 1
      = Finset.univ.inf fun g => if g = a (s p) then ⊤ else (args m c s d l).genre (s p) g := by
    rw [e57]; exact (hv 1).trans f1
  have e3 : (U20 m c main_arg3 : IVec S16384 32) (ix1 (d p)) = BitVec.ofNat 32 (l (d p)).val := by rw [(kept_arg3_20 m c)]; exact hl (d p)
  rw [e68, (kept_v65_25 m c), (kept_v66_25 m c), e65, e64, (kept_v63_22 m c), e63, (kept_v58_21 m c), e58, e3, e66, (kept_v62_23 m c), e62, e67,
    (kept_v60_24 m c), e60, (kept_v57_19 m c), v0, v1, select_word]
  simp only [genre_word]
  rfl

include hs hd hl in
/-- The loss. -/
theorem loss (a : Fin 4096 → Fin 32) (ha : Nearest (args m c s d l).genres a) :
    sca (U29 m c main_v88 : Vec Ideal S_ .f32) = (args m c s d l).loss a := by
  refine (Reads.loss (U28 m c)).trans ?_
  have e : ∀ p, vec (U28 m c main_v86 : Vec Ideal S16384 .f32) p
      = max ((args m c s d l).dist (s p) (d p) - (args m c s d l).negative a p + 1) 0 := fun p => by
    have e86 : vec (U28 m c main_v86 : Vec Ideal S16384 .f32) p = max (vec (U27 m c main_v85 : Vec Ideal S16384 .f32) p) 0 := Reads.relu_margin (U27 m c) p
    have e85 : vec (U27 m c main_v85 : Vec Ideal S16384 .f32) p
        = mat (U26 m c main_v46 : Vec Ideal S4096x16384 .f32) (s p) (d p) - vec (U26 m c main_v68 : Vec Ideal S16384 .f32) p + 1 :=
      Reads.margin (U26 m c) s d (fun q => by rw [(kept_v1_26 m c)]; exact source m c s hs q)
        (fun q => by rw [(kept_v3_26 m c)]; exact target m c d hd q) p
    rw [e86, e85, (kept_v46_26 m c), dist m c s d l hs hd hl, negative m c s d l hs hd hl a ha]
  simp only [e]
  rfl

include hs hd in
/-- The users' scores. -/
theorem user_scores (u : Fin 4096) : mat (U29 m c main_v92 : Vec Ideal S4096x1 .f32) u 0 = (args m c s d l).userScore u := by
  refine (Reads.user_scores (U28 m c) u).trans ?_
  have e : ∀ j, mat (U28 m c main_v21 : Vec Ideal S4096x16 .f32) u j = (args m c s d l).user u j := fun j => by
    rw [(kept_v21_28 m c)]; exact user m c s d l hs hd u j
  simp only [e]
  rw [(kept_arg11_28 m c), (kept_arg12_28 m c)]
  rfl

include hl in
/-- The movies' scores. -/
theorem movie_scores (p : Fin 16384) : mat (U29 m c main_v96 : Vec Ideal S16384x1 .f32) p 0 = (args m c s d l).movieScore p := by
  refine (Reads.movie_scores (U28 m c) p).trans ?_
  have e : ∀ j, mat (U28 m c main_v28 : Vec Ideal S16384x16 .f32) p j = (args m c s d l).movie p j := fun j => by
    rw [(kept_v28_28 m c)]; exact movie m c s d l hl p j
  simp only [e]
  rw [(kept_arg11_28 m c), (kept_arg12_28 m c)]
  rfl

end Edges

end Cert.ReferenceIdeal.Results

end
-- ==== Proof.ReferenceIdeal.Run.lean ====
/-
  The reference's run: every buffer ends at the contents after the last stretch, and the arguments are as they were.
-/
module

public import proofs.«01_k».proof.Proof.ReferenceIdeal.Ops

@[expose] public section

set_option maxRecDepth 16384

namespace Cert.ReferenceIdeal.Run

open Cert.ReferenceIdeal Cert.ReferenceIdeal.Gen Cert.ReferenceIdeal.Ops
open Idealize.ShloMosaic Idealize.ShloMosaic.TcCoe Idealize.SL.Sem

variable (m : (ℓ : Loc nD τ sig) → Buf (Elt Ideal) ℓ)

theorem run_main (g : Dev nD → PrngReg) :
    θ_run (defs (F := Ideal)) (onTc (τ := τ) (main (F := Ideal))) ⟨m, fun _ => 0, g⟩ fun r =>
      ∀ (d : Dev nD) (b : Ref sig .tc), r.2.mem ((d.tc : Thread nD τ).loc b) = U29 m d b := by
  refine θ_run_mono (StableHlo.run_seq (by decide) (by decide) (defs (F := Ideal)) (main (F := Ideal)) (fun _ => all) main_seq (fun _ => by simp) m g) ?_
  intro r hr d b
  rw [← after_all]
  exact hr d b

/-- The buffers that the reference writes. -/
abbrev written : List (Ref sig .tc) := written0 ++ written1 ++ written2 ++ written3 ++ written4 ++ written5 ++ written6 ++ written7 ++ written8 ++ written9 ++ written10 ++ written11 ++ written12 ++ written13 ++ written14 ++ written15 ++ written16 ++ written17 ++ written18 ++ written19 ++ written20 ++ written21 ++ written22 ++ written23 ++ written24 ++ written25 ++ written26 ++ written27 ++ written28

theorem kept (d : Dev nD) (r : Ref sig .tc) (h : r ∉ written) : U29 m d r = U0 m d r := by
  simp only [written, List.mem_append, not_or] at h
  obtain ⟨⟨⟨⟨⟨⟨⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩, h25⟩, h26⟩, h27⟩, h28⟩ := h
  exact (U29_of m d r h28).trans <| (U28_of m d r h27).trans <| (U27_of m d r h26).trans <| (U26_of m d r h25).trans <| (U25_of m d r h24).trans <| (U24_of m d r h23).trans <| (U23_of m d r h22).trans <| (U22_of m d r h21).trans <| (U21_of m d r h20).trans <| (U20_of m d r h19).trans <| (U19_of m d r h18).trans <| (U18_of m d r h17).trans <| (U17_of m d r h16).trans <| (U16_of m d r h15).trans <| (U15_of m d r h14).trans <| (U14_of m d r h13).trans <| (U13_of m d r h12).trans <| (U12_of m d r h11).trans <| (U11_of m d r h10).trans <| (U10_of m d r h9).trans <| (U9_of m d r h8).trans <| (U8_of m d r h7).trans <| (U7_of m d r h6).trans <| (U6_of m d r h5).trans <| (U5_of m d r h4).trans <| (U4_of m d r h3).trans <| (U3_of m d r h2).trans <| (U2_of m d r h1).trans <| U1_of m d r h0

end Cert.ReferenceIdeal.Run
-- ==== Proof.Algebra.lean ====
/-
  The value claim: on arguments in range and finite, the kernel at exact values returns what the reference returns.
-/
module

public import proofs.«01_k».proof.Proof.KernelIdeal.Results
public import proofs.«01_k».proof.Proof.ReferenceIdeal.Results
public import proofs.«01_k».proof.Proof.ReferenceIdeal.Run
public import proofs.«01_k».proof.Proof.Pre.All
public import proofs.«01_k».proof.Proof.Labels
public import proofs.«01_k».proof.Proof.Gen.KernelIdeal
public import proofs.«01_k».proof.Proof.Gen.ReferenceIdeal

@[expose] public section

set_option maxRecDepth 16384

namespace Cert.Algebra

open Idealize.ShloMosaic Idealize.ShloMosaic.TcCoe Idealize.SL.Sem
open Cert.Spec

abbrev MemK := (ℓ : Loc Cert.KernelIdeal.nD Cert.KernelIdeal.τ Cert.KernelIdeal.sig) → Buf (Elt Ideal) ℓ
abbrev MemR := (ℓ : Loc Cert.ReferenceIdeal.nD Cert.ReferenceIdeal.τ Cert.ReferenceIdeal.sig) → Buf (Elt Ideal) ℓ

/-- The two memories hold the same arguments. -/
def Agree (m : MemK) (m' : MemR) (c : Dev Cert.KernelIdeal.nD) : Prop :=
m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)

theorem args_eq (m : MemK) (m' : MemR) (c : Dev Cert.KernelIdeal.nD) (h : Agree m m' c)
    (s : Fin 16384 → Fin 4096) (d : Fin 16384 → Fin 16384) (l : Fin 16384 → Fin 32) :
    Cert.ReferenceIdeal.Results.args m' c s d l = Cert.KernelIdeal.Results.args m c s d l := by
  obtain ⟨h0, h1, h2, h3, h4, h5, h6, h7, h8, h9, h10, h11, h12⟩ := h
  have e0 : Cert.ReferenceIdeal.Ops.U0 m' c Cert.ReferenceIdeal.main_arg0 = Cert.KernelIdeal.Results.K0 m c Cert.KernelIdeal.main_arg0 := h0
  have e1 : Cert.ReferenceIdeal.Ops.U0 m' c Cert.ReferenceIdeal.main_arg1 = Cert.KernelIdeal.Results.K0 m c Cert.KernelIdeal.main_arg1 := h1
  have e4 : Cert.ReferenceIdeal.Ops.U0 m' c Cert.ReferenceIdeal.main_arg4 = Cert.KernelIdeal.Results.K0 m c Cert.KernelIdeal.main_arg4 := h4
  have e5 : Cert.ReferenceIdeal.Ops.U0 m' c Cert.ReferenceIdeal.main_arg5 = Cert.KernelIdeal.Results.K0 m c Cert.KernelIdeal.main_arg5 := h5
  have e6 : Cert.ReferenceIdeal.Ops.U0 m' c Cert.ReferenceIdeal.main_arg6 = Cert.KernelIdeal.Results.K0 m c Cert.KernelIdeal.main_arg6 := h6
  have e7 : Cert.ReferenceIdeal.Ops.U0 m' c Cert.ReferenceIdeal.main_arg7 = Cert.KernelIdeal.Results.K0 m c Cert.KernelIdeal.main_arg7 := h7
  have e8 : Cert.ReferenceIdeal.Ops.U0 m' c Cert.ReferenceIdeal.main_arg8 = Cert.KernelIdeal.Results.K0 m c Cert.KernelIdeal.main_arg8 := h8
  have e9 : Cert.ReferenceIdeal.Ops.U0 m' c Cert.ReferenceIdeal.main_arg9 = Cert.KernelIdeal.Results.K0 m c Cert.KernelIdeal.main_arg9 := h9
  have e10 : Cert.ReferenceIdeal.Ops.U0 m' c Cert.ReferenceIdeal.main_arg10 = Cert.KernelIdeal.Results.K0 m c Cert.KernelIdeal.main_arg10 := h10
  have e11 : Cert.ReferenceIdeal.Ops.U0 m' c Cert.ReferenceIdeal.main_arg11 = Cert.KernelIdeal.Results.K0 m c Cert.KernelIdeal.main_arg11 := h11
  have e12 : Cert.ReferenceIdeal.Ops.U0 m' c Cert.ReferenceIdeal.main_arg12 = Cert.KernelIdeal.Results.K0 m c Cert.KernelIdeal.main_arg12 := h12
  unfold Cert.ReferenceIdeal.Results.args
  rw [e0, e1, e4, e5, e6, e7, e8, e9, e10, e11, e12]

/-- The three results, where the precondition holds. -/
theorem same (m : MemK) (m' : MemR) (c : Dev Cert.KernelIdeal.nD) (h : Agree m m' c)
    (hw : Cert.KernelIdeal.Region.Mine.WordsOk (Cert.KernelIdeal.Run.conts (Cert.KernelIdeal.Run.W10 m)))
    (good : Cert.Pre.Good (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) :
    Cert.ReferenceIdeal.Ops.U29 m' c Cert.ReferenceIdeal.main_v92 = Cert.KernelIdeal.Results.K32 m hw c Cert.KernelIdeal.main_v121
      ∧ Cert.ReferenceIdeal.Ops.U29 m' c Cert.ReferenceIdeal.main_v96 = Cert.KernelIdeal.Results.K32 m hw c Cert.KernelIdeal.main_v125
      ∧ Cert.ReferenceIdeal.Ops.U29 m' c Cert.ReferenceIdeal.main_v88 = Cert.KernelIdeal.Results.K32 m hw c Cert.KernelIdeal.main_v117 := by
  obtain ⟨l, hl⟩ := good.labels
  obtain ⟨s, hs⟩ := good.sources
  obtain ⟨d, hd⟩ := good.targets
  have eq := args_eq m m' c h s d l
  have h2 := h.2.2.1
  have h3 := h.2.2.2.1
  have hs' : ∀ p, (Cert.ReferenceIdeal.Ops.U0 m' c Cert.ReferenceIdeal.main_arg2 : IVec Cert.ReferenceIdeal.S16384x2 32) (ix2 p 0) = BitVec.ofNat 32 (s p).val :=
    fun p => (congrFun h2 _).trans (hs p)
  have hd' : ∀ p, (Cert.ReferenceIdeal.Ops.U0 m' c Cert.ReferenceIdeal.main_arg2 : IVec Cert.ReferenceIdeal.S16384x2 32) (ix2 p 1) = BitVec.ofNat 32 (d p).val :=
    fun p => (congrFun h2 _).trans (hd p)
  have hl' : ∀ p, (Cert.ReferenceIdeal.Ops.U0 m' c Cert.ReferenceIdeal.main_arg3 : IVec Cert.ReferenceIdeal.S16384 32) (ix1 p) = BitVec.ofNat 32 (l p).val :=
    fun p => (congrFun h3 _).trans (hl p)
  have hF := Cert.Labels.returns_ideal
  have hfin : (Cert.KernelIdeal.Results.args m c s d l).Real :=
    ⟨fun _ _ => good.users _, fun _ _ => good.movies _, fun _ _ => good.genres _, fun _ _ => good.wu1s _, fun _ _ => good.wu1n _,
      fun _ _ => good.wm1s _, fun _ _ => good.wm1n _, fun _ _ => good.wu2 _, fun _ _ => good.wm2 _⟩
  obtain ⟨a, ha⟩ := exists_nearest (Cert.KernelIdeal.Results.args m c s d l).genres
  refine ⟨?_, ?_, ?_⟩
  · have key : ∀ (u : Fin 4096) (y : Fin 1), (Cert.ReferenceIdeal.Ops.U29 m' c Cert.ReferenceIdeal.main_v92 : Vec Ideal Cert.ReferenceIdeal.S4096x1 .f32) (ix2 u y)
        = (Cert.KernelIdeal.Results.K32 m hw c Cert.KernelIdeal.main_v121 : Vec Ideal Cert.KernelIdeal.S4096x1 .f32) (ix2 u y) := fun u y => by
      obtain rfl : y = 0 := Subsingleton.elim _ _
      refine (Cert.ReferenceIdeal.Results.user_scores m' c s d l hs' hd' u).trans ?_
      rw [eq]
      exact (Cert.KernelIdeal.Results.user_scores m c s d l hs hd hw u).symm
    exact funext fun i => by rw [← ix2_eta i]; exact key (i 0) (i 1)
  · have key : ∀ (u : Fin 16384) (y : Fin 1), (Cert.ReferenceIdeal.Ops.U29 m' c Cert.ReferenceIdeal.main_v96 : Vec Ideal Cert.ReferenceIdeal.S16384x1 .f32) (ix2 u y)
        = (Cert.KernelIdeal.Results.K32 m hw c Cert.KernelIdeal.main_v125 : Vec Ideal Cert.KernelIdeal.S16384x1 .f32) (ix2 u y) := fun u y => by
      obtain rfl : y = 0 := Subsingleton.elim _ _
      refine (Cert.ReferenceIdeal.Results.movie_scores m' c s d l hl' u).trans ?_
      rw [eq]
      exact (Cert.KernelIdeal.Results.movie_scores m c s d l hl hF hw u).symm
    exact funext fun i => by rw [← ix2_eta i]; exact key (i 0) (i 1)
  · have key : (Cert.ReferenceIdeal.Ops.U29 m' c Cert.ReferenceIdeal.main_v88 : Vec Ideal Cert.ReferenceIdeal.S_ .f32) ix0
        = (Cert.KernelIdeal.Results.K32 m hw c Cert.KernelIdeal.main_v117 : Vec Ideal Cert.KernelIdeal.S_ .f32) ix0 := by
      refine (Cert.ReferenceIdeal.Results.loss m' c s d l hs' hd' hl' a (by rw [eq]; exact ha)).trans ?_
      rw [eq]
      exact (Cert.KernelIdeal.Results.loss m c s d l hs hd hl hF hfin hw a ha).symm
    exact funext fun i => by rw [← ix0_eta i]; exact key

theorem values : Cert.algebraic_KernelIdeal_ReferenceIdeal_pre_indices_in_range_and_finite := by
  intro m g m' g' hpre hagree
  have good := fun c => Cert.Pre.good_of_pre (hpre c)
  have hw := Cert.KernelIdeal.Words.words_ok m Cert.Labels.returns_ideal fun c => (good c).labels
  have res := fun c => same m m' c (hagree c) hw (good c)
  refine ⟨fun c => Cert.KernelIdeal.Run.Vend m hw c Cert.KernelIdeal.main_v121, fun c => Cert.KernelIdeal.Run.Vend m hw c Cert.KernelIdeal.main_v125,
    fun c => Cert.KernelIdeal.Run.Vend m hw c Cert.KernelIdeal.main_v117, ?_, ?_⟩
  · refine θ_run_mono (Cert.KernelIdeal.Run.run_main m hw g) fun r hr c => ?_
    have h := hr.1 c
    exact ⟨h Cert.KernelIdeal.main_v121 rfl, h Cert.KernelIdeal.main_v125 rfl, h Cert.KernelIdeal.main_v117 rfl,
      (h Cert.KernelIdeal.main_arg0 rfl).trans (Cert.KernelIdeal.Gen.V32_main_arg0 m _ c),
      (h Cert.KernelIdeal.main_arg1 rfl).trans (Cert.KernelIdeal.Gen.V32_main_arg1 m _ c),
      (h Cert.KernelIdeal.main_arg2 rfl).trans (Cert.KernelIdeal.Gen.V32_main_arg2 m _ c),
      (h Cert.KernelIdeal.main_arg3 rfl).trans (Cert.KernelIdeal.Gen.V32_main_arg3 m _ c),
      (h Cert.KernelIdeal.main_arg4 rfl).trans (Cert.KernelIdeal.Gen.V32_main_arg4 m _ c),
      (h Cert.KernelIdeal.main_arg5 rfl).trans (Cert.KernelIdeal.Gen.V32_main_arg5 m _ c),
      (h Cert.KernelIdeal.main_arg6 rfl).trans (Cert.KernelIdeal.Gen.V32_main_arg6 m _ c),
      (h Cert.KernelIdeal.main_arg7 rfl).trans (Cert.KernelIdeal.Gen.V32_main_arg7 m _ c),
      (h Cert.KernelIdeal.main_arg8 rfl).trans (Cert.KernelIdeal.Gen.V32_main_arg8 m _ c),
      (h Cert.KernelIdeal.main_arg9 rfl).trans (Cert.KernelIdeal.Gen.V32_main_arg9 m _ c),
      (h Cert.KernelIdeal.main_arg10 rfl).trans (Cert.KernelIdeal.Gen.V32_main_arg10 m _ c),
      (h Cert.KernelIdeal.main_arg11 rfl).trans (Cert.KernelIdeal.Gen.V32_main_arg11 m _ c),
      (h Cert.KernelIdeal.main_arg12 rfl).trans (Cert.KernelIdeal.Gen.V32_main_arg12 m _ c)⟩
  · refine θ_run_mono (Cert.ReferenceIdeal.Run.run_main m' g') fun r hr c => ?_
    have h := hr c
    exact ⟨(h Cert.ReferenceIdeal.main_v92).trans (res c).1, (h Cert.ReferenceIdeal.main_v96).trans (res c).2.1,
      (h Cert.ReferenceIdeal.main_v88).trans (res c).2.2,
      (h Cert.ReferenceIdeal.main_arg0).trans (Cert.ReferenceIdeal.Run.kept m' c _ (by decide)),
      (h Cert.ReferenceIdeal.main_arg1).trans (Cert.ReferenceIdeal.Run.kept m' c _ (by decide)),
      (h Cert.ReferenceIdeal.main_arg2).trans (Cert.ReferenceIdeal.Run.kept m' c _ (by decide)),
      (h Cert.ReferenceIdeal.main_arg3).trans (Cert.ReferenceIdeal.Run.kept m' c _ (by decide)),
      (h Cert.ReferenceIdeal.main_arg4).trans (Cert.ReferenceIdeal.Run.kept m' c _ (by decide)),
      (h Cert.ReferenceIdeal.main_arg5).trans (Cert.ReferenceIdeal.Run.kept m' c _ (by decide)),
      (h Cert.ReferenceIdeal.main_arg6).trans (Cert.ReferenceIdeal.Run.kept m' c _ (by decide)),
      (h Cert.ReferenceIdeal.main_arg7).trans (Cert.ReferenceIdeal.Run.kept m' c _ (by decide)),
      (h Cert.ReferenceIdeal.main_arg8).trans (Cert.ReferenceIdeal.Run.kept m' c _ (by decide)),
      (h Cert.ReferenceIdeal.main_arg9).trans (Cert.ReferenceIdeal.Run.kept m' c _ (by decide)),
      (h Cert.ReferenceIdeal.main_arg10).trans (Cert.ReferenceIdeal.Run.kept m' c _ (by decide)),
      (h Cert.ReferenceIdeal.main_arg11).trans (Cert.ReferenceIdeal.Run.kept m' c _ (by decide)),
      (h Cert.ReferenceIdeal.main_arg12).trans (Cert.ReferenceIdeal.Run.kept m' c _ (by decide))⟩

end Cert.Algebra
-- ==== Proof.lean ====
/- The proof of the certificate's claims, assembled: the facts the programs state, the frames, the naming of the one constant, and the
   equality of the results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Pre.Facts
public import proofs.«01_k».proof.Proof.Frames
public import proofs.«01_k».proof.Proof.ReferenceIdeal.Frame
public import proofs.«01_k».proof.Proof.Algebra

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre.labels_facts, Cert.Pre.all_facts,
    Cert.Frames.kernel, Cert.Frames.ideal, Cert.Frames.ideal_finite, Cert.ReferenceIdeal.Frame.frame, Cert.ReferenceIdeal.Frame.frame',
    Cert.Frames.preserved, Cert.Algebra.values⟩

end Cert.Proof

end
